-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v144) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v21)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v21) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v21)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v21) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v105) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_qk : Cert.Pre_finite_qk.Facts) (hPre_experts_named : Cert.Pre_experts_named.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_experts_named.lean ====
abbrev S74 : Shape := ⟨1, ![74]⟩
abbrev S1 : Shape := ⟨1, ![1]⟩
abbrev S37888x1024 : Shape := ⟨2, ![37888, 1024]⟩
abbrev S2x8x1024x7168 : Shape := ⟨4, ![2, 8, 1024, 7168]⟩
abbrev S2x8x3584x1024 : Shape := ⟨4, ![2, 8, 3584, 1024]⟩
abbrev S_ : Shape := ⟨0, ![]⟩

class Facts : Prop where
  bcast_S_S74 : S_.BroadcastsInDim S74 (![] : Fin 0 → Fin S74.rank)

variable [Facts]

def fn {F : FTy → Type} [FloatOps F] (main_arg0 : IVec S74 32) (main_arg1 : IVec S1 32) (main_arg2 : FVec F S37888x1024 .bf16) (main_arg3 : FVec F S2x8x1024x7168 .bf16) (main_arg4 : FVec F S2x8x3584x1024 .bf16) : IVec S74 1 :=
  let main_c : IVec S_ 32 := constantI S_ 32 0#32
  let main_v0 : IVec S74 32 := broadcastInDim S74 ![] bcast_S_S74 main_c
  let main_v1 : IVec S74 1 := cmpi .sge main_arg0 main_v0
  let main_c_0 : IVec S_ 32 := constantI S_ 32 8#32
  let main_v2 : IVec S74 32 := broadcastInDim S74 ![] bcast_S_S74 main_c_0
  let main_v3 : IVec S74 1 := cmpi .slt main_arg0 main_v2
  let main_v4 : IVec S74 1 := andi main_v1 main_v3
  main_v4
-- ==== Pre_finite_qk.lean ====
abbrev S2x8448x1024 : Shape := ⟨3, ![2, 8448, 1024]⟩
abbrev S2x8448x4x64 : Shape := ⟨4, ![2, 8448, 4, 64]⟩
abbrev S_ : Shape := ⟨0, ![]⟩

class Facts : Prop where
  bcast_S_S2x8448x1024 : S_.BroadcastsInDim S2x8448x1024 (![] : Fin 0 → Fin S2x8448x1024.rank)
  reducesTo_S2x8448x1024_S_d0_1_2 : S2x8448x1024.ReducesTo [0, 1, 2] S_
  h_S_ : 0 < S_.numel
  bcast_S_S2x8448x4x64 : S_.BroadcastsInDim S2x8448x4x64 (![] : Fin 0 → Fin S2x8448x4x64.rank)
  reducesTo_S2x8448x4x64_S_d0_1_2_3 : S2x8448x4x64.ReducesTo [0, 1, 2, 3] S_

variable [Facts]

def fn {F : FTy → Type} [FloatOps F] (main_arg0 : FVec F S2x8448x1024 .f32) (main_arg1 : FVec F S2x8448x4x64 .f32) (main_arg2 : FVec F S2x8448x4x64 .f32) : IVec S_ 1 :=
  let main_v0 : FVec F S2x8448x1024 .f32 := Host.absf main_arg0
  let main_cst : FVec F S_ .f32 := constant S_ .f32 0x7F800000#32
  let main_v1 : FVec F S2x8448x1024 .f32 := broadcastInDim S2x8448x1024 ![] bcast_S_S2x8448x1024 main_cst
  let main_v2 : IVec S2x8448x1024 1 := cmpf .olt main_v0 main_v1
  let main_c : IVec S_ 1 := constantI S_ 1 1#1
  let main_v3 : IVec S_ 1 := (fun x v => Host.reduce IntOp.andi x v reducesTo_S2x8448x1024_S_d0_1_2 h_S_) main_v2 main_c
  let main_v4 : FVec F S2x8448x4x64 .f32 := Host.absf main_arg1
  let main_cst_0 : FVec F S_ .f32 := constant S_ .f32 0x7F800000#32
  let main_v5 : FVec F S2x8448x4x64 .f32 := broadcastInDim S2x8448x4x64 ![] bcast_S_S2x8448x4x64 main_cst_0
  let main_v6 : IVec S2x8448x4x64 1 := cmpf .olt main_v4 main_v5
  let main_c_1 : IVec S_ 1 := constantI S_ 1 1#1
  let main_v7 : IVec S_ 1 := (fun x v => Host.reduce IntOp.andi x v reducesTo_S2x8448x4x64_S_d0_1_2_3 h_S_) main_v6 main_c_1
  let main_v8 : IVec S_ 1 := andi main_v3 main_v7
  main_v8
-- ==== Kernel.lean ====
abbrev S2x8448x1024 : Shape := ⟨3, ![2, 8448, 1024]⟩
abbrev S2x8448x4x64 : Shape := ⟨4, ![2, 8448, 4, 64]⟩
abbrev S_ : Shape := ⟨0, ![]⟩
abbrev S2x4x8448x64 : Shape := ⟨4, ![2, 4, 8448, 64]⟩
abbrev S2x4x8448x128 : Shape := ⟨4, ![2, 4, 8448, 128]⟩
abbrev S2x8192x1024 : Shape := ⟨3, ![2, 8192, 1024]⟩
abbrev S1x256x128 : Shape := ⟨3, ![1, 256, 128]⟩
abbrev S1x1x8448x128 : Shape := ⟨4, ![1, 1, 8448, 128]⟩
abbrev S512x2816 : Shape := ⟨2, ![512, 2816]⟩
abbrev S256x128 : Shape := ⟨2, ![256, 128]⟩
abbrev S512x128 : Shape := ⟨2, ![512, 128]⟩
abbrev S512x1 : Shape := ⟨2, ![512, 1]⟩
abbrev S1x1x2816x128 : Shape := ⟨4, ![1, 1, 2816, 128]⟩
abbrev S2816x128 : Shape := ⟨2, ![2816, 128]⟩
abbrev S512 : Shape := ⟨1, ![512]⟩

abbrev nBuf : Space → Nat
  | .hbm => 20
  | .vmem => 10
  | .smem => 0
  | _ => 0

abbrev bufTy : (tb : Table) → Fin (tcTables nBuf tb) → BufTy
  | .hbm, ⟨0, _⟩ => ⟨S2x8448x1024, .f32⟩
  | .hbm, ⟨1, _⟩ => ⟨S2x8448x4x64, .f32⟩
  | .hbm, ⟨2, _⟩ => ⟨S2x8448x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8448x1024, .f32⟩
  | .hbm, ⟨9, _⟩ => ⟨S2x8448x1024, .f32⟩
  | .hbm, ⟨10, _⟩ => ⟨S2x8448x1024, .bf16⟩
  | .hbm, ⟨11, _⟩ => ⟨S2x4x8448x64, .f32⟩
  | .hbm, ⟨12, _⟩ => ⟨S2x4x8448x64, .f32⟩
  | .hbm, ⟨13, _⟩ => ⟨S2x4x8448x128, .f32⟩
  | .hbm, ⟨14, _⟩ => ⟨S2x4x8448x128, .bf16⟩
  | .hbm, ⟨15, _⟩ => ⟨S_, .f32⟩
  | .hbm, ⟨16, _⟩ => ⟨S2x4x8448x64, .f32⟩
  | .hbm, ⟨17, _⟩ => ⟨S2x4x8448x128, .f32⟩
  | .hbm, ⟨18, _⟩ => ⟨S2x4x8448x128, .bf16⟩
  | .hbm, ⟨19, _⟩ => ⟨S2x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x1x8448x128, .bf16⟩
  | .local _ .vmem, ⟨3, _⟩ => ⟨S1x1x8448x128, .bf16⟩
  | .local _ .vmem, ⟨4, _⟩ => ⟨S1x1x8448x128, .bf16⟩
  | .local _ .vmem, ⟨5, _⟩ => ⟨S1x1x8448x128, .bf16⟩
  | .local _ .vmem, ⟨6, _⟩ => ⟨S1x256x128, .bf16⟩
  | .local _ .vmem, ⟨7, _⟩ => ⟨S1x256x128, .bf16⟩
  | .local _ .vmem, ⟨8, _⟩ => ⟨S512x2816, .f32⟩
  | .local _ .vmem, ⟨9, _⟩ => ⟨S512x2816, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def k0_mult1 : BitVec 32 :=
  let c0_i32 : BitVec 32 := 0#32
  c0_i32
def k0_mult2 : BitVec 32 :=
  let c2_i32 : BitVec 32 := 2#32
  let c0_i32_10 : BitVec 32 := 0#32
  let v19 : BitVec 32 := Scalar.muli c2_i32 c0_i32_10
  let c1_i32 : BitVec 32 := 1#32
  let v20 : BitVec 32 := Scalar.addi v19 c1_i32
  let c2816_i32 : BitVec 32 := 2816#32
  let v21 : BitVec 32 := Scalar.muli v20 c2816_i32
  v21
def k0_off1 (c1_i32 : BitVec 32) : Fin 4 → Nat :=
  let c0_11 : Index := 0#32
  let c0_12 : Index := 0#32
  let c2_i32 : BitVec 32 := 2#32
  let c0_i32_10 : BitVec 32 := 0#32
  let v19 : BitVec 32 := Scalar.muli c2_i32 c0_i32_10
  let v20 : BitVec 32 := Scalar.addi v19 c1_i32
  let c2816_i32 : BitVec 32 := 2816#32
  let v21 : BitVec 32 := Scalar.muli v20 c2816_i32
  let v22 : BitVec 32 := v21
  let v23 : Index := Scalar.indexCast v22
  let c0_13 : Index := 0#32
  ![0, 0, v23.toNat, 0]
def k0_mult3 : BitVec 32 :=
  let c2_i32 : BitVec 32 := 2#32
  let c0_i32_10 : BitVec 32 := 0#32
  let v19 : BitVec 32 := Scalar.muli c2_i32 c0_i32_10
  let c2816_i32_17 : BitVec 32 := 2816#32
  let v30 : BitVec 32 := Scalar.muli v19 c2816_i32_17
  v30
def k0_off2 : Fin 4 → Nat :=
  let c0_21 : Index := 0#32
  let c0_22 : Index := 0#32
  let c2_i32 : BitVec 32 := 2#32
  let c0_i32_10 : BitVec 32 := 0#32
  let v19 : BitVec 32 := Scalar.muli c2_i32 c0_i32_10
  let c2816_i32_17 : BitVec 32 := 2816#32
  let v30 : BitVec 32 := Scalar.muli v19 c2816_i32_17
  let v31 : BitVec 32 := v30
  let v43 : Index := Scalar.indexCast v31
  let c0_23 : Index := 0#32
  ![0, 0, v43.toNat, 0]
def k0_mult4 : BitVec 32 :=
  let c2_i32 : BitVec 32 := 2#32
  let c0_i32_10 : BitVec 32 := 0#32
  let v19 : BitVec 32 := Scalar.muli c2_i32 c0_i32_10
  let c2_i32_25 : BitVec 32 := 2#32
  let v49 : BitVec 32 := Scalar.addi v19 c2_i32_25
  let c2816_i32_26 : BitVec 32 := 2816#32
  let v50 : BitVec 32 := Scalar.muli v49 c2816_i32_26
  v50
def k0_mult5 : BitVec 32 :=
  let c2_i32 : BitVec 32 := 2#32
  let c0_i32_10 : BitVec 32 := 0#32
  let v19 : BitVec 32 := Scalar.muli c2_i32 c0_i32_10
  let c1_i32_33 : BitVec 32 := 1#32
  let v59 : BitVec 32 := Scalar.addi v19 c1_i32_33
  let c2816_i32_34 : BitVec 32 := 2816#32
  let v60 : BitVec 32 := Scalar.muli v59 c2816_i32_34
  v60
def k0_mult6 : BitVec 32 :=
  let c5632_i32 : BitVec 32 := 5632#32
  c5632_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8448x1024 : Shape := ⟨3, ![2, 8448, 1024]⟩
abbrev S2x8448x4x64 : Shape := ⟨4, ![2, 8448, 4, 64]⟩
abbrev S2x8448x4x4x64 : Shape := ⟨5, ![2, 8448, 4, 4, 64]⟩
abbrev S_ : Shape := ⟨0, ![]⟩
abbrev S2x8192x4x4x64 : Shape := ⟨5, ![2, 8192, 4, 4, 64]⟩
abbrev S2x4x8448x8192x4 : Shape := ⟨5, ![2, 4, 8448, 8192, 4]⟩
abbrev S2x4x4x8192x8448 : Shape := ⟨5, ![2, 4, 4, 8192, 8448]⟩
abbrev S2x4x4x8192 : Shape := ⟨4, ![2, 4, 4, 8192]⟩
abbrev S2x4x4x8192x1 : Shape := ⟨5, ![2, 4, 4, 8192, 1]⟩
abbrev S2x4x64x4x8192 : Shape := ⟨5, ![2, 4, 64, 4, 8192]⟩
abbrev S2x8192x1024 : Shape := ⟨3, ![2, 8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x4x64, .f32⟩
  | .hbm, ⟨2, _⟩ => ⟨S2x8448x4x64, .f32⟩
  | .hbm, ⟨3, _⟩ => ⟨S2x8448x4x4x64, .f32⟩
  | .hbm, ⟨4, _⟩ => ⟨S_, .f32⟩
  | .hbm, ⟨5, _⟩ => ⟨S2x8448x4x4x64, .f32⟩
  | .hbm, ⟨6, _⟩ => ⟨S2x8448x4x4x64, .f32⟩
  | .hbm, ⟨7, _⟩ => ⟨S2x8192x4x4x64, .f32⟩
  | .hbm, ⟨8, _⟩ => ⟨S2x4x8448x8192x4, .f32⟩
  | .hbm, ⟨9, _⟩ => ⟨S2x4x4x8192x8448, .f32⟩
  | .hbm, ⟨10, _⟩ => ⟨S_, .f32⟩
  | .hbm, ⟨11, _⟩ => ⟨S2x4x4x8192, .f32⟩
  | .hbm, ⟨12, _⟩ => ⟨S_, .f32⟩
  | .hbm, ⟨13, _⟩ => ⟨S2x4x4x8192, .f32⟩
  | .hbm, ⟨14, _⟩ => ⟨S2x4x4x8192, .f32⟩
  | .hbm, ⟨15, _⟩ => ⟨S2x4x4x8192x1, .f32⟩
  | .hbm, ⟨16, _⟩ => ⟨S2x4x4x8192x8448, .f32⟩
  | .hbm, ⟨17, _⟩ => ⟨S2x4x4x8192x8448, .f32⟩
  | .hbm, ⟨18, _⟩ => ⟨S2x4x4x8192x8448, .f32⟩
  | .hbm, ⟨19, _⟩ => ⟨S_, .f32⟩
  | .hbm, ⟨20, _⟩ => ⟨S2x4x4x8192, .f32⟩
  | .hbm, ⟨21, _⟩ => ⟨S2x4x4x8192x1, .f32⟩
  | .hbm, ⟨22, _⟩ => ⟨S2x4x4x8192x8448, .f32⟩
  | .hbm, ⟨23, _⟩ => ⟨S2x4x4x8192x8448, .f32⟩
  | .hbm, ⟨24, _⟩ => ⟨S2x4x64x4x8192, .f32⟩
  | .hbm, ⟨25, _⟩ => ⟨S2x8192x4x4x64, .f32⟩
  | .hbm, ⟨26, _⟩ => ⟨S2x8192x1024, .f32⟩
  | .hbm, ⟨27, _⟩ => ⟨S2x8192x1024, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel2.lean ====
abbrev S74 : Shape := ⟨1, ![74]⟩
abbrev S1 : Shape := ⟨1, ![1]⟩
abbrev S37888x1024 : Shape := ⟨2, ![37888, 1024]⟩
abbrev S2x8x1024x7168 : Shape := ⟨4, ![2, 8, 1024, 7168]⟩
abbrev S2x8x3584x1024 : Shape := ⟨4, ![2, 8, 3584, 1024]⟩
abbrev S512x1024 : Shape := ⟨2, ![512, 1024]⟩
abbrev S1x1x1024x896 : Shape := ⟨4, ![1, 1, 1024, 896]⟩
abbrev S1x1x896x1024 : Shape := ⟨4, ![1, 1, 896, 1024]⟩
abbrev S1024x896 : Shape := ⟨2, ![1024, 896]⟩
abbrev S512x896 : Shape := ⟨2, ![512, 896]⟩
abbrev S896x1024 : Shape := ⟨2, ![896, 1024]⟩

abbrev nBuf : Space → Nat
  | .hbm => 4
  | .vmem => 11
  | .smem => 2
  | _ => 0

abbrev bufTy : (tb : Table) → Fin (tcTables nBuf tb) → BufTy
  | .hbm, ⟨0, _⟩ => ⟨S37888x1024, .bf16⟩
  | .hbm, ⟨1, _⟩ => ⟨S2x8x1024x7168, .bf16⟩
  | .hbm, ⟨2, _⟩ => ⟨S2x8x3584x1024, .bf16⟩
  | .hbm, ⟨3, _⟩ => ⟨S37888x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x896, .bf16⟩
  | .local _ .vmem, ⟨3, _⟩ => ⟨S1x1x1024x896, .bf16⟩
  | .local _ .vmem, ⟨4, _⟩ => ⟨S1x1x1024x896, .bf16⟩
  | .local _ .vmem, ⟨5, _⟩ => ⟨S1x1x1024x896, .bf16⟩
  | .local _ .vmem, ⟨6, _⟩ => ⟨S1x1x896x1024, .bf16⟩
  | .local _ .vmem, ⟨7, _⟩ => ⟨S1x1x896x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S74, .i32⟩
  | .local _ .smem, ⟨1, _⟩ => ⟨S1, .i32⟩
  | _, _ => ⟨S37888x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![74, 4], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c3_i32 : BitVec 32 := 3#32
  let v7 : BitVec 1 := Scalar.cmpi .eq arg1 c3_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S74.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S74.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c4_i32 : BitVec 32 := 4#32
  let v5 : BitVec 32 := Scalar.addi v4 c4_i32
  let c0_i32 : BitVec 32 := 0#32
  let c0_i32_0 : BitVec 32 := 0#32
  let c0_i32_1 : BitVec 32 := 0#32
  ![c0_i32.toNat, v1.toNat, c0_i32_0.toNat, v5.toNat]

def cc0_transform_3 (k0_off1_inb : ∀ i : grid0.Coords, ∀ a, (k0_off1 i) a + S1.size a ≤ S74.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S74) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x896x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S74 : Shape := ⟨1, ![74]⟩
abbrev S1 : Shape := ⟨1, ![1]⟩
abbrev S37888x1024 : Shape := ⟨2, ![37888, 1024]⟩
abbrev S2x8x1024x7168 : Shape := ⟨4, ![2, 8, 1024, 7168]⟩
abbrev S2x8x3584x1024 : Shape := ⟨4, ![2, 8, 3584, 1024]⟩
abbrev S37888 : Shape := ⟨1, ![37888]⟩
abbrev S_ : Shape := ⟨0, ![]⟩
abbrev S37888x1 : Shape := ⟨2, ![37888, 1]⟩
abbrev S1x8 : Shape := ⟨2, ![1, 8]⟩
abbrev S37888x8 : Shape := ⟨2, ![37888, 8]⟩
abbrev S1x1x1024x7168 : Shape := ⟨4, ![1, 1, 1024, 7168]⟩
abbrev S1024x7168 : Shape := ⟨2, ![1024, 7168]⟩
abbrev S37888x7168 : Shape := ⟨2, ![37888, 7168]⟩
abbrev S37888x3584 : Shape := ⟨2, ![37888, 3584]⟩
abbrev S1x1x3584x1024 : Shape := ⟨4, ![1, 1, 3584, 1024]⟩
abbrev S3584x1024 : Shape := ⟨2, ![3584, 1024]⟩

abbrev nBuf : Space → Nat
  | .hbm => 242
  | .vmem => 0
  | .smem => 0
  | _ => 0

abbrev hbmTy0_0 (i : Nat) : BufTy := match i % 128 with
  | 0 => ⟨S74, .i32⟩
  | 1 => ⟨S1, .i32⟩
  | 2 => ⟨S37888x1024, .bf16⟩
  | 3 => ⟨S2x8x1024x7168, .bf16⟩
  | 4 => ⟨S2x8x3584x1024, .bf16⟩
  | 5 => ⟨S37888x1024, .f32⟩
  | 6 => ⟨S37888, .i32⟩
  | 7 => ⟨S_, .i32⟩
  | 8 => ⟨S_, .i32⟩
  | 9 => ⟨S37888, .i32⟩
  | 10 => ⟨S37888, .i32⟩
  | 11 => ⟨S37888, .i32⟩
  | 12 => ⟨S_, .i32⟩
  | 13 => ⟨S37888, .i32⟩
  | 14 => ⟨S37888, .i1⟩
  | 15 => ⟨S37888, .i32⟩
  | 16 => ⟨S37888, .i32⟩
  | 17 => ⟨S_, .i32⟩
  | 18 => ⟨S37888, .i32⟩
  | 19 => ⟨S37888, .i1⟩
  | 20 => ⟨S37888, .i1⟩
  | 21 => ⟨S_, .i32⟩
  | 22 => ⟨S37888, .i32⟩
  | 23 => ⟨S37888, .i32⟩
  | 24 => ⟨S37888, .i32⟩
  | 25 => ⟨S_, .i32⟩
  | 26 => ⟨S37888, .i32⟩
  | 27 => ⟨S37888, .i1⟩
  | 28 => ⟨S_, .i32⟩
  | 29 => ⟨S37888, .i32⟩
  | 30 => ⟨S37888, .i1⟩
  | 31 => ⟨S_, .i32⟩
  | 32 => ⟨S37888, .i32⟩
  | 33 => ⟨S37888, .i32⟩
  | 34 => ⟨S37888, .i32⟩
  | 35 => ⟨S37888x1, .i32⟩
  | 36 => ⟨S37888, .i32⟩
  | 37 => ⟨S_, .i32⟩
  | 38 => ⟨S_, .i32⟩
  | 39 => ⟨S37888, .i32⟩
  | 40 => ⟨S37888, .i32⟩
  | 41 => ⟨S37888x1, .i32⟩
  | 42 => ⟨S1x8, .i32⟩
  | 43 => ⟨S37888x8, .i32⟩
  | 44 => ⟨S37888x8, .i32⟩
  | 45 => ⟨S37888x8, .i1⟩
  | 46 => ⟨S37888x8, .f32⟩
  | 47 => ⟨S_, .f32⟩
  | 48 => ⟨S37888x1024, .f32⟩
  | 49 => ⟨S1x1x1024x7168, .bf16⟩
  | 50 => ⟨S1024x7168, .bf16⟩
  | 51 => ⟨S1024x7168, .f32⟩
  | 52 => ⟨S37888x7168, .f32⟩
  | 53 => ⟨S37888x3584, .f32⟩
  | 54 => ⟨S37888x3584, .f32⟩
  | 55 => ⟨S37888x3584, .f32⟩
  | 56 => ⟨S_, .f32⟩
  | 57 => ⟨S37888x3584, .f32⟩
  | 58 => ⟨S37888x3584, .f32⟩
  | 59 => ⟨S_, .f32⟩
  | 60 => ⟨S37888x3584, .f32⟩
  | 61 => ⟨S37888x3584, .f32⟩
  | 62 => ⟨S37888x3584, .f32⟩
  | 63 => ⟨S37888x3584, .f32⟩
  | 64 => ⟨S37888x3584, .f32⟩
  | 65 => ⟨S37888x1, .f32⟩
  | 66 => ⟨S1x1x3584x1024, .bf16⟩
  | 67 => ⟨S3584x1024, .bf16⟩
  | 68 => ⟨S3584x1024, .f32⟩
  | 69 => ⟨S37888x1024, .f32⟩
  | 70 => ⟨S37888x1024, .f32⟩
  | 71 => ⟨S37888x1024, .f32⟩
  | 72 => ⟨S37888x1024, .f32⟩
  | 73 => ⟨S1x1x1024x7168, .bf16⟩
  | 74 => ⟨S1024x7168, .bf16⟩
  | 75 => ⟨S1024x7168, .f32⟩
  | 76 => ⟨S37888x7168, .f32⟩
  | 77 => ⟨S37888x3584, .f32⟩
  | 78 => ⟨S37888x3584, .f32⟩
  | 79 => ⟨S37888x3584, .f32⟩
  | 80 => ⟨S_, .f32⟩
  | 81 => ⟨S37888x3584, .f32⟩
  | 82 => ⟨S37888x3584, .f32⟩
  | 83 => ⟨S_, .f32⟩
  | 84 => ⟨S37888x3584, .f32⟩
  | 85 => ⟨S37888x3584, .f32⟩
  | 86 => ⟨S37888x3584, .f32⟩
  | 87 => ⟨S37888x3584, .f32⟩
  | 88 => ⟨S37888x3584, .f32⟩
  | 89 => ⟨S37888x1, .f32⟩
  | 90 => ⟨S1x1x3584x1024, .bf16⟩
  | 91 => ⟨S3584x1024, .bf16⟩
  | 92 => ⟨S3584x1024, .f32⟩
  | 93 => ⟨S37888x1024, .f32⟩
  | 94 => ⟨S37888x1024, .f32⟩
  | 95 => ⟨S37888x1024, .f32⟩
  | 96 => ⟨S37888x1024, .f32⟩
  | 97 => ⟨S1x1x1024x7168, .bf16⟩
  | 98 => ⟨S1024x7168, .bf16⟩
  | 99 => ⟨S1024x7168, .f32⟩
  | 100 => ⟨S37888x7168, .f32⟩
  | 101 => ⟨S37888x3584, .f32⟩
  | 102 => ⟨S37888x3584, .f32⟩
  | 103 => ⟨S37888x3584, .f32⟩
  | 104 => ⟨S_, .f32⟩
  | 105 => ⟨S37888x3584, .f32⟩
  | 106 => ⟨S37888x3584, .f32⟩
  | 107 => ⟨S_, .f32⟩
  | 108 => ⟨S37888x3584, .f32⟩
  | 109 => ⟨S37888x3584, .f32⟩
  | 110 => ⟨S37888x3584, .f32⟩
  | 111 => ⟨S37888x3584, .f32⟩
  | 112 => ⟨S37888x3584, .f32⟩
  | 113 => ⟨S37888x1, .f32⟩
  | 114 => ⟨S1x1x3584x1024, .bf16⟩
  | 115 => ⟨S3584x1024, .bf16⟩
  | 116 => ⟨S3584x1024, .f32⟩
  | 117 => ⟨S37888x1024, .f32⟩
  | 118 => ⟨S37888x1024, .f32⟩
  | 119 => ⟨S37888x1024, .f32⟩
  | 120 => ⟨S37888x1024, .f32⟩
  | 121 => ⟨S1x1x1024x7168, .bf16⟩
  | 122 => ⟨S1024x7168, .bf16⟩
  | 123 => ⟨S1024x7168, .f32⟩
  | 124 => ⟨S37888x7168, .f32⟩
  | 125 => ⟨S37888x3584, .f32⟩
  | 126 => ⟨S37888x3584, .f32⟩
  | 127 => ⟨S37888x3584, .f32⟩
  | _ => ⟨S74, .i32⟩

abbrev hbmTy0_1 (i : Nat) : BufTy := match i % 128 with
  | 0 => ⟨S_, .f32⟩
  | 1 => ⟨S37888x3584, .f32⟩
  | 2 => ⟨S37888x3584, .f32⟩
  | 3 => ⟨S_, .f32⟩
  | 4 => ⟨S37888x3584, .f32⟩
  | 5 => ⟨S37888x3584, .f32⟩
  | 6 => ⟨S37888x3584, .f32⟩
  | 7 => ⟨S37888x3584, .f32⟩
  | 8 => ⟨S37888x3584, .f32⟩
  | 9 => ⟨S37888x1, .f32⟩
  | 10 => ⟨S1x1x3584x1024, .bf16⟩
  | 11 => ⟨S3584x1024, .bf16⟩
  | 12 => ⟨S3584x1024, .f32⟩
  | 13 => ⟨S37888x1024, .f32⟩
  | 14 => ⟨S37888x1024, .f32⟩
  | 15 => ⟨S37888x1024, .f32⟩
  | 16 => ⟨S37888x1024, .f32⟩
  | 17 => ⟨S1x1x1024x7168, .bf16⟩
  | 18 => ⟨S1024x7168, .bf16⟩
  | 19 => ⟨S1024x7168, .f32⟩
  | 20 => ⟨S37888x7168, .f32⟩
  | 21 => ⟨S37888x3584, .f32⟩
  | 22 => ⟨S37888x3584, .f32⟩
  | 23 => ⟨S37888x3584, .f32⟩
  | 24 => ⟨S_, .f32⟩
  | 25 => ⟨S37888x3584, .f32⟩
  | 26 => ⟨S37888x3584, .f32⟩
  | 27 => ⟨S_, .f32⟩
  | 28 => ⟨S37888x3584, .f32⟩
  | 29 => ⟨S37888x3584, .f32⟩
  | 30 => ⟨S37888x3584, .f32⟩
  | 31 => ⟨S37888x3584, .f32⟩
  | 32 => ⟨S37888x3584, .f32⟩
  | 33 => ⟨S37888x1, .f32⟩
  | 34 => ⟨S1x1x3584x1024, .bf16⟩
  | 35 => ⟨S3584x1024, .bf16⟩
  | 36 => ⟨S3584x1024, .f32⟩
  | 37 => ⟨S37888x1024, .f32⟩
  | 38 => ⟨S37888x1024, .f32⟩
  | 39 => ⟨S37888x1024, .f32⟩
  | 40 => ⟨S37888x1024, .f32⟩
  | 41 => ⟨S1x1x1024x7168, .bf16⟩
  | 42 => ⟨S1024x7168, .bf16⟩
  | 43 => ⟨S1024x7168, .f32⟩
  | 44 => ⟨S37888x7168, .f32⟩
  | 45 => ⟨S37888x3584, .f32⟩
  | 46 => ⟨S37888x3584, .f32⟩
  | 47 => ⟨S37888x3584, .f32⟩
  | 48 => ⟨S_, .f32⟩
  | 49 => ⟨S37888x3584, .f32⟩
  | 50 => ⟨S37888x3584, .f32⟩
  | 51 => ⟨S_, .f32⟩
  | 52 => ⟨S37888x3584, .f32⟩
  | 53 => ⟨S37888x3584, .f32⟩
  | 54 => ⟨S37888x3584, .f32⟩
  | 55 => ⟨S37888x3584, .f32⟩
  | 56 => ⟨S37888x3584, .f32⟩
  | 57 => ⟨S37888x1, .f32⟩
  | 58 => ⟨S1x1x3584x1024, .bf16⟩
  | 59 => ⟨S3584x1024, .bf16⟩
  | 60 => ⟨S3584x1024, .f32⟩
  | 61 => ⟨S37888x1024, .f32⟩
  | 62 => ⟨S37888x1024, .f32⟩
  | 63 => ⟨S37888x1024, .f32⟩
  | 64 => ⟨S37888x1024, .f32⟩
  | 65 => ⟨S1x1x1024x7168, .bf16⟩
  | 66 => ⟨S1024x7168, .bf16⟩
  | 67 => ⟨S1024x7168, .f32⟩
  | 68 => ⟨S37888x7168, .f32⟩
  | 69 => ⟨S37888x3584, .f32⟩
  | 70 => ⟨S37888x3584, .f32⟩
  | 71 => ⟨S37888x3584, .f32⟩
  | 72 => ⟨S_, .f32⟩
  | 73 => ⟨S37888x3584, .f32⟩
  | 74 => ⟨S37888x3584, .f32⟩
  | 75 => ⟨S_, .f32⟩
  | 76 => ⟨S37888x3584, .f32⟩
  | 77 => ⟨S37888x3584, .f32⟩
  | 78 => ⟨S37888x3584, .f32⟩
  | 79 => ⟨S37888x3584, .f32⟩
  | 80 => ⟨S37888x3584, .f32⟩
  | 81 => ⟨S37888x1, .f32⟩
  | 82 => ⟨S1x1x3584x1024, .bf16⟩
  | 83 => ⟨S3584x1024, .bf16⟩
  | 84 => ⟨S3584x1024, .f32⟩
  | 85 => ⟨S37888x1024, .f32⟩
  | 86 => ⟨S37888x1024, .f32⟩
  | 87 => ⟨S37888x1024, .f32⟩
  | 88 => ⟨S37888x1024, .f32⟩
  | 89 => ⟨S1x1x1024x7168, .bf16⟩
  | 90 => ⟨S1024x7168, .bf16⟩
  | 91 => ⟨S1024x7168, .f32⟩
  | 92 => ⟨S37888x7168, .f32⟩
  | 93 => ⟨S37888x3584, .f32⟩
  | 94 => ⟨S37888x3584, .f32⟩
  | 95 => ⟨S37888x3584, .f32⟩
  | 96 => ⟨S_, .f32⟩
  | 97 => ⟨S37888x3584, .f32⟩
  | 98 => ⟨S37888x3584, .f32⟩
  | 99 => ⟨S_, .f32⟩
  | 100 => ⟨S37888x3584, .f32⟩
  | 101 => ⟨S37888x3584, .f32⟩
  | 102 => ⟨S37888x3584, .f32⟩
  | 103 => ⟨S37888x3584, .f32⟩
  | 104 => ⟨S37888x3584, .f32⟩
  | 105 => ⟨S37888x1, .f32⟩
  | 106 => ⟨S1x1x3584x1024, .bf16⟩
  | 107 => ⟨S3584x1024, .bf16⟩
  | 108 => ⟨S3584x1024, .f32⟩
  | 109 => ⟨S37888x1024, .f32⟩
  | 110 => ⟨S37888x1024, .f32⟩
  | 111 => ⟨S37888x1024, .f32⟩
  | 112 => ⟨S37888x1024, .f32⟩
  | 113 => ⟨S37888x1024, .bf16⟩
  | _ => ⟨S74, .i32⟩

abbrev hbmTy (i : Nat) : BufTy := match i / 128 with
  | 0 => hbmTy0_0 i
  | 1 => hbmTy0_1 i
  | _ => ⟨S74, .i32⟩

abbrev bufTy : (tb : Table) → Fin (tcTables nBuf tb) → BufTy
  | .hbm, ⟨i, _⟩ => hbmTy i
  | _, _ => ⟨S74, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v13 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v14 : Ref sig .tc := ⟨.hbm, 46, rfl⟩
abbrev main_cst : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_call5_v0 : Ref sig .tc := ⟨.hbm, 102, rfl⟩
abbrev main_call5_v1 : Ref sig .tc := ⟨.hbm, 103, rfl⟩
abbrev main_call5_cst : Ref sig .tc := ⟨.hbm, 104, rfl⟩
abbrev main_call5_v2 : Ref sig .tc := ⟨.hbm, 105, rfl⟩
abbrev main_call5_v3 : Ref sig .tc := ⟨.hbm, 106, rfl⟩
abbrev main_call5_cst_0 : Ref sig .tc := ⟨.hbm, 107, rfl⟩
abbrev main_call5_v4 : Ref sig .tc := ⟨.hbm, 108, rfl⟩
abbrev main_call5_v5 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_call7_v0 : Ref sig .tc := ⟨.hbm, 150, rfl⟩
abbrev main_call7_v1 : Ref sig .tc := ⟨.hbm, 151, rfl⟩
abbrev main_call7_cst : Ref sig .tc := ⟨.hbm, 152, rfl⟩
abbrev main_call7_v2 : Ref sig .tc := ⟨.hbm, 153, rfl⟩
abbrev main_call7_v3 : Ref sig .tc := ⟨.hbm, 154, rfl⟩
abbrev main_call7_cst_0 : Ref sig .tc := ⟨.hbm, 155, rfl⟩
abbrev main_call7_v4 : Ref sig .tc := ⟨.hbm, 156, rfl⟩
abbrev main_call7_v5 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_call8_v0 : Ref sig .tc := ⟨.hbm, 174, rfl⟩
abbrev main_call8_v1 : Ref sig .tc := ⟨.hbm, 175, rfl⟩
abbrev main_call8_cst : Ref sig .tc := ⟨.hbm, 176, rfl⟩
abbrev main_call8_v2 : Ref sig .tc := ⟨.hbm, 177, rfl⟩
abbrev main_call8_v3 : Ref sig .tc := ⟨.hbm, 178, rfl⟩
abbrev main_call8_cst_0 : Ref sig .tc := ⟨.hbm, 179, rfl⟩
abbrev main_call8_v4 : Ref sig .tc := ⟨.hbm, 180, rfl⟩
abbrev main_call8_v5 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_call9_v0 : Ref sig .tc := ⟨.hbm, 198, rfl⟩
abbrev main_call9_v1 : Ref sig .tc := ⟨.hbm, 199, rfl⟩
abbrev main_call9_cst : Ref sig .tc := ⟨.hbm, 200, rfl⟩
abbrev main_call9_v2 : Ref sig .tc := ⟨.hbm, 201, rfl⟩
abbrev main_call9_v3 : Ref sig .tc := ⟨.hbm, 202, rfl⟩
abbrev main_call9_cst_0 : Ref sig .tc := ⟨.hbm, 203, rfl⟩
abbrev main_call9_v4 : Ref sig .tc := ⟨.hbm, 204, rfl⟩
abbrev main_call9_v5 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_call10_v0 : Ref sig .tc := ⟨.hbm, 222, rfl⟩
abbrev main_call10_v1 : Ref sig .tc := ⟨.hbm, 223, rfl⟩
abbrev main_call10_cst : Ref sig .tc := ⟨.hbm, 224, rfl⟩
abbrev main_call10_v2 : Ref sig .tc := ⟨.hbm, 225, rfl⟩
abbrev main_call10_v3 : Ref sig .tc := ⟨.hbm, 226, rfl⟩
abbrev main_call10_cst_0 : Ref sig .tc := ⟨.hbm, 227, rfl⟩
abbrev main_call10_v4 : Ref sig .tc := ⟨.hbm, 228, rfl⟩
abbrev main_call10_v5 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩

abbrev nD : Nat := 1
abbrev τ : Topo := Topo.v7x

variable {F : FTy → Type} [FloatOps F]
-- ==== Kernel3.lean ====
abbrev S16896x1024 : Shape := ⟨2, ![16896, 1024]⟩
abbrev S1024x5632 : Shape := ⟨2, ![1024, 5632]⟩
abbrev S2816x1024 : Shape := ⟨2, ![2816, 1024]⟩
abbrev S16896x2816 : Shape := ⟨2, ![16896, 2816]⟩
abbrev S768x1024 : Shape := ⟨2, ![768, 1024]⟩
abbrev S1024x1408 : Shape := ⟨2, ![1024, 1408]⟩
abbrev S768x1408 : Shape := ⟨2, ![768, 1408]⟩
abbrev S768x2816 : Shape := ⟨2, ![768, 2816]⟩

abbrev nBuf : Space → Nat
  | .hbm => 5
  | .vmem => 13
  | .smem => 0
  | _ => 0

abbrev bufTy : (tb : Table) → Fin (tcTables nBuf tb) → BufTy
  | .hbm, ⟨0, _⟩ => ⟨S16896x1024, .bf16⟩
  | .hbm, ⟨1, _⟩ => ⟨S1024x5632, .bf16⟩
  | .hbm, ⟨2, _⟩ => ⟨S2816x1024, .bf16⟩
  | .hbm, ⟨3, _⟩ => ⟨S16896x2816, .bf16⟩
  | .hbm, ⟨4, _⟩ => ⟨S16896x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S768x1408, .bf16⟩
  | .local _ .vmem, ⟨7, _⟩ => ⟨S768x1408, .bf16⟩
  | .local _ .vmem, ⟨8, _⟩ => ⟨S768x2816, .bf16⟩
  | .local _ .vmem, ⟨9, _⟩ => ⟨S768x2816, .bf16⟩
  | .local _ .vmem, ⟨10, _⟩ => ⟨S2816x1024, .bf16⟩
  | .local _ .vmem, ⟨11, _⟩ => ⟨S768x1024, .f32⟩
  | .local _ .vmem, ⟨12, _⟩ => ⟨S768x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference3Ideal.lean ====
abbrev S16896x1024 : Shape := ⟨2, ![16896, 1024]⟩
abbrev S1024x5632 : Shape := ⟨2, ![1024, 5632]⟩
abbrev S2816x1024 : Shape := ⟨2, ![2816, 1024]⟩
abbrev S16896x5632 : Shape := ⟨2, ![16896, 5632]⟩
abbrev S16896x2816 : Shape := ⟨2, ![16896, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x5632, .bf16⟩
  | .hbm, ⟨2, _⟩ => ⟨S2816x1024, .bf16⟩
  | .hbm, ⟨3, _⟩ => ⟨S16896x1024, .f32⟩
  | .hbm, ⟨4, _⟩ => ⟨S1024x5632, .f32⟩
  | .hbm, ⟨5, _⟩ => ⟨S16896x5632, .f32⟩
  | .hbm, ⟨6, _⟩ => ⟨S16896x2816, .f32⟩
  | .hbm, ⟨7, _⟩ => ⟨S16896x2816, .f32⟩
  | .hbm, ⟨8, _⟩ => ⟨S16896x2816, .f32⟩
  | .hbm, ⟨9, _⟩ => ⟨S_, .f32⟩
  | .hbm, ⟨10, _⟩ => ⟨S16896x2816, .f32⟩
  | .hbm, ⟨11, _⟩ => ⟨S16896x2816, .f32⟩
  | .hbm, ⟨12, _⟩ => ⟨S_, .f32⟩
  | .hbm, ⟨13, _⟩ => ⟨S16896x2816, .f32⟩
  | .hbm, ⟨14, _⟩ => ⟨S16896x2816, .f32⟩
  | .hbm, ⟨15, _⟩ => ⟨S16896x2816, .f32⟩
  | .hbm, ⟨16, _⟩ => ⟨S16896x2816, .f32⟩
  | .hbm, ⟨17, _⟩ => ⟨S16896x2816, .f32⟩
  | .hbm, ⟨18, _⟩ => ⟨S2816x1024, .f32⟩
  | .hbm, ⟨19, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel4.lean ====
abbrev S16896x1024 : Shape := ⟨2, ![16896, 1024]⟩
abbrev S1024x5184 : Shape := ⟨2, ![1024, 5184]⟩
abbrev S16896x5120 : Shape := ⟨2, ![16896, 5120]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16896x1024, .bf16⟩
  | .hbm, ⟨1, _⟩ => ⟨S1024x5184, .bf16⟩
  | .hbm, ⟨2, _⟩ => ⟨S16896x5120, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16896x1024 : Shape := ⟨2, ![16896, 1024]⟩
abbrev S1024x5184 : Shape := ⟨2, ![1024, 5184]⟩
abbrev S16896x5184 : Shape := ⟨2, ![16896, 5184]⟩
abbrev S16896x5120 : Shape := ⟨2, ![16896, 5120]⟩

abbrev nBuf : Space → Nat
  | .hbm => 6
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x5184, .bf16⟩
  | .hbm, ⟨2, _⟩ => ⟨S16896x1024, .f32⟩
  | .hbm, ⟨3, _⟩ => ⟨S1024x5184, .f32⟩
  | .hbm, ⟨4, _⟩ => ⟨S16896x5184, .f32⟩
  | .hbm, ⟨5, _⟩ => ⟨S16896x5120, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16896x2048 : Shape := ⟨2, ![16896, 2048]⟩
abbrev S2048x1024 : Shape := ⟨2, ![2048, 1024]⟩
abbrev S16896x1024 : Shape := ⟨2, ![16896, 1024]⟩
abbrev S768x2048 : Shape := ⟨2, ![768, 2048]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16896x2048, .bf16⟩
  | .hbm, ⟨1, _⟩ => ⟨S2048x1024, .bf16⟩
  | .hbm, ⟨2, _⟩ => ⟨S16896x1024, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S768x1024, .f32⟩
  | .local _ .vmem, ⟨4, _⟩ => ⟨S768x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16896x2048 : Shape := ⟨2, ![16896, 2048]⟩
abbrev S2048x1024 : Shape := ⟨2, ![2048, 1024]⟩
abbrev S16896x1024 : Shape := ⟨2, ![16896, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x1024, .bf16⟩
  | .hbm, ⟨2, _⟩ => ⟨S16896x2048, .f32⟩
  | .hbm, ⟨3, _⟩ => ⟨S2048x1024, .f32⟩
  | .hbm, ⟨4, _⟩ => ⟨S16896x1024, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16896x1024 : Shape := ⟨2, ![16896, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .bf16⟩
  | .hbm, ⟨2, _⟩ => ⟨S16896x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16896x1024 : Shape := ⟨2, ![16896, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x1024, .bf16⟩
  | .hbm, ⟨2, _⟩ => ⟨S16896x1024, .f32⟩
  | .hbm, ⟨3, _⟩ => ⟨S1024x1024, .f32⟩
  | .hbm, ⟨4, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S16896x1024 : Shape := ⟨2, ![16896, 1024]⟩
abbrev S1024x1536 : Shape := ⟨2, ![1024, 1536]⟩
abbrev S16896x1536 : Shape := ⟨2, ![16896, 1536]⟩
abbrev S768x1024 : Shape := ⟨2, ![768, 1024]⟩
abbrev S1024x768 : Shape := ⟨2, ![1024, 768]⟩
abbrev S768x768 : Shape := ⟨2, ![768, 768]⟩

abbrev nBuf : Space → Nat
  | .hbm => 3
  | .vmem => 6
  | .smem => 0
  | _ => 0

abbrev bufTy : (tb : Table) → Fin (tcTables nBuf tb) → BufTy
  | .hbm, ⟨0, _⟩ => ⟨S16896x1024, .bf16⟩
  | .hbm, ⟨1, _⟩ => ⟨S1024x1536, .bf16⟩
  | .hbm, ⟨2, _⟩ => ⟨S16896x1536, .f32⟩
  | .local _ .vmem, ⟨0, _⟩ => ⟨S768x1024, .bf16⟩
  | .local _ .vmem, ⟨1, _⟩ => ⟨S768x1024, .bf16⟩
  | .local _ .vmem, ⟨2, _⟩ => ⟨S1024x768, .bf16⟩
  | .local _ .vmem, ⟨3, _⟩ => ⟨S1024x768, .bf16⟩
  | .local _ .vmem, ⟨4, _⟩ => ⟨S768x768, .f32⟩
  | .local _ .vmem, ⟨5, _⟩ => ⟨S768x768, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16896x1024 : Shape := ⟨2, ![16896, 1024]⟩
abbrev S1024x1536 : Shape := ⟨2, ![1024, 1536]⟩
abbrev S16896x1536 : Shape := ⟨2, ![16896, 1536]⟩

abbrev nBuf : Space → Nat
  | .hbm => 5
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x1536, .bf16⟩
  | .hbm, ⟨2, _⟩ => ⟨S16896x1024, .f32⟩
  | .hbm, ⟨3, _⟩ => ⟨S1024x1536, .f32⟩
  | .hbm, ⟨4, _⟩ => ⟨S16896x1536, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16896x1024 : Shape := ⟨2, ![16896, 1024]⟩
abbrev S1024x128 : Shape := ⟨2, ![1024, 128]⟩
abbrev S128x1024 : Shape := ⟨2, ![128, 1024]⟩
abbrev S_ : Shape := ⟨0, ![]⟩
abbrev S1x1024 : Shape := ⟨2, ![1, 1024]⟩
abbrev S512x1024 : Shape := ⟨2, ![512, 1024]⟩
abbrev S512x128 : Shape := ⟨2, ![512, 128]⟩

abbrev nBuf : Space → Nat
  | .hbm => 8
  | .vmem => 7
  | .smem => 0
  | _ => 0

abbrev bufTy : (tb : Table) → Fin (tcTables nBuf tb) → BufTy
  | .hbm, ⟨0, _⟩ => ⟨S16896x1024, .bf16⟩
  | .hbm, ⟨1, _⟩ => ⟨S1024x128, .f32⟩
  | .hbm, ⟨2, _⟩ => ⟨S128x1024, .f32⟩
  | .hbm, ⟨3, _⟩ => ⟨S1024x128, .bf16⟩
  | .hbm, ⟨4, _⟩ => ⟨S128x1024, .bf16⟩
  | .hbm, ⟨5, _⟩ => ⟨S_, .f32⟩
  | .hbm, ⟨6, _⟩ => ⟨S1x1024, .f32⟩
  | .hbm, ⟨7, _⟩ => ⟨S16896x1024, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S128x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16896x1024 : Shape := ⟨2, ![16896, 1024]⟩
abbrev S1024x128 : Shape := ⟨2, ![1024, 128]⟩
abbrev S128x1024 : Shape := ⟨2, ![128, 1024]⟩
abbrev S16896x128 : Shape := ⟨2, ![16896, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S1024x128, .f32⟩
  | .hbm, ⟨2, _⟩ => ⟨S128x1024, .f32⟩
  | .hbm, ⟨3, _⟩ => ⟨S16896x1024, .f32⟩
  | .hbm, ⟨4, _⟩ => ⟨S16896x128, .f32⟩
  | .hbm, ⟨5, _⟩ => ⟨S16896x128, .f32⟩
  | .hbm, ⟨6, _⟩ => ⟨S16896x128, .f32⟩
  | .hbm, ⟨7, _⟩ => ⟨S_, .f32⟩
  | .hbm, ⟨8, _⟩ => ⟨S16896x128, .f32⟩
  | .hbm, ⟨9, _⟩ => ⟨S16896x128, .f32⟩
  | .hbm, ⟨10, _⟩ => ⟨S_, .f32⟩
  | .hbm, ⟨11, _⟩ => ⟨S16896x128, .f32⟩
  | .hbm, ⟨12, _⟩ => ⟨S16896x128, .f32⟩
  | .hbm, ⟨13, _⟩ => ⟨S16896x1024, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel10.lean ====
abbrev S16896x1024 : Shape := ⟨2, ![16896, 1024]⟩
abbrev S2x1024 : Shape := ⟨2, ![2, 1024]⟩
abbrev S2x1024x64 : Shape := ⟨3, ![2, 1024, 64]⟩
abbrev S2x64x1024 : Shape := ⟨3, ![2, 64, 1024]⟩
abbrev S1x1024x64 : Shape := ⟨3, ![1, 1024, 64]⟩
abbrev S1024x64 : Shape := ⟨2, ![1024, 64]⟩
abbrev S1024x128 : Shape := ⟨2, ![1024, 128]⟩
abbrev S1x64x1024 : Shape := ⟨3, ![1, 64, 1024]⟩
abbrev S64x1024 : Shape := ⟨2, ![64, 1024]⟩
abbrev S_ : Shape := ⟨0, ![]⟩
abbrev S64x2048 : Shape := ⟨2, ![64, 2048]⟩
abbrev S128x2048 : Shape := ⟨2, ![128, 2048]⟩
abbrev S1x2048 : Shape := ⟨2, ![1, 2048]⟩
abbrev S16896x2048 : Shape := ⟨2, ![16896, 2048]⟩
abbrev S512x1024 : Shape := ⟨2, ![512, 1024]⟩
abbrev S512x2048 : Shape := ⟨2, ![512, 2048]⟩
abbrev S512x128 : Shape := ⟨2, ![512, 128]⟩

abbrev nBuf : Space → Nat
  | .hbm => 28
  | .vmem => 7
  | .smem => 0
  | _ => 0

abbrev bufTy : (tb : Table) → Fin (tcTables nBuf tb) → BufTy
  | .hbm, ⟨0, _⟩ => ⟨S16896x1024, .bf16⟩
  | .hbm, ⟨1, _⟩ => ⟨S2x1024, .f32⟩
  | .hbm, ⟨2, _⟩ => ⟨S2x1024x64, .f32⟩
  | .hbm, ⟨3, _⟩ => ⟨S2x64x1024, .f32⟩
  | .hbm, ⟨4, _⟩ => ⟨S1x1024x64, .f32⟩
  | .hbm, ⟨5, _⟩ => ⟨S1024x64, .f32⟩
  | .hbm, ⟨6, _⟩ => ⟨S1x1024x64, .f32⟩
  | .hbm, ⟨7, _⟩ => ⟨S1024x64, .f32⟩
  | .hbm, ⟨8, _⟩ => ⟨S1024x128, .f32⟩
  | .hbm, ⟨9, _⟩ => ⟨S1024x128, .bf16⟩
  | .hbm, ⟨10, _⟩ => ⟨S1x64x1024, .f32⟩
  | .hbm, ⟨11, _⟩ => ⟨S64x1024, .f32⟩
  | .hbm, ⟨12, _⟩ => ⟨S1x64x1024, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x2048, .f32⟩
  | .hbm, ⟨17, _⟩ => ⟨S1x64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S1x64x1024, .f32⟩
  | .hbm, ⟨22, _⟩ => ⟨S64x1024, .f32⟩
  | .hbm, ⟨23, _⟩ => ⟨S64x2048, .f32⟩
  | .hbm, ⟨24, _⟩ => ⟨S128x2048, .f32⟩
  | .hbm, ⟨25, _⟩ => ⟨S128x2048, .bf16⟩
  | .hbm, ⟨26, _⟩ => ⟨S1x2048, .f32⟩
  | .hbm, ⟨27, _⟩ => ⟨S16896x2048, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S128x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16896x1024 : Shape := ⟨2, ![16896, 1024]⟩
abbrev S2x1024 : Shape := ⟨2, ![2, 1024]⟩
abbrev S2x1024x64 : Shape := ⟨3, ![2, 1024, 64]⟩
abbrev S2x64x1024 : Shape := ⟨3, ![2, 64, 1024]⟩
abbrev S1x1024 : Shape := ⟨2, ![1, 1024]⟩
abbrev S1024 : Shape := ⟨1, ![1024]⟩
abbrev S1x1024x64 : Shape := ⟨3, ![1, 1024, 64]⟩
abbrev S1024x64 : Shape := ⟨2, ![1024, 64]⟩
abbrev S16896x64 : Shape := ⟨2, ![16896, 64]⟩
abbrev S1x64x1024 : Shape := ⟨3, ![1, 64, 1024]⟩
abbrev S64x1024 : Shape := ⟨2, ![64, 1024]⟩
abbrev S16896x2048 : Shape := ⟨2, ![16896, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S2x1024, .f32⟩
  | .hbm, ⟨2, _⟩ => ⟨S2x1024x64, .f32⟩
  | .hbm, ⟨3, _⟩ => ⟨S2x64x1024, .f32⟩
  | .hbm, ⟨4, _⟩ => ⟨S16896x1024, .f32⟩
  | .hbm, ⟨5, _⟩ => ⟨S1x1024, .f32⟩
  | .hbm, ⟨6, _⟩ => ⟨S1024, .f32⟩
  | .hbm, ⟨7, _⟩ => ⟨S1x1024x64, .f32⟩
  | .hbm, ⟨8, _⟩ => ⟨S1024x64, .f32⟩
  | .hbm, ⟨9, _⟩ => ⟨S16896x64, .f32⟩
  | .hbm, ⟨10, _⟩ => ⟨S16896x64, .f32⟩
  | .hbm, ⟨11, _⟩ => ⟨S1x64x1024, .f32⟩
  | .hbm, ⟨12, _⟩ => ⟨S64x1024, .f32⟩
  | .hbm, ⟨13, _⟩ => ⟨S16896x1024, .f32⟩
  | .hbm, ⟨14, _⟩ => ⟨S1x1024, .f32⟩
  | .hbm, ⟨15, _⟩ => ⟨S16896x1024, .f32⟩
  | .hbm, ⟨16, _⟩ => ⟨S16896x1024, .f32⟩
  | .hbm, ⟨17, _⟩ => ⟨S1x1024, .f32⟩
  | .hbm, ⟨18, _⟩ => ⟨S1024, .f32⟩
  | .hbm, ⟨19, _⟩ => ⟨S1x1024x64, .f32⟩
  | .hbm, ⟨20, _⟩ => ⟨S1024x64, .f32⟩
  | .hbm, ⟨21, _⟩ => ⟨S16896x64, .f32⟩
  | .hbm, ⟨22, _⟩ => ⟨S16896x64, .f32⟩
  | .hbm, ⟨23, _⟩ => ⟨S1x64x1024, .f32⟩
  | .hbm, ⟨24, _⟩ => ⟨S64x1024, .f32⟩
  | .hbm, ⟨25, _⟩ => ⟨S16896x1024, .f32⟩
  | .hbm, ⟨26, _⟩ => ⟨S1x1024, .f32⟩
  | .hbm, ⟨27, _⟩ => ⟨S16896x1024, .f32⟩
  | .hbm, ⟨28, _⟩ => ⟨S16896x1024, .f32⟩
  | .hbm, ⟨29, _⟩ => ⟨S16896x2048, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel11.lean ====
abbrev S16896x1024 : Shape := ⟨2, ![16896, 1024]⟩
abbrev S2x1024 : Shape := ⟨2, ![2, 1024]⟩
abbrev S2x1024x64 : Shape := ⟨3, ![2, 1024, 64]⟩
abbrev S2x64x1024 : Shape := ⟨3, ![2, 64, 1024]⟩
abbrev S1x1024x64 : Shape := ⟨3, ![1, 1024, 64]⟩
abbrev S1024x64 : Shape := ⟨2, ![1024, 64]⟩
abbrev S1024x128 : Shape := ⟨2, ![1024, 128]⟩
abbrev S1x64x1024 : Shape := ⟨3, ![1, 64, 1024]⟩
abbrev S64x1024 : Shape := ⟨2, ![64, 1024]⟩
abbrev S_ : Shape := ⟨0, ![]⟩
abbrev S64x2048 : Shape := ⟨2, ![64, 2048]⟩
abbrev S128x2048 : Shape := ⟨2, ![128, 2048]⟩
abbrev S1x2048 : Shape := ⟨2, ![1, 2048]⟩
abbrev S16896x2048 : Shape := ⟨2, ![16896, 2048]⟩
abbrev S512x1024 : Shape := ⟨2, ![512, 1024]⟩
abbrev S512x2048 : Shape := ⟨2, ![512, 2048]⟩
abbrev S512x128 : Shape := ⟨2, ![512, 128]⟩

abbrev nBuf : Space → Nat
  | .hbm => 28
  | .vmem => 7
  | .smem => 0
  | _ => 0

abbrev bufTy : (tb : Table) → Fin (tcTables nBuf tb) → BufTy
  | .hbm, ⟨0, _⟩ => ⟨S16896x1024, .bf16⟩
  | .hbm, ⟨1, _⟩ => ⟨S2x1024, .f32⟩
  | .hbm, ⟨2, _⟩ => ⟨S2x1024x64, .f32⟩
  | .hbm, ⟨3, _⟩ => ⟨S2x64x1024, .f32⟩
  | .hbm, ⟨4, _⟩ => ⟨S1x1024x64, .f32⟩
  | .hbm, ⟨5, _⟩ => ⟨S1024x64, .f32⟩
  | .hbm, ⟨6, _⟩ => ⟨S1x1024x64, .f32⟩
  | .hbm, ⟨7, _⟩ => ⟨S1024x64, .f32⟩
  | .hbm, ⟨8, _⟩ => ⟨S1024x128, .f32⟩
  | .hbm, ⟨9, _⟩ => ⟨S1024x128, .bf16⟩
  | .hbm, ⟨10, _⟩ => ⟨S1x64x1024, .f32⟩
  | .hbm, ⟨11, _⟩ => ⟨S64x1024, .f32⟩
  | .hbm, ⟨12, _⟩ => ⟨S1x64x1024, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x2048, .f32⟩
  | .hbm, ⟨17, _⟩ => ⟨S1x64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S1x64x1024, .f32⟩
  | .hbm, ⟨22, _⟩ => ⟨S64x1024, .f32⟩
  | .hbm, ⟨23, _⟩ => ⟨S64x2048, .f32⟩
  | .hbm, ⟨24, _⟩ => ⟨S128x2048, .f32⟩
  | .hbm, ⟨25, _⟩ => ⟨S128x2048, .bf16⟩
  | .hbm, ⟨26, _⟩ => ⟨S1x2048, .f32⟩
  | .hbm, ⟨27, _⟩ => ⟨S16896x2048, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S128x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S16896x1024 : Shape := ⟨2, ![16896, 1024]⟩
abbrev S2x1024 : Shape := ⟨2, ![2, 1024]⟩
abbrev S2x1024x64 : Shape := ⟨3, ![2, 1024, 64]⟩
abbrev S2x64x1024 : Shape := ⟨3, ![2, 64, 1024]⟩
abbrev S1x1024 : Shape := ⟨2, ![1, 1024]⟩
abbrev S1024 : Shape := ⟨1, ![1024]⟩
abbrev S1x1024x64 : Shape := ⟨3, ![1, 1024, 64]⟩
abbrev S1024x64 : Shape := ⟨2, ![1024, 64]⟩
abbrev S16896x64 : Shape := ⟨2, ![16896, 64]⟩
abbrev S1x64x1024 : Shape := ⟨3, ![1, 64, 1024]⟩
abbrev S64x1024 : Shape := ⟨2, ![64, 1024]⟩
abbrev S16896x2048 : Shape := ⟨2, ![16896, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S2x1024, .f32⟩
  | .hbm, ⟨2, _⟩ => ⟨S2x1024x64, .f32⟩
  | .hbm, ⟨3, _⟩ => ⟨S2x64x1024, .f32⟩
  | .hbm, ⟨4, _⟩ => ⟨S16896x1024, .f32⟩
  | .hbm, ⟨5, _⟩ => ⟨S1x1024, .f32⟩
  | .hbm, ⟨6, _⟩ => ⟨S1024, .f32⟩
  | .hbm, ⟨7, _⟩ => ⟨S1x1024x64, .f32⟩
  | .hbm, ⟨8, _⟩ => ⟨S1024x64, .f32⟩
  | .hbm, ⟨9, _⟩ => ⟨S16896x64, .f32⟩
  | .hbm, ⟨10, _⟩ => ⟨S1x64x1024, .f32⟩
  | .hbm, ⟨11, _⟩ => ⟨S64x1024, .f32⟩
  | .hbm, ⟨12, _⟩ => ⟨S16896x1024, .f32⟩
  | .hbm, ⟨13, _⟩ => ⟨S1x1024, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S1024, .f32⟩
  | .hbm, ⟨18, _⟩ => ⟨S1x1024x64, .f32⟩
  | .hbm, ⟨19, _⟩ => ⟨S1024x64, .f32⟩
  | .hbm, ⟨20, _⟩ => ⟨S16896x64, .f32⟩
  | .hbm, ⟨21, _⟩ => ⟨S1x64x1024, .f32⟩
  | .hbm, ⟨22, _⟩ => ⟨S64x1024, .f32⟩
  | .hbm, ⟨23, _⟩ => ⟨S16896x1024, .f32⟩
  | .hbm, ⟨24, _⟩ => ⟨S1x1024, .f32⟩
  | .hbm, ⟨25, _⟩ => ⟨S16896x1024, .f32⟩
  | .hbm, ⟨26, _⟩ => ⟨S16896x1024, .f32⟩
  | .hbm, ⟨27, _⟩ => ⟨S16896x2048, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Kernel12.lean ====
abbrev S2x8448x3072 : Shape := ⟨3, ![2, 8448, 3072]⟩
abbrev S2x2x8448x32 : Shape := ⟨4, ![2, 2, 8448, 32]⟩
abbrev S2x32 : Shape := ⟨2, ![2, 32]⟩
abbrev S2x2x32x8448 : Shape := ⟨4, ![2, 2, 32, 8448]⟩
abbrev S2x1x32 : Shape := ⟨3, ![2, 1, 32]⟩
abbrev S2x32x1 : Shape := ⟨3, ![2, 32, 1]⟩
abbrev S2x2x8448x2048 : Shape := ⟨4, ![2, 2, 8448, 2048]⟩
abbrev S1x128x2048 : Shape := ⟨3, ![1, 128, 2048]⟩
abbrev S1x128x512 : Shape := ⟨3, ![1, 128, 512]⟩
abbrev S1x1x128x32 : Shape := ⟨4, ![1, 1, 128, 32]⟩
abbrev S1x1x32x128 : Shape := ⟨4, ![1, 1, 32, 128]⟩
abbrev S1x1x32 : Shape := ⟨3, ![1, 1, 32]⟩
abbrev S1x32x1 : Shape := ⟨3, ![1, 32, 1]⟩
abbrev S1x1x128x2048 : Shape := ⟨4, ![1, 1, 128, 2048]⟩
abbrev S16x128x128 : Shape := ⟨3, ![16, 128, 128]⟩
abbrev S128x32 : Shape := ⟨2, ![128, 32]⟩
abbrev S1x32 : Shape := ⟨2, ![1, 32]⟩
abbrev S32x128 : Shape := ⟨2, ![32, 128]⟩
abbrev S32x1 : Shape := ⟨2, ![32, 1]⟩
abbrev S128x128 : Shape := ⟨2, ![128, 128]⟩
abbrev S32 : Shape := ⟨1, ![32]⟩
abbrev S1x128 : Shape := ⟨2, ![1, 128]⟩
abbrev S1x128x128 : Shape := ⟨3, ![1, 128, 128]⟩
abbrev S128x1 : Shape := ⟨2, ![128, 1]⟩
abbrev S1x1x128x128 : Shape := ⟨4, ![1, 1, 128, 128]⟩
abbrev S1x1 : Shape := ⟨2, ![1, 1]⟩

abbrev nBuf : Space → Nat
  | .hbm => 10
  | .vmem => 21
  | .smem => 0
  | _ => 0

abbrev bufTy : (tb : Table) → Fin (tcTables nBuf tb) → BufTy
  | .hbm, ⟨0, _⟩ => ⟨S2x8448x3072, .f32⟩
  | .hbm, ⟨1, _⟩ => ⟨S2x2x8448x32, .f32⟩
  | .hbm, ⟨2, _⟩ => ⟨S2x32, .f32⟩
  | .hbm, ⟨3, _⟩ => ⟨S2x32, .f32⟩
  | .hbm, ⟨4, _⟩ => ⟨S2x2x32x8448, .f32⟩
  | .hbm, ⟨5, _⟩ => ⟨S2x1x32, .f32⟩
  | .hbm, ⟨6, _⟩ => ⟨S2x32x1, .f32⟩
  | .hbm, ⟨7, _⟩ => ⟨S2x1x32, .f32⟩
  | .hbm, ⟨8, _⟩ => ⟨S2x32x1, .f32⟩
  | .hbm, ⟨9, _⟩ => ⟨S2x2x8448x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x1x128x32, .f32⟩
  | .local _ .vmem, ⟨7, _⟩ => ⟨S1x1x128x32, .f32⟩
  | .local _ .vmem, ⟨8, _⟩ => ⟨S1x1x32x128, .f32⟩
  | .local _ .vmem, ⟨9, _⟩ => ⟨S1x1x32x128, .f32⟩
  | .local _ .vmem, ⟨10, _⟩ => ⟨S1x1x32, .f32⟩
  | .local _ .vmem, ⟨11, _⟩ => ⟨S1x1x32, .f32⟩
  | .local _ .vmem, ⟨12, _⟩ => ⟨S1x32x1, .f32⟩
  | .local _ .vmem, ⟨13, _⟩ => ⟨S1x32x1, .f32⟩
  | .local _ .vmem, ⟨14, _⟩ => ⟨S1x1x32, .f32⟩
  | .local _ .vmem, ⟨15, _⟩ => ⟨S1x1x32, .f32⟩
  | .local _ .vmem, ⟨16, _⟩ => ⟨S1x32x1, .f32⟩
  | .local _ .vmem, ⟨17, _⟩ => ⟨S1x32x1, .f32⟩
  | .local _ .vmem, ⟨18, _⟩ => ⟨S1x1x128x2048, .f32⟩
  | .local _ .vmem, ⟨19, _⟩ => ⟨S1x1x128x2048, .f32⟩
  | .local _ .vmem, ⟨20, _⟩ => ⟨S16x128x128, .f32⟩
  | _, _ => ⟨S2x8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 2, 66], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let c65_i32 : BitVec 32 := 65#32
  let v3 : BitVec 32 := Scalar.subi c65_i32 v2
  let v4 : BitVec 32 := Scalar.select v0 v1 v3
  let c0_i32 : BitVec 32 := 0#32
  let v5 : BitVec 1 := Scalar.cmpi .eq arg1 c0_i32
  let v6 : BitVec 32 := Scalar.select v5 arg2 v4
  let c0_i32_1 : BitVec 32 := 0#32
  let c0_i32_2 : BitVec 32 := 0#32
  ![arg0.toNat, v6.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let c65_i32 : BitVec 32 := 65#32
  let v3 : BitVec 32 := Scalar.subi c65_i32 v2
  let v4 : BitVec 32 := Scalar.select v0 v1 v3
  let c0_i32 : BitVec 32 := 0#32
  let v5 : BitVec 1 := Scalar.cmpi .eq arg1 c0_i32
  let v6 : BitVec 32 := Scalar.select v5 arg2 v4
  let c4_i32 : BitVec 32 := 4#32
  let c0_i32_1 : BitVec 32 := 0#32
  ![arg0.toNat, v6.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let c65_i32 : BitVec 32 := 65#32
  let v3 : BitVec 32 := Scalar.subi c65_i32 v2
  let v4 : BitVec 32 := Scalar.select v0 v1 v3
  let c0_i32 : BitVec 32 := 0#32
  let v5 : BitVec 1 := Scalar.cmpi .eq arg1 c0_i32
  let v6 : BitVec 32 := Scalar.select v5 arg2 v4
  let c5_i32 : BitVec 32 := 5#32
  let c0_i32_1 : BitVec 32 := 0#32
  ![arg0.toNat, v6.toNat, c5_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let c65_i32 : BitVec 32 := 65#32
  let v3 : BitVec 32 := Scalar.subi c65_i32 v2
  let v4 : BitVec 32 := Scalar.select v0 v1 v3
  let c0_i32 : BitVec 32 := 0#32
  let v5 : BitVec 1 := Scalar.cmpi .eq arg1 c0_i32
  let v6 : BitVec 32 := Scalar.select v5 arg2 v4
  let c0_i32_1 : BitVec 32 := 0#32
  let c0_i32_2 : BitVec 32 := 0#32
  ![arg1.toNat, arg0.toNat, v6.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let c65_i32 : BitVec 32 := 65#32
  let v3 : BitVec 32 := Scalar.subi c65_i32 v2
  let v4 : BitVec 32 := Scalar.select v0 v1 v3
  let c0_i32 : BitVec 32 := 0#32
  let v5 : BitVec 1 := Scalar.cmpi .eq arg1 c0_i32
  let v6 : BitVec 32 := Scalar.select v5 arg2 v4
  let c0_i32_1 : BitVec 32 := 0#32
  let c0_i32_2 : BitVec 32 := 0#32
  ![arg1.toNat, arg0.toNat, c0_i32_1.toNat, v6.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let c65_i32 : BitVec 32 := 65#32
  let v3 : BitVec 32 := Scalar.subi c65_i32 v2
  let v4 : BitVec 32 := Scalar.select v0 v1 v3
  let c0_i32 : BitVec 32 := 0#32
  let v5 : BitVec 1 := Scalar.cmpi .eq arg1 c0_i32
  let v6 : BitVec 32 := Scalar.select v5 arg2 v4
  let c0_i32_1 : BitVec 32 := 0#32
  let c0_i32_2 : BitVec 32 := 0#32
  ![arg1.toNat, arg0.toNat, v6.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x32x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference12Ideal.lean ====
abbrev S2x8448x3072 : Shape := ⟨3, ![2, 8448, 3072]⟩
abbrev S2x2x8448x32 : Shape := ⟨4, ![2, 2, 8448, 32]⟩
abbrev S2x32 : Shape := ⟨2, ![2, 32]⟩
abbrev S2x1x1x1x4x8 : Shape := ⟨6, ![2, 1, 1, 1, 4, 8]⟩
abbrev S2x1x1x32 : Shape := ⟨4, ![2, 1, 1, 32]⟩
abbrev S_ : Shape := ⟨0, ![]⟩
abbrev S1x2x8448x32 : Shape := ⟨4, ![1, 2, 8448, 32]⟩
abbrev S2x8448x32 : Shape := ⟨3, ![2, 8448, 32]⟩
abbrev S1x2x256x32 : Shape := ⟨4, ![1, 2, 256, 32]⟩
abbrev S2x256x32 : Shape := ⟨3, ![2, 256, 32]⟩
abbrev S1x2x8192x32 : Shape := ⟨4, ![1, 2, 8192, 32]⟩
abbrev S2x8192x32 : Shape := ⟨3, ![2, 8192, 32]⟩
abbrev S2x2x66x128x4x8 : Shape := ⟨6, ![2, 2, 66, 128, 4, 8]⟩
abbrev S1x2x8448x3072 : Shape := ⟨4, ![1, 2, 8448, 3072]⟩
abbrev S2x2x8448x3072 : Shape := ⟨4, ![2, 2, 8448, 3072]⟩
abbrev S1x2x256x3072 : Shape := ⟨4, ![1, 2, 256, 3072]⟩
abbrev S2x256x3072 : Shape := ⟨3, ![2, 256, 3072]⟩
abbrev S1x2x8192x3072 : Shape := ⟨4, ![1, 2, 8192, 3072]⟩
abbrev S2x8192x3072 : Shape := ⟨3, ![2, 8192, 3072]⟩
abbrev S2x2x8448x2048 : Shape := ⟨4, ![2, 2, 8448, 2048]⟩
abbrev S2x2x66x128x4x8x64 : Shape := ⟨7, ![2, 2, 66, 128, 4, 8, 64]⟩
abbrev S2x2x8448x512 : Shape := ⟨4, ![2, 2, 8448, 512]⟩
abbrev S2x2x66x128x4x128 : Shape := ⟨6, ![2, 2, 66, 128, 4, 128]⟩
abbrev S2x2x66x1x4x8 : Shape := ⟨6, ![2, 2, 66, 1, 4, 8]⟩
abbrev S2x2x66x4x8 : Shape := ⟨5, ![2, 2, 66, 4, 8]⟩
abbrev S2x2x66x128x4x8x1 : Shape := ⟨7, ![2, 2, 66, 128, 4, 8, 1]⟩
abbrev S2x2x66x4x8x64x128 : Shape := ⟨7, ![2, 2, 66, 4, 8, 64, 128]⟩
abbrev S2x2x4x8x64x128 : Shape := ⟨6, ![2, 2, 4, 8, 64, 128]⟩
abbrev S66x2x2x4x8x64x128 : Shape := ⟨7, ![66, 2, 2, 4, 8, 64, 128]⟩
abbrev S66x2x2x4x8 : Shape := ⟨5, ![66, 2, 2, 4, 8]⟩
abbrev S1x2x2x4x8x64x128 : Shape := ⟨7, ![1, 2, 2, 4, 8, 64, 128]⟩
abbrev S1x2x2x4x8 : Shape := ⟨5, ![1, 2, 2, 4, 8]⟩
abbrev S2x2x4x8 : Shape := ⟨4, ![2, 2, 4, 8]⟩
abbrev S2x2x4x8x1x1 : Shape := ⟨6, ![2, 2, 4, 8, 1, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1x1 : Shape := ⟨4, ![128, 128, 1, 1]⟩
abbrev S2x2x66x128x1x4x8 : Shape := ⟨7, ![2, 2, 66, 128, 1, 4, 8]⟩
abbrev S2x2x66x1x128x4x8 : Shape := ⟨7, ![2, 2, 66, 1, 128, 4, 8]⟩
abbrev S2x2x66x128x128x4x8 : Shape := ⟨7, ![2, 2, 66, 128, 128, 4, 8]⟩
abbrev S2x2x66x4x128x128 : Shape := ⟨6, ![2, 2, 66, 4, 128, 128]⟩
abbrev S2x2x66x128x128x4 : Shape := ⟨6, ![2, 2, 66, 128, 128, 4]⟩
abbrev S2x2x66x128x128x4x1 : Shape := ⟨7, ![2, 2, 66, 128, 128, 4, 1]⟩
abbrev S1x2x8448x2048 : Shape := ⟨4, ![1, 2, 8448, 2048]⟩
abbrev S2x8448x2048 : Shape := ⟨3, ![2, 8448, 2048]⟩
abbrev S1x2x256x2048 : Shape := ⟨4, ![1, 2, 256, 2048]⟩
abbrev S2x256x2048 : Shape := ⟨3, ![2, 256, 2048]⟩
abbrev S1x2x8192x2048 : Shape := ⟨4, ![1, 2, 8192, 2048]⟩
abbrev S2x8192x2048 : Shape := ⟨3, ![2, 8192, 2048]⟩

abbrev nBuf : Space → Nat
  | .hbm => 166
  | .vmem => 0
  | .smem => 0
  | _ => 0

abbrev hbmTy0_0 (i : Nat) : BufTy := match i % 128 with
  | 0 => ⟨S2x8448x3072, .f32⟩
  | 1 => ⟨S2x2x8448x32, .f32⟩
  | 2 => ⟨S2x32, .f32⟩
  | 3 => ⟨S2x32, .f32⟩
  | 4 => ⟨S2x32, .f32⟩
  | 5 => ⟨S2x1x1x1x4x8, .f32⟩
  | 6 => ⟨S2x1x1x1x4x8, .f32⟩
  | 7 => ⟨S2x1x1x32, .f32⟩
  | 8 => ⟨S2x2x8448x32, .f32⟩
  | 9 => ⟨S2x2x8448x32, .f32⟩
  | 10 => ⟨S_, .f32⟩
  | 11 => ⟨S2x2x8448x32, .f32⟩
  | 12 => ⟨S2x2x8448x32, .f32⟩
  | 13 => ⟨S2x2x8448x32, .f32⟩
  | 14 => ⟨S2x2x8448x32, .f32⟩
  | 15 => ⟨S2x2x8448x32, .i1⟩
  | 16 => ⟨S2x2x8448x32, .f32⟩
  | 17 => ⟨S2x2x8448x32, .f32⟩
  | 18 => ⟨S2x2x8448x32, .f32⟩
  | 19 => ⟨S2x2x8448x32, .f32⟩
  | 20 => ⟨S2x2x8448x32, .f32⟩
  | 21 => ⟨S2x2x8448x32, .f32⟩
  | 22 => ⟨S2x2x8448x32, .f32⟩
  | 23 => ⟨S2x2x8448x32, .f32⟩
  | 24 => ⟨S1x2x8448x32, .f32⟩
  | 25 => ⟨S2x8448x32, .f32⟩
  | 26 => ⟨S1x2x256x32, .f32⟩
  | 27 => ⟨S2x256x32, .f32⟩
  | 28 => ⟨S2x256x32, .f32⟩
  | 29 => ⟨S1x2x8192x32, .f32⟩
  | 30 => ⟨S2x8192x32, .f32⟩
  | 31 => ⟨S2x8192x32, .f32⟩
  | 32 => ⟨S2x8448x32, .f32⟩
  | 33 => ⟨S1x2x8448x32, .f32⟩
  | 34 => ⟨S1x2x8448x32, .f32⟩
  | 35 => ⟨S2x2x8448x32, .f32⟩
  | 36 => ⟨S2x2x66x128x4x8, .f32⟩
  | 37 => ⟨S1x2x8448x3072, .f32⟩
  | 38 => ⟨S1x2x8448x3072, .f32⟩
  | 39 => ⟨S2x2x8448x3072, .f32⟩
  | 40 => ⟨S1x2x8448x3072, .f32⟩
  | 41 => ⟨S2x8448x3072, .f32⟩
  | 42 => ⟨S1x2x256x3072, .f32⟩
  | 43 => ⟨S2x256x3072, .f32⟩
  | 44 => ⟨S2x256x3072, .f32⟩
  | 45 => ⟨S1x2x8192x3072, .f32⟩
  | 46 => ⟨S2x8192x3072, .f32⟩
  | 47 => ⟨S2x8192x3072, .f32⟩
  | 48 => ⟨S2x8448x3072, .f32⟩
  | 49 => ⟨S1x2x8448x3072, .f32⟩
  | 50 => ⟨S1x2x8448x3072, .f32⟩
  | 51 => ⟨S2x2x8448x3072, .f32⟩
  | 52 => ⟨S2x2x8448x2048, .f32⟩
  | 53 => ⟨S2x2x66x128x4x8x64, .f32⟩
  | 54 => ⟨S2x2x8448x512, .f32⟩
  | 55 => ⟨S2x2x66x128x4x128, .f32⟩
  | 56 => ⟨S2x2x8448x512, .f32⟩
  | 57 => ⟨S2x2x66x128x4x128, .f32⟩
  | 58 => ⟨S2x2x66x128x4x8, .f32⟩
  | 59 => ⟨S2x2x66x128x4x8, .f32⟩
  | 60 => ⟨S_, .f32⟩
  | 61 => ⟨S_, .f32⟩
  | 62 => ⟨S2x2x66x128x4x8, .f32⟩
  | 63 => ⟨S2x2x66x1x4x8, .f32⟩
  | 64 => ⟨S2x2x66x4x8, .f32⟩
  | 65 => ⟨S2x2x66x1x4x8, .f32⟩
  | 66 => ⟨S2x2x66x128x4x8, .f32⟩
  | 67 => ⟨S2x2x66x128x4x8, .f32⟩
  | 68 => ⟨S2x2x66x128x4x8, .f32⟩
  | 69 => ⟨S2x2x66x128x4x8, .f32⟩
  | 70 => ⟨S2x2x66x128x4x8x1, .f32⟩
  | 71 => ⟨S2x2x66x128x4x8x64, .f32⟩
  | 72 => ⟨S2x2x66x128x4x8x64, .f32⟩
  | 73 => ⟨S2x2x66x4x8x64x128, .f32⟩
  | 74 => ⟨S_, .f32⟩
  | 75 => ⟨S2x2x4x8x64x128, .f32⟩
  | 76 => ⟨S66x2x2x4x8x64x128, .f32⟩
  | 77 => ⟨S2x2x66x4x8, .f32⟩
  | 78 => ⟨S66x2x2x4x8, .f32⟩
  | 79 => ⟨S_, .f32⟩
  | 80 => ⟨S66x2x2x4x8x64x128, .f32⟩
  | 81 => ⟨S_, .i32⟩
  | 82 => ⟨S66x2x2x4x8x64x128, .f32⟩
  | 83 => ⟨S66x2x2x4x8, .f32⟩
  | 84 => ⟨S_, .i32⟩
  | 85 => ⟨S2x2x4x8x64x128, .f32⟩
  | 86 => ⟨S66x2x2x4x8x64x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S1x2x2x4x8x64x128, .f32⟩
  | 96 => ⟨S2x2x4x8x64x128, .f32⟩
  | 97 => ⟨S_, .i32⟩
  | 98 => ⟨S_, .i32⟩
  | 99 => ⟨S_, .i32⟩
  | 100 => ⟨S_, .i32⟩
  | 101 => ⟨S1x2x2x4x8, .f32⟩
  | 102 => ⟨S2x2x4x8, .f32⟩
  | 103 => ⟨S2x2x4x8x1x1, .f32⟩
  | 104 => ⟨S2x2x4x8x64x128, .f32⟩
  | 105 => ⟨S2x2x4x8x64x128, .f32⟩
  | 106 => ⟨S2x2x4x8x64x128, .f32⟩
  | 107 => ⟨S1x2x2x4x8x64x128, .f32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S66x2x2x4x8x64x128, .f32⟩
  | 115 => ⟨S_, .i32⟩
  | 116 => ⟨S_, .i32⟩
  | 117 => ⟨S2x2x66x4x8x64x128, .f32⟩
  | 118 => ⟨S128, .i32⟩
  | 119 => ⟨S128x1, .i32⟩
  | 120 => ⟨S1x128, .i32⟩
  | 121 => ⟨S128x128, .i32⟩
  | 122 => ⟨S128x128, .i32⟩
  | 123 => ⟨S128x128, .i1⟩
  | 124 => ⟨S128x128x1x1, .i1⟩
  | 125 => ⟨S2x2x66x128x1x4x8, .f32⟩
  | 126 => ⟨S2x2x66x1x128x4x8, .f32⟩
  | 127 => ⟨S2x2x66x128x128x4x8, .f32⟩
  | _ => ⟨S2x8448x3072, .f32⟩

abbrev hbmTy0_1 (i : Nat) : BufTy := match i % 128 with
  | 0 => ⟨S2x2x66x128x128x4x8, .f32⟩
  | 1 => ⟨S2x2x66x128x128x4x8, .f32⟩
  | 2 => ⟨S_, .f32⟩
  | 3 => ⟨S_, .f32⟩
  | 4 => ⟨S2x2x66x128x128x4x8, .i1⟩
  | 5 => ⟨S2x2x66x128x128x4x8, .f32⟩
  | 6 => ⟨S2x2x66x128x128x4x8, .f32⟩
  | 7 => ⟨S2x2x66x128x128x4x8, .f32⟩
  | 8 => ⟨S2x2x66x4x128x128, .f32⟩
  | 9 => ⟨S2x2x66x128x128x4, .f32⟩
  | 10 => ⟨S2x2x66x128x128x4x1, .f32⟩
  | 11 => ⟨S2x2x66x128x128x4x8, .f32⟩
  | 12 => ⟨S2x2x66x128x128x4x8, .f32⟩
  | 13 => ⟨S2x2x66x1x128x4x8, .f32⟩
  | 14 => ⟨S2x2x66x128x128x4x8, .f32⟩
  | 15 => ⟨S2x2x66x128x128x4x8, .f32⟩
  | 16 => ⟨S2x2x66x4x8x64x128, .f32⟩
  | 17 => ⟨S2x2x66x128x4x8x64, .f32⟩
  | 18 => ⟨S2x2x66x4x8x64x128, .f32⟩
  | 19 => ⟨S2x2x66x128x4x8x64, .f32⟩
  | 20 => ⟨S2x2x66x128x4x8, .f32⟩
  | 21 => ⟨S2x2x66x128x4x8x1, .f32⟩
  | 22 => ⟨S2x2x66x128x4x8x64, .f32⟩
  | 23 => ⟨S2x2x66x128x4x8x64, .f32⟩
  | 24 => ⟨S2x2x66x128x4x8x64, .f32⟩
  | 25 => ⟨S2x2x8448x2048, .f32⟩
  | 26 => ⟨S1x2x8448x2048, .f32⟩
  | 27 => ⟨S2x8448x2048, .f32⟩
  | 28 => ⟨S1x2x256x2048, .f32⟩
  | 29 => ⟨S2x256x2048, .f32⟩
  | 30 => ⟨S2x256x2048, .f32⟩
  | 31 => ⟨S1x2x8192x2048, .f32⟩
  | 32 => ⟨S2x8192x2048, .f32⟩
  | 33 => ⟨S2x8192x2048, .f32⟩
  | 34 => ⟨S2x8448x2048, .f32⟩
  | 35 => ⟨S1x2x8448x2048, .f32⟩
  | 36 => ⟨S1x2x8448x2048, .f32⟩
  | 37 => ⟨S2x2x8448x2048, .f32⟩
  | _ => ⟨S2x8448x3072, .f32⟩

abbrev hbmTy (i : Nat) : BufTy := match i / 128 with
  | 0 => hbmTy0_0 i
  | 1 => hbmTy0_1 i
  | _ => ⟨S2x8448x3072, .f32⟩

abbrev bufTy : (tb : Table) → Fin (tcTables nBuf tb) → BufTy
  | .hbm, ⟨i, _⟩ => hbmTy i
  | _, _ => ⟨S2x8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call5_call0_cst : Ref sig .tc := ⟨.hbm, 60, rfl⟩
abbrev main_call5_call0_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_0 : Ref sig .tc := ⟨.hbm, 79, rfl⟩
abbrev main_v59 : Ref sig .tc := ⟨.hbm, 80, rfl⟩
abbrev main_c : Ref sig .tc := ⟨.hbm, 81, rfl⟩
abbrev main_v60_0 : Ref sig .tc := ⟨.hbm, 82, rfl⟩
abbrev main_v60_1 : Ref sig .tc := ⟨.hbm, 83, rfl⟩
abbrev main_v60_2 : Ref sig .tc := ⟨.hbm, 84, rfl⟩
abbrev main_v60_3 : Ref sig .tc := ⟨.hbm, 85, rfl⟩
abbrev main_v60_4 : Ref sig .tc := ⟨.hbm, 86, rfl⟩
abbrev main_while0c_c_6 : Ref sig .tc := ⟨.hbm, 87, rfl⟩
abbrev main_while0c_v106 : Ref sig .tc := ⟨.hbm, 88, rfl⟩
abbrev main_while0b_call6_c : Ref sig .tc := ⟨.hbm, 89, rfl⟩
abbrev main_while0b_call6_c_0 : Ref sig .tc := ⟨.hbm, 90, rfl⟩
abbrev main_while0b_call6_c_1 : Ref sig .tc := ⟨.hbm, 91, rfl⟩
abbrev main_while0b_call6_c_2 : Ref sig .tc := ⟨.hbm, 92, rfl⟩
abbrev main_while0b_call6_c_3 : Ref sig .tc := ⟨.hbm, 93, rfl⟩
abbrev main_while0b_call6_c_4 : Ref sig .tc := ⟨.hbm, 94, rfl⟩
abbrev main_while0b_call6_v0 : Ref sig .tc := ⟨.hbm, 95, rfl⟩
abbrev main_while0b_v106 : Ref sig .tc := ⟨.hbm, 96, rfl⟩
abbrev main_while0b_call7_c : Ref sig .tc := ⟨.hbm, 97, rfl⟩
abbrev main_while0b_call7_c_0 : Ref sig .tc := ⟨.hbm, 98, rfl⟩
abbrev main_while0b_call7_c_1 : Ref sig .tc := ⟨.hbm, 99, rfl⟩
abbrev main_while0b_call7_c_2 : Ref sig .tc := ⟨.hbm, 100, rfl⟩
abbrev main_while0b_call7_v0 : Ref sig .tc := ⟨.hbm, 101, rfl⟩
abbrev main_while0b_v107 : Ref sig .tc := ⟨.hbm, 102, rfl⟩
abbrev main_while0b_v108 : Ref sig .tc := ⟨.hbm, 103, rfl⟩
abbrev main_while0b_v109 : Ref sig .tc := ⟨.hbm, 104, rfl⟩
abbrev main_while0b_v110 : Ref sig .tc := ⟨.hbm, 105, rfl⟩
abbrev main_while0b_v111 : Ref sig .tc := ⟨.hbm, 106, rfl⟩
abbrev main_while0b_call8_v0 : Ref sig .tc := ⟨.hbm, 107, rfl⟩
abbrev main_while0b_call8_c : Ref sig .tc := ⟨.hbm, 108, rfl⟩
abbrev main_while0b_call8_c_0 : Ref sig .tc := ⟨.hbm, 109, rfl⟩
abbrev main_while0b_call8_c_1 : Ref sig .tc := ⟨.hbm, 110, rfl⟩
abbrev main_while0b_call8_c_2 : Ref sig .tc := ⟨.hbm, 111, rfl⟩
abbrev main_while0b_call8_c_3 : Ref sig .tc := ⟨.hbm, 112, rfl⟩
abbrev main_while0b_call8_c_4 : Ref sig .tc := ⟨.hbm, 113, rfl⟩
abbrev main_while0b_v112 : Ref sig .tc := ⟨.hbm, 114, rfl⟩
abbrev main_while0b_c_6 : Ref sig .tc := ⟨.hbm, 115, rfl⟩
abbrev main_while0b_v113 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_1 : Ref sig .tc := ⟨.hbm, 130, rfl⟩
abbrev main_call9_v0 : Ref sig .tc := ⟨.hbm, 131, rfl⟩
abbrev main_call9_v1 : Ref sig .tc := ⟨.hbm, 132, rfl⟩
abbrev main_call9_v2 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩

abbrev nD : Nat := 1
abbrev τ : Topo := Topo.v7x

variable {F : FTy → Type} [FloatOps F]

abbrev main_while0_count : Scf.Loop 32 := ⟨0#32, 66#32, 1#32⟩
-- ==== Proof.Attention.Finite.lean ====
module
public import proofs.«01_k».proof.Pre_finite_qk
public import Idealize.ShloMosaic.Lib.ReduceAll
public import Idealize.ShloMosaic.Lib.Pointwise
@[expose] public section
set_option maxRecDepth 16384

/-! # What the precondition says

`finite_qk` is true exactly when no query and no key is infinite; here the direction the attention uses. -/

noncomputable section
open Idealize.ShloMosaic
namespace Cert.Pre_finite_qk
variable [Facts]

theorem ofBits_top : Ideal.ofBits .f32 0x7F800000#32 = ⊤ := by
  simp [Ideal.ofBits, Ideal.ieee]

/-- An extended real of a size below +∞ is real. -/
theorem real_of_lt {x : EReal} (h : Ideal.cmp .olt (max x (-x)) (Ideal.ofBits .f32 0x7F800000#32) = 1#1) :
    ∃ y : ℝ, x = y := by
  rw [ofBits_top] at h
  induction x with
  | bot => exact absurd h (by simp [Ideal.cmp])
  | top => exact absurd h (by simp [Ideal.cmp])
  | coe y => exact ⟨y, rfl⟩

/-- Queries and keys that satisfy the precondition are real. -/
theorem real {Q : FVec Ideal S2x8448x1024 .f32} {K V : FVec Ideal S2x8448x4x64 .f32} (h : fn Q K V = fun _ => 1#1) :
    (∀ i, ∃ x : ℝ, Q i = (x : EReal)) ∧ ∀ i, ∃ x : ℝ, K i = (x : EReal) := by
  have : Subsingleton S_.Idx := ⟨fun a b => funext fun x => x.elim0⟩
  have h0 := (IntOp.andi_eq_one).1 (congrFun h (fun x => x.elim0))
  exact ⟨fun i => real_of_lt (Host.reduce_andi_all _ _ Facts.reducesTo_S2x8448x1024_S_d0_1_2 Facts.h_S_ _ h0.1 i),
    fun i => real_of_lt (Host.reduce_andi_all _ _ Facts.reducesTo_S2x8448x4x64_S_d0_1_2_3 Facts.h_S_ _ h0.2 i)⟩

end Cert.Pre_finite_qk
end
-- ==== Proof.Attention.Softmax.lean ====
module
public import Idealize.ShloMosaic.Lib.Pointwise
public import Mathlib.Analysis.SpecialFunctions.Pow.Real
@[expose] public section

/-! # A softmax taken in three parts

One row of attention: real scores, values that may be infinite. The weights `2 ^ (score - shift)` are
summed against the values part by part, and what has been summed so far is multiplied by
`2 ^ (old shift - new shift)` whenever the shift grows. After the last part the sum is the whole sum at
one real shift, and a quotient of two such sums does not depend on the shift. -/

noncomputable section
open Idealize.ShloMosaic

namespace Cert.Softmax

/-- A real factor that is not negative distributes over a finite sum of extended reals. -/
theorem mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

/-- The sum of reals, read as an extended real. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of a bound so far and of the scores of a part. -/
def top {n : ℕ} (a : EReal) (s : Fin n → EReal) : EReal :=
  max a (Finset.univ.fold max ⊥ s)

/-- The bound after a non-empty part of real scores is a real number. -/
theorem top_real {n : ℕ} (hn : 0 < n) (a : EReal) (ha : a ≠ ⊤) (s : Fin n → ℝ) :
    ∃ r : ℝ, top a (fun x => (s x : EReal)) = r := by
  have h1 : top a (fun x => (s x : EReal)) ≠ ⊤ := by
    refine ne_of_lt (max_lt (lt_top_iff_ne_top.2 ha) ?_)
    exact (Finset.fold_max_lt _).2 ⟨bot_lt_top, fun x _ => EReal.coe_lt_top _⟩
  have h2 : top a (fun x => (s x : EReal)) ≠ ⊥ := by
    refine ne_of_gt (lt_max_of_lt_right ?_)
    exact (Finset.lt_fold_max _).2 (Or.inr ⟨⟨0, hn⟩, Finset.mem_univ _, EReal.bot_lt_coe _⟩)
  exact ⟨_, (EReal.coe_toReal h1 h2).symm⟩

/-- One part: rescale what has been summed from the old bound to the new one and add the part. -/
def step {n : ℕ} (a b acc : EReal) (s v : Fin n → EReal) : EReal :=
  Ideal.exp2 (a - b) * acc + ∑ x, Ideal.exp2 (s x - b) * v x

/-- The weighted sum of a part at a shift. -/
def part {n : ℕ} (b : EReal) (s v : Fin n → EReal) : EReal :=
  ∑ x, Ideal.exp2 (s x - b) * v x

/-- Moving the shift of a part from one real to another. -/
theorem part_shift {n : ℕ} (a b : ℝ) (s : Fin n → ℝ) (v : Fin n → EReal) :
    Ideal.exp2 ((a : EReal) - b) * part a (fun x => (s x : EReal)) v = part b (fun x => (s x : EReal)) v := by
  have h2 : (0 : ℝ) ≤ Real.rpow 2 (a - b) := Real.rpow_nonneg (by norm_num) _
  unfold part
  rw [← EReal.coe_sub, Ideal.exp2_coe, mul_sum _ _ h2]
  dsimp only
  refine Finset.sum_congr rfl fun x _ => ?_
  rw [← mul_assoc, ← EReal.coe_sub, ← EReal.coe_sub, Ideal.exp2_coe, Ideal.exp2_coe, ← EReal.coe_mul]
  congr 2
  show (2 : ℝ) ^ (a - b) * (2 : ℝ) ^ (s x - a) = (2 : ℝ) ^ (s x - b)
  rw [← Real.rpow_add (by norm_num)]
  congr 1; ring

/-- The three parts in order, from nothing: all the weighted values at the last bound, which is real. -/
theorem three {n : ℕ} (hn : 0 < n) (s0 s1 s2 : Fin n → ℝ) :
    ∃ M : ℝ, ∀ v0 v1 v2 : Fin n → EReal,
      let t0 := fun x => (s0 x : EReal)
      let t1 := fun x => (s1 x : EReal)
      let t2 := fun x => (s2 x : EReal)
      let a0 := top ⊥ t0
      let a1 := top a0 t1
      let a2 := top a1 t2
      step a1 a2 (step a0 a1 (step ⊥ a0 0 t0 v0) t1 v1) t2 v2
        = part M t0 v0 + part M t1 v1 + part M t2 v2 := by
  obtain ⟨r0, h0⟩ := top_real hn ⊥ bot_ne_top s0
  obtain ⟨r1, h1⟩ := top_real hn r0 (EReal.coe_ne_top _) s1
  obtain ⟨r2, h2⟩ := top_real hn r1 (EReal.coe_ne_top _) s2
  refine ⟨r2, fun v0 v1 v2 => ?_⟩
  dsimp only
  rw [h0, h1, h2]
  have e0 : step ⊥ (r0 : EReal) 0 (fun x => (s0 x : EReal)) v0 = part r0 (fun x => (s0 x : EReal)) v0 := by
    unfold step part; rw [mul_zero, zero_add]
  have e1 (acc : EReal) : step (r0 : EReal) r1 acc (fun x => (s1 x : EReal)) v1
      = Ideal.exp2 ((r0 : EReal) - r1) * acc + part r1 (fun x => (s1 x : EReal)) v1 := rfl
  have e2 (acc : EReal) : step (r1 : EReal) r2 acc (fun x => (s2 x : EReal)) v2
      = Ideal.exp2 ((r1 : EReal) - r2) * acc + part r2 (fun x => (s2 x : EReal)) v2 := rfl
  rw [e0, e1, e2, part_shift]
  congr 1
  rw [← part_shift r1 r2 s0, ← part_shift r1 r2 s1, ← EReal.coe_sub, Ideal.exp2_coe]
  exact EReal.left_distrib_of_nonneg_of_ne_top
    (EReal.coe_nonneg.2 (Real.rpow_nonneg (by norm_num) _)) (EReal.coe_ne_top _) _ _

/-- A weighted sum divided by the sum of its weights is the sum at the divided weights. -/
theorem normalise {ι : Type*} [Fintype ι] [Nonempty ι] (w : ι → ℝ) (hw : ∀ i, 0 < w i) (v : ι → EReal) :
    Ideal.div (∑ i, (w i : EReal) * v i) (∑ i, (w i : EReal) * 1)
      = ∑ i, v i * Ideal.div (w i : EReal) (∑ j, (w j : EReal)) := by
  have hW : 0 < ∑ i, w i := Finset.sum_pos (fun i _ => hw i) Finset.univ_nonempty
  simp only [mul_one]
  rw [← coe_sum, Ideal.div_coe hW.ne', mul_comm, mul_sum _ _ (by positivity)]
  refine Finset.sum_congr rfl fun i _ => ?_
  rw [Ideal.div_coe hW.ne', ← mul_assoc, mul_comm (v i)]
  congr 1
  rw [mul_comm]

/-- Weights to the base two at scores divided by `log 2`, divided by their sum, are the weights to the
    base `e` divided by theirs, whatever the two shifts are. -/
theorem base {ι : Type*} [Fintype ι] [Nonempty ι] (t : ι → ℝ) (M μ : ℝ) (i : ι) :
    Ideal.div (Ideal.exp2 (((t i * (Real.log 2)⁻¹ : ℝ) : EReal) - M))
        (∑ j, Ideal.exp2 (((t j * (Real.log 2)⁻¹ : ℝ) : EReal) - M))
      = Ideal.div (Ideal.exp ((t i : EReal) - μ)) (∑ j, Ideal.exp ((t j : EReal) - μ)) := by
  have hl : Real.log 2 ≠ 0 := (Real.log_pos (by norm_num)).ne'
  have key (j : ι) : (2 : ℝ) ^ (t j * (Real.log 2)⁻¹ - M)
      = Real.exp (μ - M * Real.log 2) * Real.exp (t j - μ) := by
    rw [Real.rpow_def_of_pos (by norm_num), ← Real.exp_add]
    congr 1
    field_simp
    ring
  have e1 (j : ι) : Ideal.exp2 (((t j * (Real.log 2)⁻¹ : ℝ) : EReal) - M)
      = ((Real.exp (μ - M * Real.log 2) * Real.exp (t j - μ) : ℝ) : EReal) := by
    rw [← key, ← EReal.coe_sub, Ideal.exp2_coe]; rfl
  have e2 (j : ι) : Ideal.exp ((t j : EReal) - μ) = ((Real.exp (t j - μ) : ℝ) : EReal) := by
    rw [← EReal.coe_sub]; rfl
  have hW : 0 < ∑ j, Real.exp (t j - μ) := Finset.sum_pos (fun _ _ => Real.exp_pos _) Finset.univ_nonempty
  have hC := Real.exp_pos (μ - M * Real.log 2)
  simp only [e1, e2]
  rw [← coe_sum, ← coe_sum, ← Finset.mul_sum, Ideal.div_coe (mul_pos hC hW).ne', Ideal.div_coe hW.ne',
    ← EReal.coe_mul, ← EReal.coe_mul]
  congr 1
  field_simp

/-- A sum over three times as many indices, cut into three. -/
theorem sum_three {n N : ℕ} (h : N = n + n + n) (f : Fin N → EReal) :
    ∑ i, f i = ∑ x : Fin n, f ⟨x, by omega⟩ + ∑ x : Fin n, f ⟨n + x, by omega⟩
      + ∑ x : Fin n, f ⟨n + n + x, by omega⟩ := by
  subst h
  rw [Fin.sum_univ_add, Fin.sum_univ_add]
  rfl

/-- **One row of attention.** Scores `t` to the base `e`; the three parts taken at the scores divided by
    `log 2`, the last bound and the sum of the weights found on the way, give the values summed at
    the softmax of `t`. -/
theorem attention {n N : ℕ} (hn : 0 < n) (h : N = n + n + n) (t : Fin N → ℝ) (μ : ℝ) (v : Fin N → EReal)
    (s0 s1 s2 v0 v1 v2 u0 u1 u2 : Fin n → EReal)
    (hs0 : ∀ x : Fin n, s0 x = ((t ⟨x, by omega⟩ * (Real.log 2)⁻¹ : ℝ) : EReal))
    (hs1 : ∀ x : Fin n, s1 x = ((t ⟨n + x, by omega⟩ * (Real.log 2)⁻¹ : ℝ) : EReal))
    (hs2 : ∀ x : Fin n, s2 x = ((t ⟨n + n + x, by omega⟩ * (Real.log 2)⁻¹ : ℝ) : EReal))
    (hv0 : ∀ x : Fin n, v0 x = v ⟨x, by omega⟩) (hv1 : ∀ x : Fin n, v1 x = v ⟨n + x, by omega⟩)
    (hv2 : ∀ x : Fin n, v2 x = v ⟨n + n + x, by omega⟩)
    (hu0 : ∀ x, u0 x = 1) (hu1 : ∀ x, u1 x = 1) (hu2 : ∀ x, u2 x = 1) :
    Ideal.div
        (step (top (top ⊥ s0) s1) (top (top (top ⊥ s0) s1) s2)
          (step (top ⊥ s0) (top (top ⊥ s0) s1) (step ⊥ (top ⊥ s0) 0 s0 v0) s1 v1) s2 v2)
        (step (top (top ⊥ s0) s1) (top (top (top ⊥ s0) s1) s2)
          (step (top ⊥ s0) (top (top ⊥ s0) s1) (step ⊥ (top ⊥ s0) 0 s0 u0) s1 u1) s2 u2)
      = ∑ i, v i * Ideal.div (Ideal.exp ((t i : EReal) - μ)) (∑ j, Ideal.exp ((t j : EReal) - μ)) := by
  have : Nonempty (Fin N) := ⟨⟨0, by omega⟩⟩
  obtain rfl := funext hs0
  obtain rfl := funext hs1
  obtain rfl := funext hs2
  obtain rfl := funext hv0
  obtain rfl := funext hv1
  obtain rfl := funext hv2
  obtain rfl := funext hu0
  obtain rfl := funext hu1
  obtain rfl := funext hu2
  obtain ⟨M, hM⟩ := three hn (fun x => t ⟨x, by omega⟩ * (Real.log 2)⁻¹)
    (fun x => t ⟨n + x, by omega⟩ * (Real.log 2)⁻¹) (fun x => t ⟨n + n + x, by omega⟩ * (Real.log 2)⁻¹)
  have hw (f : Fin N → EReal) : ∑ i, Ideal.exp2 (((t i * (Real.log 2)⁻¹ : ℝ) : EReal) - M) * f i
      = ∑ i, ((((2 : ℝ) ^ (t i * (Real.log 2)⁻¹ - M) : ℝ)) : EReal) * f i := by
    refine Finset.sum_congr rfl fun i _ => ?_
    rw [← EReal.coe_sub, Ideal.exp2_coe]; rfl
  rw [hM, hM]
  unfold part
  rw [← sum_three h (fun i => Ideal.exp2 (((t i * (Real.log 2)⁻¹ : ℝ) : EReal) - M) * v i),
    ← sum_three h (fun i => Ideal.exp2 (((t i * (Real.log 2)⁻¹ : ℝ) : EReal) - M) * 1), hw v, hw fun _ => 1,
    normalise _ (fun i => Real.rpow_pos_of_pos (by norm_num) _)]
  refine Finset.sum_congr rfl fun i _ => ?_
  rw [← base t M μ i]
  have e (j : Fin N) : Ideal.exp2 (((t j * (Real.log 2)⁻¹ : ℝ) : EReal) - M)
      = (((2 : ℝ) ^ (t j * (Real.log 2)⁻¹ - M) : ℝ) : EReal) := by
    rw [← EReal.coe_sub, Ideal.exp2_coe]; rfl
  simp only [e]

end Cert.Softmax
end
-- ==== Proof.Attention.Body.lean ====
module
public import proofs.«01_k».proof.Proof.Gen.KernelIdeal.Skeleton
public import Idealize.ShloMosaic.Lib.Pipeline.ValueKit
public import Idealize.ShloMosaic.Lib.Pointwise
public import proofs.«01_k».proof.Proof.Attention.Softmax
@[expose] public section
set_option maxRecDepth 16384

/-! # What one grid point of the attention computes

A grid point holds 256 rows of two neighbouring heads side by side. The rows of the first head (lanes
below 64) and those of the second are stacked to 512 rows, each with zeros in the other head's lanes;
the scores, the running bound and the weighted sums are then kept for the 512 rows together, in three
parts of 2816 keys. -/

noncomputable section
open Idealize.ShloMosaic Idealize.ShloMosaic.TcCoe Idealize.SL.Sem
namespace Cert.KernelIdeal.Att
open Cert.KernelIdeal Cert.KernelIdeal.Gen Cert.Softmax

theorem ofBits_bot : Ideal.ofBits .f32 0xFF800000#32 = ⊥ := by
  simp [Ideal.ofBits, Ideal.ieee]

/-- The stacked queries times the keys of a part. -/
def scores (x : Vec Ideal S1x256x128 .bf16) (K : Vec Ideal S1x1x2816x128 .bf16) : FVec Ideal S512x2816 .f32 :=
  k0_pay6 x K

theorem pay6_eq (x : Vec Ideal S1x256x128 .bf16) (K : Vec Ideal S1x1x2816x128 .bf16) :
    k0_pay6 x K = scores x K := rfl

theorem pay7_eq (x : Vec Ideal S1x256x128 .bf16) (K : Vec Ideal S1x1x2816x128 .bf16) :
    k0_pay7 x K = scores x K := rfl

theorem pay10_eq (x : Vec Ideal S1x256x128 .bf16) (K : Vec Ideal S1x1x2816x128 .bf16) :
    k0_pay10 (k0_pay3 x) K = scores x K := rfl

/-- The running bound after a part with scores `s`. -/
def bound (a : FVec Ideal S512x1 .f32) (s : FVec Ideal S512x2816 .f32) : FVec Ideal S512x1 .f32 := k0_pay8 a s

theorem pay11_eq (a : FVec Ideal S512x1 .f32) (s s' : FVec Ideal S512x2816 .f32) :
    k0_pay11 a s s' = bound (bound a s) s' := rfl

/-- The weights of a part with scores `s` at the bound `b`. -/
def weights (b : FVec Ideal S512x1 .f32) (s : FVec Ideal S512x2816 .f32) : FVec Ideal S512x2816 .f32 :=
  exp2 (subf s (broadcastTo S512x2816 b broadcasts_S512x1_S512x2816))

theorem pay12_eq (a : FVec Ideal S512x1 .f32) (s s' : FVec Ideal S512x2816 .f32) :
    k0_pay12 a s s' = weights (bound (bound a s) s') s' := rfl

/-- The weighted sums carried from the bound `a` to the bound `b`, with a part of weights `p` added. -/
def carry (a b : FVec Ideal S512x1 .f32) (acc : FVec Ideal S512x128 .f32) (p : FVec Ideal S512x2816 .f32)
    (v : Vec Ideal S1x1x2816x128 .bf16) : FVec Ideal S512x128 .f32 :=
  addf (mulf (broadcastTo S512x128 (exp2 (subf a b)) broadcasts_S512x1_S512x128) acc)
    (matmul (φ₁ := .bf16) (φ₂ := .bf16) dot_S512x2816_S2816x128_S512x128_1_0_0_1_n_n none (truncf .bf16 p bitsLt_bf16_f32)
      (shapeCast S2816x128 v shapeCasts_S1x1x2816x128_S2816x128) (constant S512x128 .f32 0x00000000#32))

theorem pay9_eq (a : FVec Ideal S512x1 .f32) (acc : FVec Ideal S512x128 .f32) (s : FVec Ideal S512x2816 .f32)
    (v : Vec Ideal S1x1x2816x128 .bf16) :
    k0_pay9 a acc s v = carry a (bound a s) acc (weights (bound a s) s) v := rfl

/-- The weighted sums divided by the sums of the weights, which stand 64 lanes further, and the two heads
    put side by side again. -/
def divide (acc : FVec Ideal S512x128 .f32) : FVec Ideal S1x256x128 .bf16 :=
  let q := divf acc (dynamicRotate 1 64#32 none acc rotates_S512x128_d1)
  shapeCast S1x256x128 (truncf .bf16 (select k0_pay2
    (extractStridedSlice S256x128 ![0, 0] q slices_S512x128_o0_0_S256x128)
    (dynamicRotate 1 64#32 none (extractStridedSlice S256x128 ![256, 0] q slices_S512x128_o256_0_S256x128)
      rotates_S256x128_d1)) bitsLt_bf16_f32) shapeCasts_S256x128_S1x256x128

theorem pay1_eq (a b : FVec Ideal S512x1 .f32) (acc : FVec Ideal S512x128 .f32) (p s : FVec Ideal S512x2816 .f32)
    (v v' : Vec Ideal S1x1x2816x128 .bf16) :
    k0_pay1 k0_pay2 a acc b p v s v'
      = divide (carry b (bound b s) (carry a b acc p v) (weights (bound b s) s) v') := rfl

/-! ## The same, read at an index -/

theorem lane (l : Fin 128) : IntOp.cmpi CmpIPredicate.slt (BitVec.ofNat 32 ↑l) 64#32 = if l.val < 64 then 1#1 else 0#1 := by
  revert l; decide +kernel

theorem stacked (x : Vec Ideal S1x256x128 .bf16) (R : Fin 512) (d : Fin 128) :
    k0_pay3 x (ix2 R d) = if h : R.val < 256 then (if d.val < 64 then x (ix3 0 ⟨R, h⟩ d) else 0)
      else (if d.val < 64 then 0 else x (ix3 0 ⟨R.val - 256, by omega⟩ d)) := by
  pointwise [k0_pay3, k0_pay2]
  simp only [lane]
  by_cases h : R.val < 256 <;> by_cases h' : d.val < 64 <;> simp [h, h', Scalar.select]

theorem scores_apply (x : Vec Ideal S1x256x128 .bf16) (K : Vec Ideal S1x1x2816x128 .bf16) (R : Fin 512) (j : Fin 2816) :
    scores x K (ix2 R j) = ∑ d : Fin 128, k0_pay3 x (ix2 R d) * K (ix4 0 0 j d) := by
  pointwise [scores, k0_pay6]

theorem sum_lanes (f : Fin 128 → EReal) :
    ∑ d, f d = ∑ e : Fin 64, f ⟨e, by omega⟩ + ∑ e : Fin 64, f ⟨64 + e, by omega⟩ :=
  (Fin.sum_univ_add (a := 64) (b := 64) f)

/-- The scores of the first head's rows. -/
theorem scores_first (x : Vec Ideal S1x256x128 .bf16) (K : Vec Ideal S1x1x2816x128 .bf16) (r : Fin 256) (j : Fin 2816) :
    scores x K (ix2 ⟨r, by omega⟩ j) = ∑ e : Fin 64, x (ix3 0 r ⟨e, by omega⟩) * K (ix4 0 0 j ⟨e, by omega⟩) := by
  rw [scores_apply, sum_lanes]
  have h2 : ∑ e : Fin 64, k0_pay3 x (ix2 ⟨r, by omega⟩ ⟨64 + e, by omega⟩) * K (ix4 0 0 j ⟨64 + e, by omega⟩) = 0 := by
    refine Finset.sum_eq_zero fun e _ => ?_
    rw [stacked, dif_pos r.isLt, if_neg (by simp), zero_mul]
  rw [h2, add_zero]
  refine Finset.sum_congr rfl fun e _ => ?_
  rw [stacked, dif_pos r.isLt, if_pos e.isLt]

/-- The scores of the second head's rows. -/
theorem scores_second (x : Vec Ideal S1x256x128 .bf16) (K : Vec Ideal S1x1x2816x128 .bf16) (r : Fin 256) (j : Fin 2816) :
    scores x K (ix2 ⟨256 + r, by omega⟩ j)
      = ∑ e : Fin 64, x (ix3 0 r ⟨64 + e, by omega⟩) * K (ix4 0 0 j ⟨64 + e, by omega⟩) := by
  rw [scores_apply, sum_lanes]
  have h2 : ∑ e : Fin 64, k0_pay3 x (ix2 ⟨256 + r, by omega⟩ ⟨e, by omega⟩) * K (ix4 0 0 j ⟨e, by omega⟩) = 0 := by
    refine Finset.sum_eq_zero fun e _ => ?_
    rw [stacked, dif_neg (by simp), if_pos e.isLt, zero_mul]
  rw [h2, zero_add]
  refine Finset.sum_congr rfl fun e _ => ?_
  rw [stacked, dif_neg (by simp), if_neg (by simp)]
  congr 3
  exact Fin.ext (by simp)

theorem bound_apply (a : FVec Ideal S512x1 .f32) (s : FVec Ideal S512x2816 .f32) (R : Fin 512) :
    bound a s (ix2 R 0) = top (a (ix2 R 0)) fun x => s (ix2 R x) := by
  pointwise [bound, k0_pay8]
  rw [ofBits_bot]
  rfl

theorem weights_apply (b : FVec Ideal S512x1 .f32) (s : FVec Ideal S512x2816 .f32) (R : Fin 512) (j : Fin 2816) :
    weights b s (ix2 R j) = Ideal.exp2 (s (ix2 R j) - b (ix2 R 0)) := by
  pointwise [weights]
  rfl

theorem carry_apply (a b : FVec Ideal S512x1 .f32) (acc : FVec Ideal S512x128 .f32) (p : FVec Ideal S512x2816 .f32)
    (v : Vec Ideal S1x1x2816x128 .bf16) (R : Fin 512) (l : Fin 128) :
    carry a b acc p v (ix2 R l)
      = Ideal.exp2 (a (ix2 R 0) - b (ix2 R 0)) * acc (ix2 R l) + ∑ x, p (ix2 R x) * v (ix4 0 0 x l) := by
  pointwise [carry]
  rfl

/-- A part added, at an index: one step of the row's softmax. -/
theorem carry_step (a : FVec Ideal S512x1 .f32) (s : FVec Ideal S512x2816 .f32) (acc : FVec Ideal S512x128 .f32)
    (v : Vec Ideal S1x1x2816x128 .bf16) (R : Fin 512) (l : Fin 128) :
    carry a (bound a s) acc (weights (bound a s) s) v (ix2 R l)
      = step (a (ix2 R 0)) (top (a (ix2 R 0)) fun x => s (ix2 R x)) (acc (ix2 R l)) (fun x => s (ix2 R x))
          fun x => v (ix4 0 0 x l) := by
  rw [carry_apply, bound_apply]
  simp only [weights_apply, bound_apply]
  rfl

theorem divide_apply (acc : FVec Ideal S512x128 .f32) (r : Fin 256) (l : Fin 128) :
    divide acc (ix3 0 r l) = if l.val < 64
      then Ideal.div (acc (ix2 ⟨r, by omega⟩ l)) (acc (ix2 ⟨r, by omega⟩ ⟨(l.val + 64) % 128, by omega⟩))
      else Ideal.div (acc (ix2 ⟨256 + r, by omega⟩ ⟨(l.val + 64) % 128, by omega⟩)) (acc (ix2 ⟨256 + r, by omega⟩ l)) := by
  pointwise [divide, k0_pay2]
  rw [lane]
  have e1 : (l.val + 128 - 64) % 128 = (l.val + 64) % 128 := by omega
  have e2 : ((l.val + 64) % 128 + 128 - 64) % 128 = l.val := by omega
  have e3 : (l.val + 64 + 64) % 128 = l.val := by omega
  by_cases h : l.val < 64 <;> simp [h, Scalar.select, e1, e2, e3]

theorem first_bound (R : Fin 512) : (k0_pay4 (F := Ideal)) (ix2 R 0) = ⊥ := by
  pointwise [k0_pay4]
  exact ofBits_bot

theorem first_sum (R : Fin 512) (l : Fin 128) : (k0_pay5 (F := Ideal)) (ix2 R l) = 0 := by
  pointwise [k0_pay5]

/-- What the grid point stores, from its queries and the three parts of its keys and values. -/
def attend (x : Vec Ideal S1x256x128 .bf16) (K0 K1 K2 V0 V1 V2 : Vec Ideal S1x1x2816x128 .bf16) :
    FVec Ideal S1x256x128 .bf16 :=
  k0_pay1 k0_pay2 (k0_pay8 k0_pay4 (k0_pay6 x K0)) (k0_pay9 k0_pay4 k0_pay5 (k0_pay6 x K0) V0)
    (k0_pay11 k0_pay4 (k0_pay6 x K0) (k0_pay7 x K1)) (k0_pay12 k0_pay4 (k0_pay6 x K0) (k0_pay7 x K1)) V1
    (k0_pay10 (k0_pay3 x) K2) V2

/-- The three parts of row `R` at lane `l`. -/
def row (s0 s1 s2 : Fin 2816 → EReal) (v0 v1 v2 : Fin 2816 → EReal) : EReal :=
  step (top (top ⊥ s0) s1) (top (top (top ⊥ s0) s1) s2)
    (step (top ⊥ s0) (top (top ⊥ s0) s1) (step ⊥ (top ⊥ s0) 0 s0 v0) s1 v1) s2 v2

theorem attend_eq (x : Vec Ideal S1x256x128 .bf16) (K0 K1 K2 V0 V1 V2 : Vec Ideal S1x1x2816x128 .bf16) :
    ∃ acc : FVec Ideal S512x128 .f32, attend x K0 K1 K2 V0 V1 V2 = divide acc ∧
      ∀ (R : Fin 512) (l : Fin 128), acc (ix2 R l)
        = row (fun j => scores x K0 (ix2 R j)) (fun j => scores x K1 (ix2 R j)) (fun j => scores x K2 (ix2 R j))
            (fun j => V0 (ix4 0 0 j l)) (fun j => V1 (ix4 0 0 j l)) (fun j => V2 (ix4 0 0 j l)) := by
  refine ⟨_, pay1_eq .., fun R l => ?_⟩
  rw [pay7_eq, pay10_eq, pay11_eq, pay12_eq, pay9_eq, pay6_eq]
  have e0 : k0_pay8 k0_pay4 (scores x K0) = bound k0_pay4 (scores x K0) := rfl
  rw [e0, carry_step, carry_step, carry_step, bound_apply, bound_apply, first_bound, first_sum]
  rfl

/-- **One grid point.** At row `r` and lane `d` of head `h` of the two, with `t` the scores to the base `e` and `v` the
    values of the lane: the values at the softmax of the scores. -/
theorem attend_apply (x : Vec Ideal S1x256x128 .bf16) (K0 K1 K2 V0 V1 V2 : Vec Ideal S1x1x2816x128 .bf16)
    (r : Fin 256) (h : Fin 2) (d : Fin 64) (t : Fin 8448 → ℝ) (μ : ℝ) (v : Fin 8448 → EReal)
    (hK0 : ∀ j : Fin 2816, ∑ e : Fin 64, x (ix3 0 r ⟨64 * h + e, by omega⟩) * K0 (ix4 0 0 j ⟨64 * h + e, by omega⟩)
      = ((t ⟨j, by omega⟩ * (Real.log 2)⁻¹ : ℝ) : EReal))
    (hK1 : ∀ j : Fin 2816, ∑ e : Fin 64, x (ix3 0 r ⟨64 * h + e, by omega⟩) * K1 (ix4 0 0 j ⟨64 * h + e, by omega⟩)
      = ((t ⟨2816 + j, by omega⟩ * (Real.log 2)⁻¹ : ℝ) : EReal))
    (hK2 : ∀ j : Fin 2816, ∑ e : Fin 64, x (ix3 0 r ⟨64 * h + e, by omega⟩) * K2 (ix4 0 0 j ⟨64 * h + e, by omega⟩)
      = ((t ⟨2816 + 2816 + j, by omega⟩ * (Real.log 2)⁻¹ : ℝ) : EReal))
    (hV0 : ∀ j : Fin 2816, V0 (ix4 0 0 j ⟨d, by omega⟩) = v ⟨j, by omega⟩)
    (hV1 : ∀ j : Fin 2816, V1 (ix4 0 0 j ⟨d, by omega⟩) = v ⟨2816 + j, by omega⟩)
    (hV2 : ∀ j : Fin 2816, V2 (ix4 0 0 j ⟨d, by omega⟩) = v ⟨2816 + 2816 + j, by omega⟩)
    (hU0 : ∀ j : Fin 2816, V0 (ix4 0 0 j ⟨64 + d, by omega⟩) = 1)
    (hU1 : ∀ j : Fin 2816, V1 (ix4 0 0 j ⟨64 + d, by omega⟩) = 1)
    (hU2 : ∀ j : Fin 2816, V2 (ix4 0 0 j ⟨64 + d, by omega⟩) = 1) :
    attend x K0 K1 K2 V0 V1 V2 (ix3 0 r ⟨64 * h + d, by omega⟩)
      = ∑ i, v i * Ideal.div (Ideal.exp ((t i : EReal) - μ)) (∑ j, Ideal.exp ((t j : EReal) - μ)) := by
  obtain ⟨acc, e, ha⟩ := attend_eq x K0 K1 K2 V0 V1 V2
  rw [e, divide_apply]
  have hh : h = 0 ∨ h = 1 := by omega
  rcases hh with rfl | rfl
  · have e1 : (⟨64 * ((0 : Fin 2) : ℕ) + d, by simp; omega⟩ : Fin 128) = ⟨d, by omega⟩ := Fin.ext (by simp)
    have e2 : (⟨(64 * ((0 : Fin 2) : ℕ) + d + 64) % 128, by omega⟩ : Fin 128) = ⟨64 + d, by omega⟩ := Fin.ext (by simp; omega)
    rw [if_pos (by simp), ha, ha]
    simp only [e1, e2, row]
    exact attention (by norm_num) (by norm_num) t μ v _ _ _ _ _ _ _ _ _
      (fun j => by rw [scores_first, ← hK0 j]; simp) (fun j => by rw [scores_first, ← hK1 j]; simp)
      (fun j => by rw [scores_first, ← hK2 j]; simp) hV0 hV1 hV2 hU0 hU1 hU2
  · have e1 : (⟨64 * ((1 : Fin 2) : ℕ) + d, by simp; omega⟩ : Fin 128) = ⟨64 + d, by omega⟩ := Fin.ext (by simp)
    have e2 : (⟨(64 * ((1 : Fin 2) : ℕ) + d + 64) % 128, by omega⟩ : Fin 128) = ⟨d, by omega⟩ := Fin.ext (by simp; omega)
    rw [if_neg (by simp), ha, ha]
    simp only [e1, e2, row]
    exact attention (by norm_num) (by norm_num) t μ v _ _ _ _ _ _ _ _ _
      (fun j => by rw [scores_second, ← hK0 j]; simp) (fun j => by rw [scores_second, ← hK1 j]; simp)
      (fun j => by rw [scores_second, ← hK2 j]; simp) hV0 hV1 hV2 hU0 hU1 hU2

end Cert.KernelIdeal.Att
end
-- ==== Proof.Attention.Reference.lean ====
module
public import proofs.«01_k».proof.Proof.Gen.ReferenceIdeal.Run
public import Idealize.ShloMosaic.Lib.Pointwise
public import proofs.«01_k».proof.Proof.Attention.Softmax
@[expose] public section
set_option maxRecDepth 16384

/-! # The attention's reference, read at an index

Scores, exponentials at the row's largest score, weights, values: the four steps of the reference's term,
each read at an index, and then the whole. -/

noncomputable section
open Idealize.ShloMosaic Idealize.ShloMosaic.TcCoe Idealize.SL.Sem
namespace Cert.ReferenceIdeal.Att
open Cert.ReferenceIdeal Cert.ReferenceIdeal.Gen Cert.Softmax

/-- The scores of every query of every head against every key of its group. -/
def scoresOf (Q : FVec Ideal S2x8448x1024 .f32) (K : FVec Ideal S2x8448x4x64 .f32) : FVec Ideal S2x4x4x8192x8448 .f32 :=
  transpose S2x4x4x8192x8448 [0, 1, 4, 3, 2] (Host.dotGeneral dot_S2x8448x4x64_S2x8192x4x4x64_S2x4x8448x8192x4_3_4_1_13_02_02 none K (extractStridedSlice S2x8192x4x4x64 ![0, 256, 0, 0, 0] (mulf (shapeCast S2x8448x4x4x64 Q shapeCasts_S2x8448x1024_S2x8448x4x4x64) (broadcastInDim S2x8448x4x4x64 ![] bcast_S_S2x8448x4x4x64 (constant S_ .f32 0x3E000000#32))) slices_S2x8448x4x4x64_S2x8192x4x4x64_0_256_0_0_0)) transposes_S2x4x8448x8192x4_S2x4x4x8192x8448_0_1_4_3_2

/-- The largest score of each row, from −∞. -/
def largest (S : FVec Ideal S2x4x4x8192x8448 .f32) : FVec Ideal S2x4x4x8192 .f32 :=
  maximumf (broadcastInDim S2x4x4x8192 ![] bcast_S_S2x4x4x8192 (constant S_ .f32 0xFF800000#32)) (Host.reduce FloatOps.maximumf S (constant S_ .f32 0xFF800000#32) reducesTo_S2x4x4x8192x8448_S2x4x4x8192_d4 h_S_)

/-- The exponentials of the scores less the bound of their row. -/
def exps (S : FVec Ideal S2x4x4x8192x8448 .f32) (M : FVec Ideal S2x4x4x8192 .f32) : FVec Ideal S2x4x4x8192x8448 .f32 :=
  Host.exp (subf S (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 M)))

/-- The exponentials divided by the sum of their row. -/
def shares (E : FVec Ideal S2x4x4x8192x8448 .f32) : FVec Ideal S2x4x4x8192x8448 .f32 :=
  Host.divf E (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 (Host.reduceAdd E (constant S_ .f32 0x00000000#32) reducesTo_S2x4x4x8192x8448_S2x4x4x8192_d4 h_S_)))

/-- The values summed at the weights, heads side by side. -/
def valuesOf (P : FVec Ideal S2x4x4x8192x8448 .f32) (V : FVec Ideal S2x8448x4x64 .f32) : FVec Ideal S2x8192x1024 .bf16 :=
  truncf .bf16 (shapeCast S2x8192x1024 (transpose S2x8192x4x4x64 [0, 4, 1, 3, 2] (Host.dotGeneral dot_S2x8448x4x64_S2x4x4x8192x8448_S2x4x64x4x8192_1_4_3_23_02_01 none V P) transposes_S2x4x64x4x8192_S2x8192x4x4x64_0_4_1_3_2) shapeCasts_S2x8192x4x4x64_S2x8192x1024) bitsLt_bf16_f32

/-- The reference's whole term. -/
abbrev term (Q : FVec Ideal S2x8448x1024 .f32) (K V : FVec Ideal S2x8448x4x64 .f32) : FVec Ideal S2x8192x1024 .bf16 :=
  valuesOf (shares (exps (scoresOf Q K) (largest (scoresOf Q K)))) V

theorem ofBits_bot : Ideal.ofBits .f32 0xFF800000#32 = ⊥ := by
  simp [Ideal.ofBits, Ideal.ieee]

theorem scoresOf_apply (Q : FVec Ideal S2x8448x1024 .f32) (K : FVec Ideal S2x8448x4x64 .f32) (b : Fin 2) (kv g : Fin 4)
    (i : Fin 8192) (j : Fin 8448) :
    scoresOf Q K (ix5 b kv g i j) = ∑ e : Fin 64, K (ix4 b j kv e)
      * (Q (ix3 b ⟨256 + i, by omega⟩ ⟨kv.val * 256 + g.val * 64 + e.val, by omega⟩) * Ideal.ofBits .f32 0x3E000000#32) := by
  pointwise [scoresOf]

/-- The host's maximum over the last of five axes, from −∞. -/
theorem reduce_max {n0 n1 n2 n3 n : ℕ} (x : FVec Ideal ⟨5, ![n0, n1, n2, n3, n]⟩ .f32)
    (h' : (⟨5, ![n0, n1, n2, n3, n]⟩ : Shape).ReducesTo [4] ⟨4, ![n0, n1, n2, n3]⟩)
    (h : (⟨5, ![n0, n1, n2, n3, n]⟩ : Shape).Reduces [4] ⟨4, ![n0, n1, n2, n3]⟩) (hu : 0 < (⟨0, ![]⟩ : Shape).numel)
    (a : Fin n0) (b : Fin n1) (c : Fin n2) (d : Fin n3) :
    Host.reduce FloatOps.maximumf x (constant (⟨0, ![]⟩ : Shape) .f32 0xFF800000#32) h' hu (ix4 a b c d)
      = Finset.univ.fold max ⊥ fun k : Fin n => x (ix5 a b c d k) := by
  rw [Host.reduce_eq_fold_single FloatOps.maximumf x _ h' h hu]
  have hf : (x ∘ h.lift (ix4 a b c d)) = fun k : Fin n => x (ix5 a b c d k) := by
    funext k
    refine congrArg x (funext fun c => Fin.ext ?_)
    fin_cases c <;> rfl
  have hb : (constant (F := Ideal) (⟨0, ![]⟩ : Shape) .f32 0xFF800000#32) (Shape.Idx.first hu) = ⊥ := ofBits_bot
  rw [hb]
  exact congrArg (fun f => Finset.fold max ⊥ f (Finset.univ : Finset (Fin n))) hf

theorem reduces_scores : S2x4x4x8192x8448.Reduces [4] S2x4x4x8192 := by decide

theorem largest_apply (S : FVec Ideal S2x4x4x8192x8448 .f32) (b : Fin 2) (kv g : Fin 4) (i : Fin 8192) :
    largest S (ix4 b kv g i) = top ⊥ fun j : Fin 8448 => S (ix5 b kv g i j) := by
  unfold largest
  rw [maximumf_apply, reduce_max S _ reduces_scores h_S_ b kv g i]
  unfold top
  rw [← ofBits_bot]
  rfl

theorem exps_apply (S : FVec Ideal S2x4x4x8192x8448 .f32) (M : FVec Ideal S2x4x4x8192 .f32) (b : Fin 2) (kv g : Fin 4)
    (i : Fin 8192) (j : Fin 8448) :
    exps S M (ix5 b kv g i j) = Ideal.exp (S (ix5 b kv g i j) - M (ix4 b kv g i)) := by
  pointwise [exps]

theorem shares_apply (E : FVec Ideal S2x4x4x8192x8448 .f32) (b : Fin 2) (kv g : Fin 4) (i : Fin 8192) (j : Fin 8448) :
    shares E (ix5 b kv g i j) = Ideal.div (E (ix5 b kv g i j)) (∑ x : Fin 8448, E (ix5 b kv g i x)) := by
  pointwise [shares]

theorem valuesOf_apply (P : FVec Ideal S2x4x4x8192x8448 .f32) (V : FVec Ideal S2x8448x4x64 .f32) (b : Fin 2) (i : Fin 8192)
    (c : Fin 1024) :
    valuesOf P V (ix3 b i c) = ∑ x : Fin 8448, V (ix4 b x ⟨c.val / 256, by omega⟩ ⟨c.val % 64, by omega⟩)
      * P (ix5 b ⟨c.val / 256, by omega⟩ ⟨c.val / 64 % 4, by omega⟩ i x) := by
  pointwise [valuesOf]

/-- **The reference at an index**, for scores that are the reals `t`: the values at the softmax of `t`. -/
theorem term_apply (Q : FVec Ideal S2x8448x1024 .f32) (K V : FVec Ideal S2x8448x4x64 .f32) (b : Fin 2) (i : Fin 8192)
    (c : Fin 1024) (t : Fin 8448 → ℝ)
    (ht : ∀ j, ∑ e : Fin 64, K (ix4 b j ⟨c.val / 256, by omega⟩ e)
      * (Q (ix3 b ⟨256 + i, by omega⟩ ⟨c.val / 64 * 64 + e.val, by omega⟩) * Ideal.ofBits .f32 0x3E000000#32) = (t j : EReal)) :
    ∃ μ : ℝ, term Q K V (ix3 b i c) = ∑ j : Fin 8448, V (ix4 b j ⟨c.val / 256, by omega⟩ ⟨c.val % 64, by omega⟩)
      * Ideal.div (Ideal.exp ((t j : EReal) - μ)) (∑ x : Fin 8448, Ideal.exp ((t x : EReal) - μ)) := by
  obtain ⟨μ, hμ⟩ := top_real (n := 8448) (by norm_num) ⊥ bot_ne_top t
  refine ⟨μ, ?_⟩
  have hs (j : Fin 8448) : scoresOf Q K (ix5 b ⟨c.val / 256, by omega⟩ ⟨c.val / 64 % 4, by omega⟩ i j) = (t j : EReal) := by
    rw [scoresOf_apply, ← ht j]
    refine Finset.sum_congr rfl fun e _ => ?_
    have hc : (⟨(⟨c.val / 256, by omega⟩ : Fin 4).val * 256 + (⟨c.val / 64 % 4, by omega⟩ : Fin 4).val * 64 + e.val, by dsimp only; omega⟩ : Fin 1024)
        = ⟨c.val / 64 * 64 + e.val, by omega⟩ := Fin.ext (by dsimp only; omega)
    rw [hc]
  rw [term, valuesOf_apply]
  refine Finset.sum_congr rfl fun j _ => ?_
  rw [shares_apply]
  simp only [exps_apply, largest_apply, hs, hμ]

end Cert.ReferenceIdeal.Att
end
-- ==== Proof.Attention.Value.lean ====
module
public import proofs.«01_k».proof.Proof.Gen.KernelIdeal.Value
public import Idealize.ShloMosaic.Lib.Pipeline.ValueKit
public import Idealize.ShloMosaic.Lib.Pointwise
public import proofs.«01_k».proof.Proof.Attention.Body
public import proofs.«01_k».proof.Proof.Attention.Reference
@[expose] public section
set_option maxRecDepth 16384

/-! # The attention's result array

The blocks of a grid point as reads of the arguments, what the point stores there, and the array put together
from the 512 points. -/

noncomputable section
open Idealize.ShloMosaic Idealize.ShloMosaic.TcCoe Idealize.SL.Sem
namespace Cert.KernelIdeal.Att
open Cert.KernelIdeal Cert.KernelIdeal.Gen Cert.Softmax
variable (m : (ℓ : Loc nD τ sig) → Buf (Elt Ideal) ℓ)

/-- The blocks of a grid point `(batch, pair of heads, rows)`. -/
theorem idx : ∀ t : Fin cfg0.N, win0_0.index t = ![(grid0.coords t 0).val, (grid0.coords t 2).val + 1, (grid0.coords t 1).val]
    ∧ win0_1.index t = ![(grid0.coords t 0).val, (grid0.coords t 1).val / 2, 0, 0]
    ∧ win0_2.index t = ![(grid0.coords t 0).val, (grid0.coords t 1).val / 2, 0, 0]
    ∧ win0_3.index t = ![(grid0.coords t 0).val, (grid0.coords t 2).val, (grid0.coords t 1).val]
    ∧ (grid0.coords t 0).val < 2 ∧ (grid0.coords t 1).val < 8 ∧ (grid0.coords t 2).val < 32 :=
  (by decide +kernel : ∀ t : Fin grid0.N, _)

/-- The reference's scale. -/
theorem eighth : Ideal.ofBits .f32 0x3E000000#32 = ((1 / 8 : ℝ) : EReal) := by
  simp only [Ideal.ofBits, Ideal.ieee]
  simp [← EReal.coe_mul]
  norm_num

/-- The factor the queries are scaled by: an eighth, to the base two. -/
theorem factor : Ideal.div (Ideal.ofBits .f32 0x3E000000#32) (Ideal.log (Ideal.ofBits .f32 0x40000000#32))
    = ((1 / 8 * (Real.log 2)⁻¹ : ℝ) : EReal) := by
  have h2 : Ideal.ofBits .f32 0x40000000#32 = ((2 : ℝ) : EReal) := by
    simp only [Ideal.ofBits, Ideal.ieee]
    simp [← EReal.coe_mul]
    norm_num
  have hl : Real.log 2 ≠ 0 := (Real.log_pos (by norm_num)).ne'
  rw [h2, eighth, show Ideal.log ((2 : ℝ) : EReal) = ((Real.log 2 : ℝ) : EReal) from if_neg (by norm_num),
    Ideal.div_coe hl, ← EReal.coe_mul, one_div (Real.log 2)]

theorem win_q (c : Dev nD) (t : Fin cfg0.N) (r : Fin 256) (l : Fin 128) (b : Fin 2) (i : Fin 8448) (k : Fin 1024)
    (hb : b.val = (grid0.coords t 0).val) (hi : i.val = 256 * ((grid0.coords t 2).val + 1) + r)
    (hk : k.val = 128 * (grid0.coords t 1).val + l) :
    (iblk m c 0 t (ix3 0 r l) : EReal) = HMul.hMul (α := EReal) (m ((c : Thread nD τ).loc main_arg0) (ix3 b i k)) ((1 / 8 * (Real.log 2)⁻¹ : ℝ) : EReal) := by
  rw [← factor]
  blk_simp [iblk]
  entry_read
  pointwise
  rw [show ((View.whole main_v5).slice (win0_0.rect t)).emb (ix3 0 r l) = ix3 b i k by
    have hx := idx t
    blk_ext! [hx]]

theorem win_k (c : Dev nD) (t : Fin cfg0.N) (j : Fin 8448) (h : Fin 2) (e : Fin 64) (b : Fin 2) (g : Fin 4)
    (hb : b.val = (grid0.coords t 0).val) (hg : g.val = (grid0.coords t 1).val / 2) :
    iblk m c 1 t (ix4 0 0 j ⟨64 * h + e, by omega⟩) = (m ((c : Thread nD τ).loc main_arg1) (ix4 b j g e) : EReal) := by
  blk_simp [iblk]
  entry_read
  rw [show ((View.whole main_v9).slice (win0_1.rect t)).emb (ix4 0 0 j ⟨64 * h + e, by omega⟩)
      = ix4 b g j ⟨64 * h + e, by omega⟩ by
    have hx := idx t
    blk_ext! [hx]]
  pointwise
  split
  · refine congrArg (m (c, Proc.tc.devRef main_arg1)) ((ix4_inj ..).2 ⟨rfl, rfl, rfl, Fin.ext ?_⟩)
    simp only
    omega
  · refine congrArg (m (c, Proc.tc.devRef main_arg1)) ((ix4_inj ..).2 ⟨rfl, rfl, rfl, Fin.ext ?_⟩)
    simp only
    omega

theorem win_v (c : Dev nD) (t : Fin cfg0.N) (j : Fin 8448) (e : Fin 64) (b : Fin 2) (g : Fin 4)
    (hb : b.val = (grid0.coords t 0).val) (hg : g.val = (grid0.coords t 1).val / 2) :
    iblk m c 2 t (ix4 0 0 j ⟨e, by omega⟩) = (m ((c : Thread nD τ).loc main_arg2) (ix4 b j g e) : EReal) := by
  blk_simp [iblk]
  entry_read
  rw [show ((View.whole main_v12).slice (win0_2.rect t)).emb (ix4 0 0 j ⟨e, by omega⟩)
      = ix4 b g j ⟨e, by omega⟩ by
    have hx := idx t
    blk_ext! [hx]]
  pointwise

theorem win_one (c : Dev nD) (t : Fin cfg0.N) (j : Fin 8448) (e : Fin 64) :
    iblk m c 2 t (ix4 0 0 j ⟨64 + e, by omega⟩) = (1 : EReal) := by
  have hx := idx t
  blk_simp [iblk]
  entry_read
  rw [show ((View.whole main_v12).slice (win0_2.rect t)).emb (ix4 0 0 j ⟨64 + e, by omega⟩)
      = ix4 ⟨(grid0.coords t 0).val, by omega⟩ ⟨(grid0.coords t 1).val / 2, by omega⟩ j ⟨64 + e, by omega⟩ by
    blk_ext! [hx]]
  pointwise

/-- Row `j` of the part of the keys, or of the values, that starts at row `o`. -/
theorem part_apply (x : Vec Ideal S1x1x8448x128 .bf16) (o : ℕ) (h) (j : Fin 2816) (l : Fin 128) (ho : o + 2816 ≤ 8448) :
    View.ld x (Rect.unit (s := S1x1x8448x128) ![0, 0, o, 0] S1x1x2816x128.size h) (ix4 0 0 j l)
      = x (ix4 0 0 ⟨o + j, by omega⟩ l) := by
  pointwise

/-- What the grid point `t` stores at row `r`, lane `d` of its head `h`. -/
theorem point (c : Dev nD) (t : Fin cfg0.N)
    (hq : ∀ i, ∃ x : ℝ, m ((c : Thread nD τ).loc main_arg0) i = (x : EReal))
    (hk : ∀ i, ∃ x : ℝ, m ((c : Thread nD τ).loc main_arg1) i = (x : EReal))
    (r : Fin 256) (h : Fin 2) (d : Fin 64) (b : Fin 2) (i : Fin 8192) (k : Fin 1024)
    (hb : b.val = (grid0.coords t 0).val) (hi : i.val = 256 * (grid0.coords t 2).val + r)
    (hkc : k.val = 128 * (grid0.coords t 1).val + (64 * h + d))
    (K V : Vec Ideal S1x1x8448x128 .bf16) (eK : iblk m c 1 t = K) (eV : iblk m c 2 t = V)
    (K0 K1 K2 V0 V1 V2 : Vec Ideal S1x1x2816x128 .bf16)
    (h0 : ∀ j l, K0 (ix4 0 0 j l) = K (ix4 0 0 ⟨0 + j, by omega⟩ l))
    (h1 : ∀ j l, K1 (ix4 0 0 j l) = K (ix4 0 0 ⟨2816 + j, by omega⟩ l))
    (h2 : ∀ j l, K2 (ix4 0 0 j l) = K (ix4 0 0 ⟨5632 + j, by omega⟩ l))
    (h0' : ∀ j l, V0 (ix4 0 0 j l) = V (ix4 0 0 ⟨0 + j, by omega⟩ l))
    (h1' : ∀ j l, V1 (ix4 0 0 j l) = V (ix4 0 0 ⟨2816 + j, by omega⟩ l))
    (h2' : ∀ j l, V2 (ix4 0 0 j l) = V (ix4 0 0 ⟨5632 + j, by omega⟩ l)) :
    attend (iblk m c 0 t) K0 K1 K2 V0 V1 V2
      (ix3 0 r ⟨64 * h + d, by omega⟩)
    = Cert.ReferenceIdeal.Att.term (m ((c : Thread nD τ).loc main_arg0)) (m ((c : Thread nD τ).loc main_arg1))
        (m ((c : Thread nD τ).loc main_arg2)) (ix3 b i k) := by
  choose q eq using hq
  choose y ey using hk
  let s (j : Fin 8448) : ℝ := ∑ e : Fin 64, y (ix4 b j ⟨k.val / 256, by omega⟩ e)
    * (q (ix3 b ⟨256 + i, by omega⟩ ⟨k.val / 64 * 64 + e.val, by omega⟩) * (1 / 8))
  obtain ⟨μ, e⟩ := Cert.ReferenceIdeal.Att.term_apply (m ((c : Thread nD τ).loc main_arg0))
    (m ((c : Thread nD τ).loc main_arg1)) (m ((c : Thread nD τ).loc main_arg2)) b i k s (fun j => by
      rw [eighth]
      simp only [eq, ey, ← EReal.coe_mul]
      exact (coe_sum _ _).symm)
  rw [e]
  obtain ⟨X, eX⟩ : ∃ X : Vec Ideal S1x256x128 .bf16, iblk m c 0 t = X := ⟨_, rfl⟩
  have hs (j : Fin 8448) : ∑ e : Fin 64, X (ix3 0 r ⟨64 * h + e, by omega⟩) * K (ix4 0 0 j ⟨64 * h + e, by omega⟩)
      = ((s j * (Real.log 2)⁻¹ : ℝ) : EReal) := by
    rw [Finset.sum_mul, coe_sum, ← eX, ← eK]
    refine Finset.sum_congr rfl fun e _ => ?_
    rw [win_q m c t r ⟨64 * h + e, by omega⟩ b ⟨256 + i, by omega⟩ ⟨k.val / 64 * 64 + e, by omega⟩ hb
        (by dsimp only; omega) (by dsimp only; omega),
      win_k m c t j h e b ⟨k.val / 256, by omega⟩ hb (by dsimp only; omega), eq, ey, ← EReal.coe_mul, ← EReal.coe_mul]
    congr 1
    ring
  clear_value s
  have hv (j : Fin 8448) : V (ix4 0 0 j ⟨d, by omega⟩) = m ((c : Thread nD τ).loc main_arg2) (ix4 b j ⟨k.val / 256, by omega⟩ d) := by
    rw [← eV]
    exact win_v m c t j d b ⟨k.val / 256, by omega⟩ hb (by dsimp only; omega)
  have hu (j : Fin 8448) : V (ix4 0 0 j ⟨64 + d, by omega⟩) = 1 := by
    rw [← eV]
    exact win_one m c t j d
  have hd : (⟨k.val % 64, by omega⟩ : Fin 64) = d := Fin.ext (by dsimp only; omega)
  rw [hd, eX]
  clear eX eK eV
  refine attend_apply X K0 K1 K2 V0 V1 V2 r h d s μ
    (fun j => m ((c : Thread nD τ).loc main_arg2) (ix4 b j ⟨k.val / 256, by omega⟩ d)) ?_ ?_ ?_ ?_ ?_ ?_ ?_ ?_ ?_ <;> intro j
  · simp only [h0, Nat.zero_add]
    exact hs ⟨j, by omega⟩
  · simp only [h1]
    exact hs ⟨2816 + j, by omega⟩
  · simp only [h2, Nat.reduceAdd]
    exact hs ⟨5632 + j, by omega⟩
  · simp only [h0', Nat.zero_add]
    exact hv ⟨j, by omega⟩
  · simp only [h1']
    exact hv ⟨2816 + j, by omega⟩
  · simp only [h2', Nat.reduceAdd]
    exact hv ⟨5632 + j, by omega⟩
  · simp only [h0', Nat.zero_add]
    exact hu ⟨j, by omega⟩
  · simp only [h1']
    exact hu ⟨2816 + j, by omega⟩
  · simp only [h2']
    exact hu ⟨5632 + j, by omega⟩

/-- The attention's result array is the reference's. -/
theorem final (c : Dev nD)
    (hq : ∀ i, ∃ x : ℝ, m ((c : Thread nD τ).loc main_arg0) i = (x : EReal))
    (hk : ∀ i, ∃ x : ℝ, m ((c : Thread nD τ).loc main_arg1) i = (x : EReal)) :
    (dats m 0 c).arrAt 3 (cfgs 0).N = Cert.ReferenceIdeal.Att.term (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  rw [after0_3]
  simp only [outsAt0]
  frame_out
  have h0 : (y 0).val < 1 := (y 0).isLt
  have h1 : (y 1).val < 256 := (y 1).isLt
  have h2 : (y 2).val < 128 := (y 2).isLt
  have hx := idx t
  have hy : y = ix3 0 ⟨y 1, h1⟩ ⟨64 * (⟨(y 2).val / 64, by omega⟩ : Fin 2) + (⟨(y 2).val % 64, by omega⟩ : Fin 64), by dsimp only; omega⟩ := by
    blk_ext
  rw [hy, show ((View.whole main_v13).slice (win0_3.rect t)).emb
      (ix3 0 ⟨y 1, h1⟩ ⟨64 * (⟨(y 2).val / 64, by omega⟩ : Fin 2) + (⟨(y 2).val % 64, by omega⟩ : Fin 64), by dsimp only; omega⟩)
      = ix3 ⟨(grid0.coords t 0).val, by omega⟩ ⟨256 * (grid0.coords t 2).val + y 1, by omega⟩
        ⟨128 * (grid0.coords t 1).val + (64 * ((y 2).val / 64) + (y 2).val % 64), by omega⟩ by
    blk_ext! [hx]]
  exact point m c t hq hk _ _ _ _ _ _ rfl rfl rfl _ _ rfl rfl _ _ _ _ _ _
    (fun j l => part_apply _ 0 _ j l (by norm_num)) (fun j l => part_apply _ 2816 _ j l (by norm_num))
    (fun j l => part_apply _ 5632 _ j l (by norm_num)) (fun j l => part_apply _ 0 _ j l (by norm_num))
    (fun j l => part_apply _ 2816 _ j l (by norm_num)) (fun j l => part_apply _ 5632 _ j l (by norm_num))

end Cert.KernelIdeal.Att
end
-- ==== Proof.Experts.Words.lean ====
module
public import Idealize.ShloMosaic.Lib.Pointwise
public import Idealize.ShloMosaic.Lib.ReduceAll
public import proofs.«01_k».proof.Pre_experts_named
@[expose] public section

/-! # The words the experts' grid reads

The part of a weight a grid point asks for, and what the precondition says of the table of experts. -/

noncomputable section
open Idealize.ShloMosaic
namespace Cert.Experts

/-- The part of the weights the point `(j, f)` names: its own while tile `j` is used, else the last. -/
theorem part_toNat (a n : BitVec 32) (f : ℕ) (hf : f < 4) :
    (Scalar.select (Scalar.cmpi .slt a n) (BitVec.ofNat 32 f) 3#32).toNat = if a.toInt < n.toInt then f else 3 := by
  have e : (BitVec.ofNat 32 f).toNat = f := by simp; omega
  by_cases h : a.toInt < n.toInt
  · rw [if_pos h]
    simpa [Scalar.select, Scalar.cmpi, IntOp.cmpi, BitVec.slt, h] using e
  · rw [if_neg h]
    simp [Scalar.select, Scalar.cmpi, IntOp.cmpi, BitVec.slt, h]

theorem part_lt (a n : BitVec 32) (f : ℕ) (hf : f < 4) :
    (Scalar.select (Scalar.cmpi .slt a n) (BitVec.ofNat 32 f) 3#32).toNat < 4 := by
  rw [part_toNat a n f hf]
  split <;> omega

/-- The gate's projection lies four parts further along. -/
theorem part_add (x : BitVec 32) (h : x.toNat < 4) : (Scalar.addi x 4#32).toNat = x.toNat + 4 := by
  simp [Scalar.addi, IntOp.addi]
  omega

/-- A word that is at least 0 and less than 8 names an expert. -/
theorem word_lt (w : BitVec 32) (h : IntOp.andi (IntOp.cmpi .sge w 0#32) (IntOp.cmpi .slt w 8#32) = 1#1) : w.toNat < 8 := by
  obtain ⟨h0, h8⟩ := IntOp.andi_eq_one.mp h
  have e0 : (0 : ℤ) ≤ w.toInt := by
    by_contra hc
    simp [IntOp.cmpi, BitVec.sle, hc] at h0
  have e8 : w.toInt < 8 := by
    by_contra hc
    simp [IntOp.cmpi, BitVec.slt, hc] at h8
  rw [BitVec.toInt_eq_toNat_cond] at e0 e8
  split at e0 <;> split at e8 <;> omega

/-- What the precondition says: every entry of the table of experts names one. -/
theorem named {F : FTy → Type} [FloatOps F] [Cert.Pre_experts_named.Facts] {te : IVec Cert.Pre_experts_named.S74 32} {n x w v}
    (h : Cert.Pre_experts_named.fn (F := F) te n x w v = fun _ => 1#1) (i : Cert.Pre_experts_named.S74.Idx) : (te i).toNat < 8 :=
  word_lt _ (congrFun h i)

/-- The block of one expert's up-projection that the grid asks for: it lies in the array, and is made of whole words. -/
theorem block_up (e p : ℕ) (he : e < 8) (hp : p < 8) :
    ∃ h : ∀ a : Fin 4, ((![0, e, 0, p] : Fin 4 → ℕ) a + 1) * (⟨4, ![1, 1, 1024, 896]⟩ : Shape).size a
        ≤ (⟨4, ![2, 8, 1024, 7168]⟩ : Shape).size a,
      EltTy.bf16.bits = 32 ∨ Rect.WholeWords (s := ⟨4, ![2, 8, 1024, 7168]⟩) EltTy.bf16.packing
        (Rect.block (s := ⟨4, ![2, 8, 1024, 7168]⟩) (⟨4, ![1, 1, 1024, 896]⟩ : Shape).size ![0, e, 0, p] h) := by
  refine ⟨fun a => ?_, Or.inr (Or.inr ⟨by decide, rfl, rfl, rfl⟩)⟩
  fin_cases a <;> simp <;> omega

/-- The block of one expert's down-projection likewise. -/
theorem block_down (e p : ℕ) (he : e < 8) (hp : p < 4) :
    ∃ h : ∀ a : Fin 4, ((![0, e, p, 0] : Fin 4 → ℕ) a + 1) * (⟨4, ![1, 1, 896, 1024]⟩ : Shape).size a
        ≤ (⟨4, ![2, 8, 3584, 1024]⟩ : Shape).size a,
      EltTy.bf16.bits = 32 ∨ Rect.WholeWords (s := ⟨4, ![2, 8, 3584, 1024]⟩) EltTy.bf16.packing
        (Rect.block (s := ⟨4, ![2, 8, 3584, 1024]⟩) (⟨4, ![1, 1, 896, 1024]⟩ : Shape).size ![0, e, p, 0] h) := by
  refine ⟨fun a => ?_, Or.inr (Or.inl (Or.inr ⟨by decide, rfl, Or.inl ⟨?_, ?_⟩⟩))⟩
  · fin_cases a <;> simp <;> omega
  · show 2 ∣ p * 896
    omega
  · show 2 ∣ 896
    omega

end Cert.Experts
end
-- ==== Proof.Experts.TablesIdeal.lean ====
module
public import proofs.«01_k».proof.Proof.Gen.Kernel2Ideal.Frame
public import proofs.«01_k».proof.Proof.Gen.Pre_experts_named
public import proofs.«01_k».proof.Defs
public import proofs.«01_k».proof.Proof.Experts.Words
@[expose] public section
set_option maxRecDepth 16384

/-! # Every block the experts' grid asks for lies in its array (the idealised kernel) -/

noncomputable section
open Idealize.ShloMosaic Idealize.ShloMosaic.TcCoe Idealize.SL.Sem
namespace Cert.Kernel2Ideal.Exp
open Cert.Kernel2Ideal Cert.Kernel2Ideal.Gen Cert.Experts

/-- Where each entry of the table of experts names one, the grid's blocks are all in their arrays. -/
theorem ok_of {F : FTy → Type} [FloatOps F] (pf : pre0.Contents (Elt F)) (h : ∀ i, (pf 0 i : BitVec 32).toNat < 8) : ok0 pf := by
  refine ⟨fun i => ?_, fun i => ?_, fun i => ?_⟩
  · exact block_up _ _ (h _) (lt_trans (part_lt _ _ _ (i 1).isLt) (by norm_num))
  · have hp := part_lt (BitVec.ofNat 32 (i 0).val) (pf.at 1 (Rect.unit (s := S1) ![0] S1.size inb_S1_S1_0) numel1_S1) _ (i 1).isLt
    refine block_up _ _ (h _) ?_
    rw [part_add _ hp]
    omega
  · exact block_down _ _ (h _) (part_lt _ _ _ (i 1).isLt)

/-- So they are under the precondition. -/
theorem ok_of_pre (m : (ℓ : Loc nD τ sig) → Buf (Elt Ideal) ℓ)
    (h : letI := Cert.Pre_experts_named.Gen.facts; Cert.Pre_Kernel2Ideal m) : Gen.Ok m :=
  ok_of _ fun i => letI := Cert.Pre_experts_named.Gen.facts; named (h (0 : Dev nD)) i

end Cert.Kernel2Ideal.Exp
end
-- ==== Proof.Experts.Windows.lean ====
module
public import proofs.«01_k».proof.Proof.Gen.Kernel2Ideal.Frame
public import Idealize.ShloMosaic.Lib.Pipeline.ValueKit
public import Idealize.ShloMosaic.Lib.Pointwise
public import proofs.«01_k».proof.Proof.Experts.Words
@[expose] public section
set_option maxRecDepth 16384

/-! # The blocks of a grid point of the experts, as reads of the arguments -/

noncomputable section
open Idealize.ShloMosaic Idealize.ShloMosaic.TcCoe Idealize.SL.Sem
namespace Cert.Kernel2Ideal.Exp
open Cert.Kernel2Ideal Cert.Kernel2Ideal.Gen Cert.Experts
variable (m : (ℓ : Loc nD τ sig) → Buf (Elt Ideal) ℓ) (hO : Gen.Ok m)

/-- The word of the table that counts the tiles. -/
abbrev count : BitVec 32 := m (((0 : Dev nD) : Thread nD τ).loc main_arg1) (ix1 0)

/-- The word of the table that names a tile's expert. -/
abbrev name (j : Fin 74) : BitVec 32 := m (((0 : Dev nD) : Thread nD τ).loc main_arg0) (ix1 j)

theorem coords_eq : ∀ t : Fin grid0.N, (grid0.coords t 0).val = t.val / 4 ∧ (grid0.coords t 1).val = t.val % 4 :=
  by decide +kernel

theorem at_count :
    (tbl m).at 1 (Rect.unit (s := S1) ![0] S1.size inb_S1_S1_0) numel1_S1 = count m := by
  refine congrArg (m (((0 : Dev nD) : Thread nD τ).loc main_arg1)) (funext fun a => Fin.ext ?_)
  fin_cases a
  rfl

theorem at_name (i : grid0.Coords) (j : Fin 74) (hj : j.val = (i 0).val) :
    (tbl m).at 0 (Rect.unit (s := S74) (k0_off1 i) S1.size (k0_off1_inb i)) numel1_S1 = name m j := by
  refine congrArg (m (((0 : Dev nD) : Thread nD τ).loc main_arg0)) (funext fun a => Fin.ext ?_)
  fin_cases a
  show (BitVec.ofNat 32 (i 0).val).toNat + 1 * 0 = j.val
  simp
  omega

theorem win_x (c : Dev nD) (t : Fin (cfgM m hO).N) (r : Fin 512) (d : Fin 1024) (i : Fin 37888)
    (hi : i.val = 512 * (grid0.coords t 0).val + r) :
    (iblk m hO c 0 t (ix2 r d) : EReal) = m ((c : Thread nD τ).loc main_arg2) (ix2 i d) := by
  refine congrArg (m ((c : Thread nD τ).loc main_arg2)) (funext fun a => Fin.ext ?_)
  have h : (grid0.coords t 0).val < 74 := (grid0.coords t 0).isLt
  fin_cases a
  · show (BitVec.ofNat 32 (grid0.coords t 0).val).toNat * 512 + 1 * r.val = i.val
    simp
    omega
  · show 0 * 1024 + 1 * d.val = d.val
    omega

theorem win_g (c : Dev nD) (t : Fin (cfgM m hO).N) (d : Fin 1024) (k : Fin 896) (i : Fin 7168) (e : Fin 8) (j : Fin 74)
    (hj : j.val = (grid0.coords t 0).val) (he : e.val = (name m j).toNat)
    (hu : (BitVec.ofNat 32 j.val).toInt < (count m).toInt) (hi : i.val = 896 * (grid0.coords t 1).val + k) :
    (iblk m hO c 1 t (ix4 0 0 d k) : EReal) = m ((c : Thread nD τ).loc main_arg3) (ix4 0 e d i) := by
  refine congrArg (m ((c : Thread nD τ).loc main_arg3)) (funext fun a => Fin.ext ?_)
  have hp := part_toNat (BitVec.ofNat 32 (grid0.coords t 0).val) (count m) _ (grid0.coords t 1).isLt
  rw [if_pos (hj ▸ hu), ← at_count m] at hp
  have hn := congrArg BitVec.toNat (at_name m (grid0.coords t) j hj)
  fin_cases a
  · rfl
  · show ((tbl m).at 0 (Rect.unit (s := S74) (k0_off1 (grid0.coords t)) S1.size (k0_off1_inb (grid0.coords t))) numel1_S1 : BitVec 32).toNat * 1 + 1 * 0 = e.val
    rw [hn]
    omega
  · show 0 * 1024 + 1 * d.val = d.val
    omega
  · show (Scalar.select (Scalar.cmpi .slt (BitVec.ofNat 32 (grid0.coords t 0).val) ((tbl m).at 1 (Rect.unit (s := S1) ![0] S1.size inb_S1_S1_0) numel1_S1)) (BitVec.ofNat 32 (grid0.coords t 1).val) 3#32).toNat * 896 + 1 * k.val = i.val
    rw [hp]
    omega

theorem win_u (c : Dev nD) (t : Fin (cfgM m hO).N) (d : Fin 1024) (k : Fin 896) (i : Fin 7168) (e : Fin 8) (j : Fin 74)
    (hj : j.val = (grid0.coords t 0).val) (he : e.val = (name m j).toNat)
    (hu : (BitVec.ofNat 32 j.val).toInt < (count m).toInt) (hi : i.val = 3584 + (896 * (grid0.coords t 1).val + k)) :
    (iblk m hO c 2 t (ix4 0 0 d k) : EReal) = m ((c : Thread nD τ).loc main_arg3) (ix4 0 e d i) := by
  refine congrArg (m ((c : Thread nD τ).loc main_arg3)) (funext fun a => Fin.ext ?_)
  have hp := part_toNat (BitVec.ofNat 32 (grid0.coords t 0).val) (count m) _ (grid0.coords t 1).isLt
  rw [if_pos (hj ▸ hu), ← at_count m] at hp
  have hn := congrArg BitVec.toNat (at_name m (grid0.coords t) j hj)
  fin_cases a
  · rfl
  · show ((tbl m).at 0 (Rect.unit (s := S74) (k0_off1 (grid0.coords t)) S1.size (k0_off1_inb (grid0.coords t))) numel1_S1 : BitVec 32).toNat * 1 + 1 * 0 = e.val
    rw [hn]
    omega
  · show 0 * 1024 + 1 * d.val = d.val
    omega
  · show (Scalar.addi (Scalar.select (Scalar.cmpi .slt (BitVec.ofNat 32 (grid0.coords t 0).val) ((tbl m).at 1 (Rect.unit (s := S1) ![0] S1.size inb_S1_S1_0) numel1_S1)) (BitVec.ofNat 32 (grid0.coords t 1).val) 3#32) 4#32).toNat * 896 + 1 * k.val = i.val
    rw [part_add _ (by rw [hp]; exact (grid0.coords t 1).isLt), hp]
    omega

theorem win_w (c : Dev nD) (t : Fin (cfgM m hO).N) (k : Fin 896) (q : Fin 1024) (i : Fin 3584) (e : Fin 8) (j : Fin 74)
    (hj : j.val = (grid0.coords t 0).val) (he : e.val = (name m j).toNat)
    (hu : (BitVec.ofNat 32 j.val).toInt < (count m).toInt) (hi : i.val = 896 * (grid0.coords t 1).val + k) :
    (iblk m hO c 3 t (ix4 0 0 k q) : EReal) = m ((c : Thread nD τ).loc main_arg4) (ix4 0 e i q) := by
  refine congrArg (m ((c : Thread nD τ).loc main_arg4)) (funext fun a => Fin.ext ?_)
  have hp := part_toNat (BitVec.ofNat 32 (grid0.coords t 0).val) (count m) _ (grid0.coords t 1).isLt
  rw [if_pos (hj ▸ hu), ← at_count m] at hp
  have hn := congrArg BitVec.toNat (at_name m (grid0.coords t) j hj)
  fin_cases a
  · rfl
  · show ((tbl m).at 0 (Rect.unit (s := S74) (k0_off1 (grid0.coords t)) S1.size (k0_off1_inb (grid0.coords t))) numel1_S1 : BitVec 32).toNat * 1 + 1 * 0 = e.val
    rw [hn]
    omega
  · show (Scalar.select (Scalar.cmpi .slt (BitVec.ofNat 32 (grid0.coords t 0).val) ((tbl m).at 1 (Rect.unit (s := S1) ![0] S1.size inb_S1_S1_0) numel1_S1)) (BitVec.ofNat 32 (grid0.coords t 1).val) 3#32).toNat * 896 + 1 * k.val = i.val
    rw [hp]
    omega
  · show 0 * 1024 + 1 * q.val = q.val
    omega

end Cert.Kernel2Ideal.Exp
end
-- ==== Proof.Experts.Body.lean ====
module
public import proofs.«01_k».proof.Proof.Gen.Kernel2Ideal.Skeleton
public import Idealize.ShloMosaic.Lib.Pipeline.ValueKit
public import Idealize.ShloMosaic.Lib.Pointwise
@[expose] public section
set_option maxRecDepth 16384

/-! # What one grid point of the experts computes -/

noncomputable section
open Idealize.ShloMosaic Idealize.ShloMosaic.TcCoe Idealize.SL.Sem
namespace Cert.Experts

/-- `v` times its logistic. -/
def swish (v : EReal) : EReal := v * Ideal.div 1 (1 + Ideal.exp (-v))

theorem ofBits_one : Ideal.ofBits .f32 0x3F800000#32 = (1 : EReal) := by
  simp only [Ideal.ofBits, Ideal.ieee]
  simp [← EReal.coe_mul]
  norm_num

/-- What the hidden unit `k` of the expert `e` adds to entry `q` of the result of the row `x`. -/
def unit (x : Fin 1024 → EReal) (W : Vec Ideal Cert.Kernel2Ideal.S2x8x1024x7168 .bf16)
    (V : Vec Ideal Cert.Kernel2Ideal.S2x8x3584x1024 .bf16) (e : Fin 8) (q : Fin 1024) (k : Fin 3584) : EReal :=
  swish (∑ d : Fin 1024, HMul.hMul (α := EReal) (x d) (W (ix4 0 e d ⟨k.val, by omega⟩)))
    * (∑ d : Fin 1024, HMul.hMul (α := EReal) (x d) (W (ix4 0 e d ⟨3584 + k.val, by omega⟩))) * (V (ix4 0 e k q) : EReal)

/-- Row `i` of the result: what its tile's expert makes of it where the tile is used, else zeros. -/
def routed (te : Fin 74 → BitVec 32) (n : BitVec 32) (X : Vec Ideal Cert.Kernel2Ideal.S37888x1024 .bf16)
    (W : Vec Ideal Cert.Kernel2Ideal.S2x8x1024x7168 .bf16) (V : Vec Ideal Cert.Kernel2Ideal.S2x8x3584x1024 .bf16)
    (i : Fin 37888) (q : Fin 1024) : EReal :=
  if (BitVec.ofNat 32 (⟨i.val / 512, by omega⟩ : Fin 74).val).toInt < n.toInt then
    ∑ k : Fin 3584, unit (fun d => X (ix2 i d)) W V ⟨(te ⟨i.val / 512, by omega⟩).toNat % 8, by omega⟩ q k
  else 0

theorem routed_tile (te : Fin 74 → BitVec 32) (n : BitVec 32) (X : Vec Ideal Cert.Kernel2Ideal.S37888x1024 .bf16)
    (W : Vec Ideal Cert.Kernel2Ideal.S2x8x1024x7168 .bf16) (V : Vec Ideal Cert.Kernel2Ideal.S2x8x3584x1024 .bf16)
    (j : Fin 74) (r : Fin 512) (q : Fin 1024) :
    routed te n X W V ⟨512 * j + r, by omega⟩ q
      = if (BitVec.ofNat 32 j.val).toInt < n.toInt then
          ∑ k : Fin 3584, unit (fun d => X (ix2 ⟨512 * j + r, by omega⟩ d)) W V ⟨(te j).toNat % 8, by omega⟩ q k
        else 0 := by
  have h : (512 * j.val + r.val) / 512 = j.val := by omega
  unfold routed
  dsimp only
  simp only [h]

end Cert.Experts

namespace Cert.Kernel2Ideal.Exp
open Cert.Kernel2Ideal Cert.Kernel2Ideal.Gen Cert.Experts

theorem pay1_apply (r : Fin 512) (q : Fin 1024) : (k0_pay1 (F := Ideal)) (ix2 r q) = (0 : EReal) := by
  pointwise [k0_pay1]

/-- The sums kept, with the part of the hidden units of this grid point added. -/
theorem pay2_apply (x : Vec Ideal S512x1024 .bf16) (g u : Vec Ideal S1x1x1024x896 .bf16) (acc : Vec Ideal S512x1024 .f32)
    (w : Vec Ideal S1x1x896x1024 .bf16) (r : Fin 512) (q : Fin 1024) :
    k0_pay2 x g u acc w (ix2 r q) = (acc (ix2 r q) : EReal) + ∑ k : Fin 896,
      swish (∑ d : Fin 1024, HMul.hMul (α := EReal) (x (ix2 r d)) (g (ix4 0 0 d k)))
        * (∑ d : Fin 1024, HMul.hMul (α := EReal) (x (ix2 r d)) (u (ix4 0 0 d k))) * (w (ix4 0 0 k q) : EReal) := by
  pointwise [k0_pay2, swish]
  simp only [zero_sub]

end Cert.Kernel2Ideal.Exp
end
-- ==== Proof.Experts.Value.lean ====
module
public import proofs.«01_k».proof.Proof.Gen.Kernel2Ideal.Frame
public import Idealize.ShloMosaic.Lib.Pipeline.ValueKit
public import Idealize.ShloMosaic.Lib.Pointwise
public import proofs.«01_k».proof.Proof.Experts.Windows
public import proofs.«01_k».proof.Proof.Experts.Body
@[expose] public section
set_option maxRecDepth 16384

/-! # The experts' result array -/

noncomputable section
open Idealize.ShloMosaic Idealize.ShloMosaic.TcCoe Idealize.SL.Sem
namespace Cert.Kernel2Ideal.Exp
open Cert.Kernel2Ideal Cert.Kernel2Ideal.Gen Cert.Experts
variable (m : (ℓ : Loc nD τ sig) → Buf (Elt Ideal) ℓ) (hO : Gen.Ok m)

/-- The tile of a grid point is used. -/
abbrev Used (t : Fin (cfgM m hO).N) : Prop :=
  cond0_1 (grid0.coords t) (tbM0_1.view.readAt (Elt Ideal) (Rect.unit (s := S1) ![0] S1.size inb_S1_S1_0).toLoadRect (tbl m 1)
    (Shape.Idx.first (numel1_S1.symm ▸ Nat.one_pos)))

theorem read_count : tbM0_1.view.readAt (Elt Ideal) (Rect.unit (s := S1) ![0] S1.size inb_S1_S1_0).toLoadRect (tbl m 1)
    (Shape.Idx.first (numel1_S1.symm ▸ Nat.one_pos)) = count m := by
  refine congrArg (m (((0 : Dev nD) : Thread nD τ).loc main_arg1)) (funext fun a => Fin.ext ?_)
  fin_cases a
  rfl

theorem used_iff (t : Fin (cfgM m hO).N) :
    Used m hO t ↔ (BitVec.ofNat 32 (grid0.coords t 0).val).toInt < (count m).toInt := by
  unfold Used cond0_1
  rw [read_count m]
  by_cases h : (BitVec.ofNat 32 (grid0.coords t 0).val).toInt < (count m).toInt <;>
    simp [Scalar.cmpi, Scalar.extui, IntOp.cmpi, BitVec.slt, h]

/-! What the kernel keeps between points, and what it stores at the last of a tile. -/

theorem kept_A (c : Dev nD) (t : Fin (cfgM m hO).N) (h0 : t.val % 4 = 0) (h1 : Used m hO t) :
    (outsAt0 m hO c t.val t.isLt).2 = k0_pay2 (iblk m hO c 0 t) (iblk m hO c 1 t) (iblk m hO c 2 t) (k0_pay1 (F := Ideal)) (iblk m hO c 3 t) := by
  funext y
  rw [outsAt0_A m hO c t h0 h1 (by omega)]
  frame_out
  exact congrFun (by congr 1 <;> exact Memref.IsWhole.read_unread _ _) y

theorem kept_B (c : Dev nD) (t : Fin (cfgM m hO).N) (h0 : t.val % 4 = 0) (h1 : ¬Used m hO t) :
    (outsAt0 m hO c t.val t.isLt).2 = k0_pay1 (F := Ideal) := by
  funext y
  rw [outsAt0_B m hO c t h0 h1 (by omega)]
  frame_out

theorem kept_C (c : Dev nD) (n : ℕ) (hn : n + 1 < (cfgM m hO).N) (h0 : ¬(n + 1) % 4 = 0) (h1 : Used m hO ⟨n + 1, hn⟩) (h2 : ¬(n + 1) % 4 = 3) :
    (outsAt0 m hO c (n + 1) hn).2 = k0_pay2 (iblk m hO c 0 ⟨n + 1, hn⟩) (iblk m hO c 1 ⟨n + 1, hn⟩) (iblk m hO c 2 ⟨n + 1, hn⟩)
      (outsAt0 m hO c n (by omega)).2 (iblk m hO c 3 ⟨n + 1, hn⟩) := by
  funext y
  rw [outsAt0_C m hO c ⟨n + 1, hn⟩ h0 h1 h2]
  frame_out
  exact congrFun (by congr 1 <;> exact Memref.IsWhole.read_unread _ _) y

theorem kept_D (c : Dev nD) (n : ℕ) (hn : n + 1 < (cfgM m hO).N) (h0 : ¬(n + 1) % 4 = 0) (h1 : ¬Used m hO ⟨n + 1, hn⟩) (h2 : ¬(n + 1) % 4 = 3) :
    (outsAt0 m hO c (n + 1) hn).2 = (outsAt0 m hO c n (by omega)).2 := by
  rw [outsAt0_D m hO c ⟨n + 1, hn⟩ h0 h1 h2]
  rfl

theorem stored_E (c : Dev nD) (n : ℕ) (hn : n + 1 < (cfgM m hO).N) (h1 : Used m hO ⟨n + 1, hn⟩) (h2 : (n + 1) % 4 = 3) (y) :
    ((outsAt0 m hO c (n + 1) hn).1 y : EReal) = k0_pay2 (iblk m hO c 0 ⟨n + 1, hn⟩) (iblk m hO c 1 ⟨n + 1, hn⟩) (iblk m hO c 2 ⟨n + 1, hn⟩)
      (outsAt0 m hO c n (by omega)).2 (iblk m hO c 3 ⟨n + 1, hn⟩) y := by
  rw [outsAt0_E m hO c ⟨n + 1, hn⟩ (show ¬(n + 1) % 4 = 0 by omega) h1 h2]
  frame_out
  pointwise [k0_pay3]
  exact congrFun (by congr 1 <;> exact Memref.IsWhole.read_unread _ _) y

theorem stored_F (c : Dev nD) (n : ℕ) (hn : n + 1 < (cfgM m hO).N) (h1 : ¬Used m hO ⟨n + 1, hn⟩) (h2 : (n + 1) % 4 = 3) (y) :
    ((outsAt0 m hO c (n + 1) hn).1 y : EReal) = (outsAt0 m hO c n (by omega)).2 y := by
  rw [outsAt0_F m hO c ⟨n + 1, hn⟩ (show ¬(n + 1) % 4 = 0 by omega) h1 h2]
  frame_out
  pointwise [k0_pay3]
  exact congrFun (Memref.IsWhole.read_unread _ _) y

/-! A tile's four points together. -/

/-- The arguments the experts read: rows, up-projections, down-projections. -/
abbrev rows (c : Dev nD) : Vec Ideal S37888x1024 .bf16 := m ((c : Thread nD τ).loc main_arg2)
abbrev ups (c : Dev nD) : Vec Ideal S2x8x1024x7168 .bf16 := m ((c : Thread nD τ).loc main_arg3)
abbrev downs (c : Dev nD) : Vec Ideal S2x8x3584x1024 .bf16 := m ((c : Thread nD τ).loc main_arg4)

theorem step (c : Dev nD) (t : Fin (cfgM m hO).N) (j : Fin 74) (f : Fin 4) (ht : t.val = 4 * j.val + f.val)
    (e : Fin 8) (he : e.val = (name m j).toNat) (hu : (BitVec.ofNat 32 j.val).toInt < (count m).toInt)
    (acc : Vec Ideal S512x1024 .f32) (r : Fin 512) (q : Fin 1024) :
    k0_pay2 (iblk m hO c 0 t) (iblk m hO c 1 t) (iblk m hO c 2 t) acc (iblk m hO c 3 t) (ix2 r q)
      = (acc (ix2 r q) : EReal) + ∑ k : Fin 896,
        unit (fun d => rows m c (ix2 ⟨512 * j + r, by omega⟩ d)) (ups m c) (downs m c) e q ⟨896 * f + k, by omega⟩ := by
  obtain ⟨hj, hf⟩ := coords_eq t
  have hj' : j.val = (grid0.coords t 0).val := by omega
  have hf' : f.val = (grid0.coords t 1).val := by omega
  obtain ⟨X, eX⟩ : ∃ X : Vec Ideal S512x1024 .bf16, iblk m hO c 0 t = X := ⟨_, rfl⟩
  obtain ⟨G, eG⟩ : ∃ X : Vec Ideal S1x1x1024x896 .bf16, iblk m hO c 1 t = X := ⟨_, rfl⟩
  obtain ⟨U, eU⟩ : ∃ X : Vec Ideal S1x1x1024x896 .bf16, iblk m hO c 2 t = X := ⟨_, rfl⟩
  obtain ⟨W, eW⟩ : ∃ X : Vec Ideal S1x1x896x1024 .bf16, iblk m hO c 3 t = X := ⟨_, rfl⟩
  have hX (d : Fin 1024) : X (ix2 r d) = rows m c (ix2 ⟨512 * j + r, by omega⟩ d) := by
    rw [← eX]
    exact win_x m hO c t r d ⟨512 * j + r, by omega⟩ (by dsimp only; omega)
  have hG (d : Fin 1024) (k : Fin 896) : G (ix4 0 0 d k) = ups m c (ix4 0 e d ⟨896 * f + k, by omega⟩) := by
    rw [← eG]
    exact win_g m hO c t d k ⟨896 * f + k, by omega⟩ e j hj' he hu (by dsimp only; omega)
  have hU (d : Fin 1024) (k : Fin 896) : U (ix4 0 0 d k) = ups m c (ix4 0 e d ⟨3584 + (896 * f + k), by omega⟩) := by
    rw [← eU]
    exact win_u m hO c t d k ⟨3584 + (896 * f + k), by omega⟩ e j hj' he hu (by dsimp only; omega)
  have hW (k : Fin 896) : W (ix4 0 0 k q) = downs m c (ix4 0 e ⟨896 * f + k, by omega⟩ q) := by
    rw [← eW]
    exact win_w m hO c t k q ⟨896 * f + k, by omega⟩ e j hj' he hu (by dsimp only; omega)
  rw [eX, eG, eU, eW, pay2_apply]
  simp only [hX, hG, hU, hW]
  rfl

theorem points : (cfgM m hO).N = 296 := by
  show grid0.N = 296
  decide

theorem regroup (g : Fin 3584 → EReal) (f : Fin 4) :
    (∑ k : Fin 896, g ⟨896 * f.val + k.val, by omega⟩) = ∑ k : Fin 896, g ⟨f.val * 896 + k.val, by omega⟩ :=
  Finset.sum_congr rfl fun k _ => congrArg g (Fin.ext (by dsimp only; omega))

/-- What the last point of tile `j` stores. -/
theorem tile (c : Dev nD) (j : Fin 74) (h : 4 * j.val + 3 < (cfgM m hO).N) (hn : (name m j).toNat < 8) (r : Fin 512) (q : Fin 1024) :
    ((outsAt0 m hO c (4 * j + 3) h).1 (ix2 r q) : EReal)
      = routed (name m) (count m) (rows m c) (ups m c) (downs m c) ⟨512 * j + r, by omega⟩ q := by
  have hc (f : ℕ) (hf : f < 4) : (grid0.coords ⟨4 * j.val + f, by have := points m hO; show _ < (cfgM m hO).N; omega⟩ 0).val = j.val := by
    have := (coords_eq ⟨4 * j.val + f, by have := points m hO; show _ < (cfgM m hO).N; omega⟩).1
    dsimp only at this
    omega
  rw [routed_tile]
  by_cases hu : (BitVec.ofNat 32 j.val).toInt < (count m).toInt
  · have hU (f : ℕ) (hf : f < 4) : Used m hO ⟨4 * j.val + f, by have := points m hO; omega⟩ := (used_iff m hO _).2 (by rw [hc f hf]; exact hu)
    have he : (⟨(name m j).toNat % 8, by omega⟩ : Fin 8).val = (name m j).toNat := Nat.mod_eq_of_lt hn
    rw [if_pos hu, stored_E m hO c (4 * j.val + 2) h (hU 3 (by norm_num)) (by omega),
      step m hO c ⟨4 * j.val + 3, h⟩ j 3 rfl _ he hu,
      kept_C m hO c (4 * j.val + 1) (by omega) (by omega) (hU 2 (by norm_num)) (by omega),
      step m hO c ⟨4 * j.val + 2, by omega⟩ j 2 rfl _ he hu,
      kept_C m hO c (4 * j.val) (by omega) (by omega) (hU 1 (by norm_num)) (by omega),
      step m hO c ⟨4 * j.val + 1, by omega⟩ j 1 rfl _ he hu,
      kept_A m hO c ⟨4 * j.val, by omega⟩ (by dsimp only; omega) (hU 0 (by norm_num)),
      step m hO c ⟨4 * j.val, by omega⟩ j 0 rfl _ he hu, pay1_apply, zero_add]
    refine Eq.trans ?_ (Fin.sum_univ_tiles 4 896 (by norm_num) _).symm
    rw [Fin.sum_univ_four]
    exact congrArg₂ (HAdd.hAdd (α := EReal)) (congrArg₂ (HAdd.hAdd (α := EReal)) (congrArg₂ (HAdd.hAdd (α := EReal)) (regroup _ 0) (regroup _ 1)) (regroup _ 2)) (regroup _ 3)
  · have hU (f : ℕ) (hf : f < 4) : ¬Used m hO ⟨4 * j.val + f, by have := points m hO; omega⟩ := fun hx => hu (by
      have := (used_iff m hO _).1 hx
      rwa [hc f hf] at this)
    rw [if_neg hu, stored_F m hO c (4 * j.val + 2) h (hU 3 (by norm_num)) (by omega),
      kept_D m hO c (4 * j.val + 1) (by omega) (by omega) (hU 2 (by norm_num)) (by omega),
      kept_D m hO c (4 * j.val) (by omega) (by omega) (hU 1 (by norm_num)) (by omega),
      kept_B m hO c ⟨4 * j.val, by omega⟩ (by dsimp only; omega) (hU 0 (by norm_num)), pay1_apply]

/-- The result array as a function of the arguments. -/
def result (c : Dev nD) : Vec Ideal S37888x1024 .bf16 :=
  fun i => routed (name m) (count m) (rows m c) (ups m c) (downs m c) (i 0) (i 1)

theorem emb_out (t : Fin (cfgM m hO).N) (r : Fin 512) (q : Fin 1024) (i : Fin 37888) (hi : i.val = 512 * (t.val / 4) + r) :
    (((cfgM m hO).win 4).blk t).view.emb (ix2 r q) = (ix2 i q : S37888x1024.Idx) := by
  obtain ⟨hj, hf⟩ := coords_eq t
  have h : (grid0.coords t 0).val < 74 := (grid0.coords t 0).isLt
  refine funext fun a => Fin.ext ?_
  fin_cases a
  · show (BitVec.ofNat 32 (grid0.coords t 0).val).toNat * 512 + 1 * r.val = i.val
    simp
    omega
  · show 0 * 1024 + 1 * q.val = q.val
    omega

/-- What a tile's last point writes back. -/
theorem flushed (c : Dev nD) (hn : ∀ j, (name m j).toNat < 8) (t : Fin (cfgM m hO).N) (h3 : t.val % 4 = 3) (y : S512x1024.Idx) :
    (outsAt0 m hO c t.val t.isLt).1 y = result m c ((((cfgM m hO).win 4).blk t).view.emb y) := by
  have ht : t.val < 296 := points m hO ▸ t.isLt
  have h0 : (y 0).val < 512 := (y 0).isLt
  have h1 : (y 1).val < 1024 := (y 1).isLt
  have hy : y = (ix2 ⟨y 0, h0⟩ ⟨y 1, h1⟩ : S512x1024.Idx) := by
    blk_ext
  rw [hy]
  refine Eq.trans ?_ (congrArg (result m c) (emb_out m hO t ⟨y 0, h0⟩ ⟨y 1, h1⟩ ⟨512 * (t.val / 4) + (y 0).val, by omega⟩ rfl)).symm
  obtain ⟨j, hj⟩ : ∃ j : Fin 74, j.val = t.val / 4 := ⟨⟨t.val / 4, by omega⟩, rfl⟩
  obtain ⟨t, h⟩ := t
  obtain rfl : t = 4 * j.val + 3 := by dsimp only at hj h3; omega
  refine (tile m hO c j h (hn _) ⟨y 0, h0⟩ ⟨y 1, h1⟩).trans ?_
  refine congrArg (fun i => routed (name m) (count m) (rows m c) (ups m c) (downs m c) i ⟨y 1, h1⟩) (Fin.ext ?_)
  have : (4 * j.val + 3) / 4 = j.val := by omega
  show 512 * j.val + (y 0).val = 512 * ((4 * j.val + 3) / 4) + (y 0).val
  rw [this]

/-- The block of row `i`'s tile holds row `i`. -/
theorem covered (i : S37888x1024.Idx) :
    ∃ t : Fin (cfgM m hO).N, ((cfgM m hO).win 4).flush t = true ∧ i ∈ (((cfgM m hO).win 4).blk t).view.set := by
  have h0 : (i 0).val < 37888 := (i 0).isLt
  have h1 : (i 1).val < 1024 := (i 1).isLt
  have hN := points m hO
  obtain ⟨t, ht⟩ : ∃ t : Fin (cfgM m hO).N, t.val = 4 * ((i 0).val / 512) + 3 := ⟨⟨4 * ((i 0).val / 512) + 3, by omega⟩, rfl⟩
  obtain ⟨r, hr⟩ : ∃ r : Fin 512, r.val = (i 0).val % 512 := ⟨⟨(i 0).val % 512, by omega⟩, rfl⟩
  have e := emb_out m hO t r ⟨i 1, h1⟩ ⟨i 0, h0⟩ (by dsimp only; omega)
  have hi : i = (ix2 ⟨i 0, h0⟩ ⟨i 1, h1⟩ : S37888x1024.Idx) := by
    blk_ext
  refine ⟨t, (flush0_4 (adm m hO) t).2 (by omega), ?_⟩
  have k := View.emb_mem_set (((cfgM m hO).win 4).blk t).view (ix2 r ⟨i 1, h1⟩ : S512x1024.Idx)
  rw [hi, ← e]
  exact k

/-- The experts' result array, put together from the blocks of the 74 tiles. -/
theorem final (c : Dev nD) (hn : ∀ j, (name m j).toNat < 8) : (dats m hO 0 c).arrAt 4 (cfgM m hO).N = result m c := by
  refine (dats m hO 0 c).arrAt_eq_of_emb 4 _ (fun t hf y => ?_) fun i => ?_
  · refine (congrFun (after0_4 m hO c t) _).trans ?_
    exact flushed m hO c hn t ((flush0_4 (adm m hO) t).1 hf) y
  · exact covered m hO i

/-- Every run ends with the result array holding `result` and with the arguments as they were. -/
theorem run_result (hO : Ok m) (ρ : Dev nD → PrngReg) (hn : ∀ j, (name m j).toNat < 8) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (final m hO c hn), h.2 c⟩)
    (θ_run_and (run_main m ρ hO) (unchanged m ρ hO))

end Cert.Kernel2Ideal.Exp
end
-- ==== Proof.Experts.Reference.lean ====
module
public import proofs.«01_k».proof.Proof.Gen.Reference2Ideal.Run
public import Idealize.ShloMosaic.Lib.Pointwise
public import Idealize.ShloMosaic.Lib.Routing.Words
public import Idealize.ShloMosaic.Lib.Routing.OpsSet
public import proofs.«01_k».proof.Proof.Experts.Body
@[expose] public section
set_option maxRecDepth 16384

/-! # The experts' reference, read at an index

The eight experts are eight instances of one term. Each is read at an index, then the gates, and then the sum. -/

noncomputable section
open Idealize.ShloMosaic Idealize.ShloMosaic.TcCoe Idealize.SL.Sem
namespace Cert.Reference2Ideal.Exp
open Cert.Reference2Ideal Cert.Reference2Ideal.Gen Cert.Experts

/-- Every row times the first matrix of expert `e`. -/
def wide (X : Vec Ideal S37888x1024 .bf16) (W : Vec Ideal S2x8x1024x7168 .bf16) (e : Fin 8)
    (h : S2x8x1024x7168.Slices ![0, e.val, 0, 0] S1x1x1024x7168) : FVec Ideal S37888x7168 .f32 :=
  Host.dotGeneral dot_S37888x1024_S1024x7168_S37888x7168_1_0_0_1_n_n none (extf .f32 X bitsLt_bf16_f32) (extf .f32 (shapeCast _ (extractStridedSlice S1x1x1024x7168 ![0, e.val, 0, 0] W h) shapeCasts_S1x1x1024x7168_S1024x7168) bitsLt_bf16_f32)

/-- The first half of the columns. -/
def half (G : FVec Ideal S37888x7168 .f32) : FVec Ideal S37888x3584 .f32 :=
  extractStridedSlice S37888x3584 ![0, 0] G slices_S37888x7168_S37888x3584_0_0

/-- The hidden units: the first half times its logistic, times the second half. -/
def hidden (G : FVec Ideal S37888x7168 .f32) : FVec Ideal S37888x3584 .f32 :=
  mulf (mulf (half G) (Host.divf (broadcastInDim S37888x3584 ![] bcast_S_S37888x3584 (constant S_ .f32 0x3F800000#32)) (addf (broadcastInDim S37888x3584 ![] bcast_S_S37888x3584 (constant S_ .f32 0x3F800000#32)) (Host.exp (Host.negf (half G)))))) (extractStridedSlice S37888x3584 ![0, 3584] G slices_S37888x7168_S37888x3584_0_3584)

/-- The hidden units times the second matrix of expert `e`. -/
def narrow (H : FVec Ideal S37888x3584 .f32) (V : Vec Ideal S2x8x3584x1024 .bf16) (e : Fin 8)
    (h : S2x8x3584x1024.Slices ![0, e.val, 0, 0] S1x1x3584x1024) : FVec Ideal S37888x1024 .f32 :=
  Host.dotGeneral dot_S37888x3584_S3584x1024_S37888x1024_1_0_0_1_n_n none H (extf .f32 (shapeCast _ (extractStridedSlice S1x1x3584x1024 ![0, e.val, 0, 0] V h) shapeCasts_S1x1x3584x1024_S3584x1024) bitsLt_bf16_f32)

/-- Column `e` of the gates times what expert `e` makes of the rows. -/
def gated (T : FVec Ideal S37888x8 .f32) (Y : FVec Ideal S37888x1024 .f32) (e : Fin 8)
    (h : S37888x8.Slices ![0, e.val] S37888x1) : FVec Ideal S37888x1024 .f32 :=
  mulf (broadcastInDim S37888x1024 ![0, 1] bcast_S37888x1_S37888x1024_0_1 (extractStridedSlice S37888x1 ![0, e.val] T h)) Y

theorem wide_apply (X : Vec Ideal S37888x1024 .bf16) (W : Vec Ideal S2x8x1024x7168 .bf16) (e : Fin 8)
    (h : S2x8x1024x7168.Slices ![0, e.val, 0, 0] S1x1x1024x7168) (i : Fin 37888) (k : Fin 7168) :
    wide X W e h (ix2 i k) = ∑ d : Fin 1024, HMul.hMul (α := EReal) (X (ix2 i d)) (W (ix4 0 e d k)) := by
  pointwise [wide]

theorem hidden_apply (G : FVec Ideal S37888x7168 .f32) (i : Fin 37888) (k : Fin 3584) :
    hidden G (ix2 i k) = HMul.hMul (α := EReal) (swish (G (ix2 i ⟨k.val, by omega⟩))) (G (ix2 i ⟨3584 + k.val, by omega⟩)) := by
  unfold swish
  rw [← ofBits_one]
  pointwise [hidden, half]

theorem narrow_apply (H : FVec Ideal S37888x3584 .f32) (V : Vec Ideal S2x8x3584x1024 .bf16) (e : Fin 8)
    (h : S2x8x3584x1024.Slices ![0, e.val, 0, 0] S1x1x3584x1024) (i : Fin 37888) (q : Fin 1024) :
    narrow H V e h (ix2 i q) = ∑ k : Fin 3584, HMul.hMul (α := EReal) (H (ix2 i k)) (V (ix4 0 e k q)) := by
  pointwise [narrow]

theorem gated_apply (T : FVec Ideal S37888x8 .f32) (Y : FVec Ideal S37888x1024 .f32) (e : Fin 8)
    (h : S37888x8.Slices ![0, e.val] S37888x1) (i : Fin 37888) (q : Fin 1024) :
    gated T Y e h (ix2 i q) = HMul.hMul (α := EReal) (T (ix2 i e)) (Y (ix2 i q)) := by
  pointwise [gated]

/-- What expert `e` makes of row `i`. -/
theorem expert_apply (X : Vec Ideal S37888x1024 .bf16) (W : Vec Ideal S2x8x1024x7168 .bf16) (V : Vec Ideal S2x8x3584x1024 .bf16) (e : Fin 8)
    (hW : S2x8x1024x7168.Slices ![0, e.val, 0, 0] S1x1x1024x7168) (hV : S2x8x3584x1024.Slices ![0, e.val, 0, 0] S1x1x3584x1024)
    (i : Fin 37888) (q : Fin 1024) :
    narrow (hidden (wide X W e hW)) V e hV (ix2 i q) = ∑ k : Fin 3584, unit (fun d => X (ix2 i d)) W V e q k := by
  rw [narrow_apply]
  refine Finset.sum_congr rfl fun k _ => ?_
  rw [hidden_apply, wide_apply, wide_apply]
  rfl

/-- The tile of every row. -/
def tiles : IVec S37888 32 := Routing.pyDiv bcast_S_S37888 (iotaInDim S37888 32 0) (constantI S_ 32 512#32)

theorem tiles_apply (i : Fin 37888) : tiles (ix1 i) = BitVec.ofNat 32 (i.val / 512) := by
  unfold tiles
  exact Routing.pyDiv_ap _ _ _ _ (Routing.iota1_ap i) rfl (by omega) (by norm_num) (by norm_num)

/-- The gates: a one at the tile's expert where the tile is used. -/
def gates (te : IVec S74 32) (n : IVec S1 32) (t : IVec S37888 32) : FVec Ideal S37888x8 .f32 :=
  uitofp .f32 (cmpi .eq (broadcastInDim S37888x8 ![0, 1] bcast_S37888x1_S37888x8_0_1 (broadcastInDim S37888x1 ![0] bcast_S37888_S37888x1_0 (select (cmpi .slt t (broadcastInDim S37888 ![] bcast_S_S37888 (shapeCast _ n shapeCasts_S1_S_))) (Host.gather gather_S74_S37888x1_S37888_n_0_n_n_0_1_1 te (broadcastInDim S37888x1 ![0] bcast_S37888_S37888x1_0 (select (cmpi .slt t (broadcastInDim S37888 ![] bcast_S_S37888 (constantI S_ 32 0#32))) (addi t (broadcastInDim S37888 ![] bcast_S_S37888 (constantI S_ 32 74#32))) t))) (broadcastInDim S37888 ![] bcast_S_S37888 (id (constantI S_ 32 8#32)))))) (broadcastInDim S37888x8 ![0, 1] bcast_S1x8_S37888x8_0_1 (iotaInDim S1x8 32 1)))

theorem select_slt_pos {t n : BitVec 32} (h : t.toInt < n.toInt) (x y : BitVec 32) : Scalar.select (IntOp.cmpi .slt t n) x y = x := by
  simp [Scalar.select, IntOp.cmpi, BitVec.slt, h]

theorem select_slt_neg {t n : BitVec 32} (h : ¬t.toInt < n.toInt) (x y : BitVec 32) : Scalar.select (IntOp.cmpi .slt t n) x y = y := by
  simp [Scalar.select, IntOp.cmpi, BitVec.slt, h]

/-- The comparison of two words as a number. -/
theorem one_hot (x y : BitVec 32) : (FloatOps.uitofp .f32 (IntOp.cmpi .eq x y) : Ideal .f32) = if x = y then (1 : EReal) else 0 := by
  by_cases h : x = y
  · rw [if_pos h]
    subst h
    simp [IntOp.cmpi, FloatOps.uitofp]
  · rw [if_neg h]
    simp [IntOp.cmpi, FloatOps.uitofp, h]

theorem gathered (te : IVec S74 32) (i : Fin 37888) :
    Host.gather gather_S74_S37888x1_S37888_n_0_n_n_0_1_1 te (broadcastInDim S37888x1 ![0] bcast_S37888_S37888x1_0 (select (cmpi .slt tiles (broadcastInDim S37888 ![] bcast_S_S37888 (constantI S_ 32 0#32))) (addi tiles (broadcastInDim S37888 ![] bcast_S_S37888 (constantI S_ 32 74#32))) tiles)) (ix1 i)
      = te (ix1 ⟨i.val / 512, by omega⟩) := by
  refine Routing.gather_take1 gather_S74_S37888x1_S37888_n_0_n_n_0_1_1 rfl rfl rfl rfl te _ i ⟨i.val / 512, by omega⟩ ?_ (by norm_num)
  have e : broadcastInDim S37888x1 ![0] bcast_S37888_S37888x1_0 (select (cmpi .slt tiles (broadcastInDim S37888 ![] bcast_S_S37888 (constantI S_ 32 0#32))) (addi tiles (broadcastInDim S37888 ![] bcast_S_S37888 (constantI S_ 32 74#32))) tiles) (ix2 i 0)
      = Scalar.select (IntOp.cmpi .slt (tiles (ix1 i)) 0#32) (IntOp.addi (tiles (ix1 i)) 74#32) (tiles (ix1 i)) := by
    pointwise
  refine e.trans ?_
  have h : ¬(tiles (ix1 i)).toInt < (0#32 : BitVec 32).toInt := by
    rw [tiles_apply, StableHlo.Predicate.toInt_ofNat_small _ (by omega)]
    simp
    omega
  rw [select_slt_neg h, tiles_apply]

theorem gates_apply (te : IVec S74 32) (n : IVec S1 32) (i : Fin 37888) (e : Fin 8) (hn : (te (ix1 ⟨i.val / 512, by omega⟩)).toNat < 8) :
    gates te n tiles (ix2 i e)
      = if (BitVec.ofNat 32 (i.val / 512)).toInt < (n (ix1 0)).toInt ∧ (te (ix1 ⟨i.val / 512, by omega⟩)).toNat = e.val then (1 : EReal) else 0 := by
  have : gates te n tiles (ix2 i e) = FloatOps.uitofp .f32 (IntOp.cmpi .eq (Scalar.select (IntOp.cmpi .slt (tiles (ix1 i)) (n (ix1 0)))
     (Host.gather gather_S74_S37888x1_S37888_n_0_n_n_0_1_1 te (broadcastInDim S37888x1 ![0] bcast_S37888_S37888x1_0 (select (cmpi .slt tiles (broadcastInDim S37888 ![] bcast_S_S37888 (constantI S_ 32 0#32))) (addi tiles (broadcastInDim S37888 ![] bcast_S_S37888 (constantI S_ 32 74#32))) tiles)) (ix1 i)) 8#32) (BitVec.ofNat 32 e.val)) := by
    pointwise [gates]
    rfl
  rw [this, gathered, tiles_apply, one_hot]
  have he : (BitVec.ofNat 32 e.val).toNat = e.val := by
    rw [BitVec.toNat_ofNat]
    omega
  by_cases hu : (BitVec.ofNat 32 (i.val / 512)).toInt < (n (ix1 0)).toInt
  · rw [select_slt_pos hu]
    refine if_congr ⟨fun h => ⟨hu, by rw [h, he]⟩, fun h => BitVec.eq_of_toNat_eq (h.2.trans he.symm)⟩ rfl rfl
  · rw [select_slt_neg hu]
    refine if_congr ⟨fun h => ?_, fun h => absurd h.1 hu⟩ rfl rfl
    have := congrArg BitVec.toNat h
    rw [he] at this
    have h8 : (8#32 : BitVec 32).toNat = 8 := rfl
    omega

/-- The sum over the experts, each at its gate. -/
def summed (T : FVec Ideal S37888x8 .f32) (Y : Fin 8 → FVec Ideal S37888x1024 .f32) (h : ∀ e : Fin 8, S37888x8.Slices ![0, e.val] S37888x1) :
    Vec Ideal S37888x1024 .bf16 :=
  truncf .bf16 (addf (addf (addf (addf (addf (addf (addf (addf (broadcastInDim S37888x1024 ![] bcast_S_S37888x1024 (constant S_ .f32 0x00000000#32))
    (gated T (Y 0) 0 (h 0))) (gated T (Y 1) 1 (h 1))) (gated T (Y 2) 2 (h 2))) (gated T (Y 3) 3 (h 3))) (gated T (Y 4) 4 (h 4)))
    (gated T (Y 5) 5 (h 5))) (gated T (Y 6) 6 (h 6))) (gated T (Y 7) 7 (h 7))) bitsLt_bf16_f32

theorem summed_apply (T : FVec Ideal S37888x8 .f32) (Y : Fin 8 → FVec Ideal S37888x1024 .f32) (h : ∀ e : Fin 8, S37888x8.Slices ![0, e.val] S37888x1)
    (i : Fin 37888) (q : Fin 1024) :
    summed T Y h (ix2 i q) = ∑ e : Fin 8, HMul.hMul (α := EReal) (T (ix2 i e)) (Y e (ix2 i q)) := by
  rw [Fin.sum_univ_eight]
  simp only [← gated_apply T _ _ (h _)]
  pointwise [summed]

theorem gates_fit (e : Fin 8) : S37888x8.Slices ![0, e.val] S37888x1 := by
  fin_cases e <;> decide

theorem ups_fit (e : Fin 8) : S2x8x1024x7168.Slices ![0, e.val, 0, 0] S1x1x1024x7168 := by
  fin_cases e <;> decide

theorem downs_fit (e : Fin 8) : S2x8x3584x1024.Slices ![0, e.val, 0, 0] S1x1x3584x1024 := by
  fin_cases e <;> decide

/-- The reference's whole term. -/
abbrev term (te : IVec S74 32) (n : IVec S1 32) (X : Vec Ideal S37888x1024 .bf16) (W : Vec Ideal S2x8x1024x7168 .bf16)
    (V : Vec Ideal S2x8x3584x1024 .bf16) : Vec Ideal S37888x1024 .bf16 :=
  summed (gates te n tiles) (fun e => narrow (hidden (wide X W e (ups_fit e))) V e (downs_fit e)) gates_fit

theorem term_apply (te : IVec S74 32) (n : IVec S1 32) (X : Vec Ideal S37888x1024 .bf16) (W : Vec Ideal S2x8x1024x7168 .bf16)
    (V : Vec Ideal S2x8x3584x1024 .bf16) (hn : ∀ j : Fin 74, (te (ix1 j)).toNat < 8) (i : Fin 37888) (q : Fin 1024) :
    term te n X W V (ix2 i q) = routed (fun j => te (ix1 j)) (n (ix1 0)) X W V i q := by
  rw [term, summed_apply]
  unfold routed
  simp only [expert_apply, gates_apply te n i _ (hn _)]
  have h8 := hn ⟨i.val / 512, by omega⟩
  by_cases hu : (BitVec.ofNat 32 (i.val / 512)).toInt < (n (ix1 0)).toInt
  · rw [if_pos hu, Finset.sum_eq_single (⟨(te (ix1 ⟨i.val / 512, by omega⟩)).toNat % 8, by omega⟩ : Fin 8)]
    · rw [if_pos ⟨hu, (Nat.mod_eq_of_lt h8).symm⟩, one_mul]
    · intro e _ he
      rw [if_neg (fun h => he (Fin.ext (h.2.symm.trans (Nat.mod_eq_of_lt h8).symm))), zero_mul]
    · exact fun h => absurd (Finset.mem_univ _) h
  · rw [if_neg hu]
    refine Finset.sum_eq_zero fun e _ => ?_
    rw [if_neg (fun h => hu h.1), zero_mul]

theorem term_eq (te : IVec S74 32) (n : IVec S1 32) (X : Vec Ideal S37888x1024 .bf16) (W : Vec Ideal S2x8x1024x7168 .bf16)
    (V : Vec Ideal S2x8x3584x1024 .bf16) (hn : ∀ j : Fin 74, (te (ix1 j)).toNat < 8) :
    term te n X W V = fun y => routed (fun j => te (ix1 j)) (n (ix1 0)) X W V (y 0) (y 1) := by
  funext y
  have h0 : (y 0).val < 37888 := (y 0).isLt
  have h1 : (y 1).val < 1024 := (y 1).isLt
  have hy : y = ix2 ⟨y 0, h0⟩ ⟨y 1, h1⟩ := by
    refine funext fun a => ?_
    fin_cases a <;> rfl
  rw [hy]
  exact term_apply te n X W V hn ⟨y 0, h0⟩ ⟨y 1, h1⟩

end Cert.Reference2Ideal.Exp
end
-- ==== Proof.Feed.Body.lean ====
module
public import proofs.«01_k».proof.Proof.Gen.Kernel3Ideal.Skeleton
public import Idealize.ShloMosaic.Lib.Pointwise
public import proofs.«01_k».proof.Proof.Experts.Body
@[expose] public section
set_option maxRecDepth 16384

/-! # What one grid point of each of the feed-forward layer's two calls computes -/

noncomputable section
open Idealize.ShloMosaic Idealize.ShloMosaic.TcCoe Idealize.SL.Sem
namespace Cert.Kernel3Ideal.Feed
open Cert.Kernel3Ideal Cert.Kernel3Ideal.Gen Cert.Experts

theorem in_apply (x : Vec Ideal S768x1024 .bf16) (g u : Vec Ideal S1024x1408 .bf16) (r : Fin 768) (k : Fin 1408) :
    k0_pay1 x g u (ix2 r k) = HMul.hMul (α := EReal) (swish (∑ d : Fin 1024, HMul.hMul (α := EReal) (x (ix2 r d)) (g (ix2 d k))))
      (∑ d : Fin 1024, HMul.hMul (α := EReal) (x (ix2 r d)) (u (ix2 d k))) := by
  unfold swish
  rw [← ofBits_one]
  pointwise [k0_pay1]
  simp only [zero_sub]

theorem out_apply (h : Vec Ideal S768x2816 .bf16) (v : Vec Ideal S2816x1024 .bf16) (r : Fin 768) (q : Fin 1024) :
    k1_pay1 h v (ix2 r q) = ∑ k : Fin 2816, HMul.hMul (α := EReal) (h (ix2 r k)) (v (ix2 k q)) := by
  pointwise [k1_pay1]

end Cert.Kernel3Ideal.Feed
end
-- ==== Proof.Feed.Reference.lean ====
module
public import proofs.«01_k».proof.Proof.Gen.Reference3Ideal.Run
public import Idealize.ShloMosaic.Lib.Pointwise
public import proofs.«01_k».proof.Proof.Experts.Body
@[expose] public section
set_option maxRecDepth 16384

/-! # The feed-forward layer's reference, read at an index -/

noncomputable section
open Idealize.ShloMosaic Idealize.ShloMosaic.TcCoe Idealize.SL.Sem
namespace Cert.Reference3Ideal.Feed
open Cert.Reference3Ideal Cert.Reference3Ideal.Gen Cert.Experts

/-- Hidden unit `k` of row `i`. -/
def act (X : Vec Ideal S16896x1024 .bf16) (W : Vec Ideal S1024x5632 .bf16) (i : Fin 16896) (k : Fin 2816) : EReal :=
  swish (∑ d : Fin 1024, HMul.hMul (α := EReal) (X (ix2 i d)) (W (ix2 d ⟨k.val, by omega⟩)))
    * ∑ d : Fin 1024, HMul.hMul (α := EReal) (X (ix2 i d)) (W (ix2 d ⟨2816 + k.val, by omega⟩))

/-- Every row times the first matrix. -/
def wide (X : Vec Ideal S16896x1024 .bf16) (W : Vec Ideal S1024x5632 .bf16) : FVec Ideal S16896x5632 .f32 :=
  Host.dotGeneral dot_S16896x1024_S1024x5632_S16896x5632_1_0_0_1_n_n none (extf .f32 X bitsLt_bf16_f32) (extf .f32 W bitsLt_bf16_f32)

/-- The hidden units: the first half times its logistic, times the second half. -/
def hidden (G : FVec Ideal S16896x5632 .f32) : FVec Ideal S16896x2816 .f32 :=
  mulf (mulf (extractStridedSlice S16896x2816 ![0, 0] G slices_S16896x5632_S16896x2816_0_0) (Host.divf (broadcastInDim S16896x2816 ![] bcast_S_S16896x2816 (constant S_ .f32 0x3F800000#32)) (addf (broadcastInDim S16896x2816 ![] bcast_S_S16896x2816 (constant S_ .f32 0x3F800000#32)) (Host.exp (Host.negf (extractStridedSlice S16896x2816 ![0, 0] G slices_S16896x5632_S16896x2816_0_0)))))) (extractStridedSlice S16896x2816 ![0, 2816] G slices_S16896x5632_S16896x2816_0_2816)

/-- The hidden units times the second matrix. -/
def narrow (H : FVec Ideal S16896x2816 .f32) (V : Vec Ideal S2816x1024 .bf16) : FVec Ideal S16896x1024 .f32 :=
  Host.dotGeneral dot_S16896x2816_S2816x1024_S16896x1024_1_0_0_1_n_n none H (extf .f32 V bitsLt_bf16_f32)

/-- The reference's whole term. -/
abbrev term (X : Vec Ideal S16896x1024 .bf16) (W : Vec Ideal S1024x5632 .bf16) (V : Vec Ideal S2816x1024 .bf16) : FVec Ideal S16896x1024 .f32 :=
  narrow (hidden (wide X W)) V

theorem wide_apply (X : Vec Ideal S16896x1024 .bf16) (W : Vec Ideal S1024x5632 .bf16) (i : Fin 16896) (k : Fin 5632) :
    wide X W (ix2 i k) = ∑ d : Fin 1024, HMul.hMul (α := EReal) (X (ix2 i d)) (W (ix2 d k)) := by
  pointwise [wide]

theorem hidden_apply (G : FVec Ideal S16896x5632 .f32) (i : Fin 16896) (k : Fin 2816) :
    hidden G (ix2 i k) = HMul.hMul (α := EReal) (swish (G (ix2 i ⟨k.val, by omega⟩))) (G (ix2 i ⟨2816 + k.val, by omega⟩)) := by
  unfold swish
  rw [← ofBits_one]
  pointwise [hidden]

theorem narrow_apply (H : FVec Ideal S16896x2816 .f32) (V : Vec Ideal S2816x1024 .bf16) (i : Fin 16896) (q : Fin 1024) :
    narrow H V (ix2 i q) = ∑ k : Fin 2816, HMul.hMul (α := EReal) (H (ix2 i k)) (V (ix2 k q)) := by
  pointwise [narrow]

theorem term_apply (X : Vec Ideal S16896x1024 .bf16) (W : Vec Ideal S1024x5632 .bf16) (V : Vec Ideal S2816x1024 .bf16)
    (i : Fin 16896) (q : Fin 1024) :
    term X W V (ix2 i q) = ∑ k : Fin 2816, act X W i k * V (ix2 k q) := by
  rw [term, narrow_apply]
  refine Finset.sum_congr rfl fun k _ => ?_
  rw [hidden_apply, wide_apply, wide_apply]
  rfl

/-- The same at every index. -/
theorem term_eq (X : Vec Ideal S16896x1024 .bf16) (W : Vec Ideal S1024x5632 .bf16) (V : Vec Ideal S2816x1024 .bf16) :
    term X W V = fun y => ∑ k : Fin 2816, HMul.hMul (α := EReal) (act X W (y 0) k) (V (ix2 k (y 1))) := by
  funext y
  have hy : y = ix2 (y 0) (y 1) := by
    blk_ext
  rw [hy]
  exact term_apply X W V (y 0) (y 1)

end Cert.Reference3Ideal.Feed
end
-- ==== Proof.Feed.Value.lean ====
module
public import proofs.«01_k».proof.Proof.Gen.Kernel3Ideal.Frame
public import Idealize.ShloMosaic.Lib.Pipeline.ValueKit
public import proofs.«01_k».proof.Proof.Feed.Body
public import proofs.«01_k».proof.Proof.Feed.Reference
@[expose] public section
set_option maxRecDepth 16384

/-! # The feed-forward layer's result array

The hidden units that the first call leaves, and the rows the second makes of them. -/

noncomputable section
open Idealize.ShloMosaic Idealize.ShloMosaic.TcCoe Idealize.SL.Sem
namespace Cert.Kernel3Ideal.Feed
open Cert.Kernel3Ideal Cert.Kernel3Ideal.Gen Cert.Experts
open Cert.Reference3Ideal.Feed (act)

/-- The blocks of a grid point of the first call. -/
theorem idx0 : ∀ t : Fin cfg0.N, win0_0.index t = ![(grid0.coords t 1).val, 0]
    ∧ win0_1.index t = ![0, (grid0.coords t 0).val] ∧ win0_2.index t = ![0, (grid0.coords t 0).val + 2]
    ∧ win0_3.index t = ![(grid0.coords t 1).val, (grid0.coords t 0).val]
    ∧ (grid0.coords t 0).val < 2 ∧ (grid0.coords t 1).val < 22 :=
  (by decide +kernel : ∀ t : Fin grid0.N, _)

/-- The blocks of a grid point of the second call. -/
theorem idx1 : ∀ t : Fin cfg1.N, win1_0.index t = ![(grid1.coords t 1).val, 0]
    ∧ win1_1.index t = ![0, (grid1.coords t 0).val] ∧ win1_2.index t = ![(grid1.coords t 1).val, (grid1.coords t 0).val]
    ∧ (grid1.coords t 0).val < 1 ∧ (grid1.coords t 1).val < 22 :=
  (by decide +kernel : ∀ t : Fin grid1.N, _)

section Arrays
variable (V : (c : Dev nD) → (b : Ref sig .tc) → Buf (Elt Ideal) ((c : Thread nD τ).loc b))

theorem win0_x (c : Dev nD) (t : Fin cfg0.N) (r : Fin 768) (d : Fin 1024) (i : Fin 16896)
    (hi : i.val = 768 * (grid0.coords t 1).val + r) : (iblk0 V c 0 t (ix2 r d) : EReal) = V c main_arg0 (ix2 i d) := by
  have hx := idx0 t
  blk_simp [iblk0]
  rw [show ((View.whole main_arg0).slice (win0_0.rect t)).emb (ix2 r d) = ix2 i d by
    blk_ext! [hx]]

theorem win0_g (c : Dev nD) (t : Fin cfg0.N) (d : Fin 1024) (k : Fin 1408) (q : Fin 5632)
    (hq : q.val = 1408 * (grid0.coords t 0).val + k) : (iblk0 V c 1 t (ix2 d k) : EReal) = V c main_arg1 (ix2 d q) := by
  have hx := idx0 t
  blk_simp [iblk0]
  rw [show ((View.whole main_arg1).slice (win0_1.rect t)).emb (ix2 d k) = ix2 d q by
    blk_ext! [hx]]

theorem win0_u (c : Dev nD) (t : Fin cfg0.N) (d : Fin 1024) (k : Fin 1408) (q : Fin 5632)
    (hq : q.val = 1408 * ((grid0.coords t 0).val + 2) + k) : (iblk0 V c 2 t (ix2 d k) : EReal) = V c main_arg1 (ix2 d q) := by
  have hx := idx0 t
  blk_simp [iblk0]
  rw [show ((View.whole main_arg1).slice (win0_2.rect t)).emb (ix2 d k) = ix2 d q by
    blk_ext! [hx]]

theorem win1_h (c : Dev nD) (t : Fin cfg1.N) (r : Fin 768) (d : Fin 2816) (i : Fin 16896)
    (hi : i.val = 768 * (grid1.coords t 1).val + r) : (iblk1 V c 0 t (ix2 r d) : EReal) = V c main_v0 (ix2 i d) := by
  have hx := idx1 t
  blk_simp [iblk1]
  rw [show ((View.whole main_v0).slice (win1_0.rect t)).emb (ix2 r d) = ix2 i d by
    blk_ext! [hx]]

theorem win1_v (c : Dev nD) (t : Fin cfg1.N) (d : Fin 2816) (k : Fin 1024) :
    (iblk1 V c 1 t (ix2 d k) : EReal) = V c main_arg2 (ix2 d k) := by
  have hx := idx1 t
  blk_simp [iblk1]
  rw [show ((View.whole main_arg2).slice (win1_1.rect t)).emb (ix2 d k) = ix2 d k by
    blk_ext! [hx]]

/-- The first call's array holds the hidden units. -/
theorem final0 (c : Dev nD) : (dat0 V c).arrAt 3 cfg0.N = fun y => act (V c main_arg0) (V c main_arg1) (y 0) (y 1) := by
  refine (dat0 V c).arrAt_eq_of_covers 3 _ (by decide +kernel) fun t _ y => ?_
  blk_simp
  rw [after0_3]
  frame_out
  have h0 : (y 0).val < 768 := (y 0).isLt
  have h1 : (y 1).val < 1408 := (y 1).isLt
  have hx := idx0 t
  have hy : y = ix2 ⟨y 0, h0⟩ ⟨y 1, h1⟩ := by
    blk_ext
  rw [hy, show ((View.whole main_v0).slice (win0_3.rect t)).emb (ix2 ⟨y 0, h0⟩ ⟨y 1, h1⟩)
      = ix2 ⟨768 * (grid0.coords t 1).val + y 0, by omega⟩ ⟨1408 * (grid0.coords t 0).val + y 1, by omega⟩ by
    blk_ext! [hx]]
  rw [in_apply]
  unfold act
  refine congrArg₂ (fun a b : EReal => swish a * b)
    (Finset.sum_congr rfl fun d _ => congrArg₂ (HMul.hMul (α := EReal)) (win0_x V c t _ d _ rfl) (win0_g V c t d _ _ rfl))
    (Finset.sum_congr rfl fun d _ => congrArg₂ (HMul.hMul (α := EReal)) (win0_x V c t _ d _ rfl) (win0_u V c t d _ _ ?_))
  show 2816 + (1408 * (grid0.coords t 0).val + (y 1).val) = 1408 * ((grid0.coords t 0).val + 2) + (y 1).val
  omega

/-- Column `q` of the row that the second matrix makes of row `i`. -/
def made (H : Vec Ideal S16896x2816 .bf16) (W : Vec Ideal S2816x1024 .bf16) (i : Fin 16896) (q : Fin 1024) : EReal :=
  ∑ k : Fin 2816, HMul.hMul (α := EReal) (H (ix2 i k)) (W (ix2 k q))

/-- A row's column from equal factors. -/
theorem made_of {H : Vec Ideal S16896x2816 .bf16} {W : Vec Ideal S2816x1024 .bf16} {i : Fin 16896} {q : Fin 1024}
    {f g : Fin 2816 → EReal} (hf : ∀ k, f k = H (ix2 i k)) (hg : ∀ k, g k = W (ix2 k q)) : ∑ k, f k * g k = made H W i q :=
  Finset.sum_congr rfl fun k _ => congrArg₂ (HMul.hMul (α := EReal)) (hf k) (hg k)

/-- The second call's array holds the rows made of them. -/
theorem final1 (c : Dev nD) : (dat1 V c).arrAt 2 cfg1.N
    = fun y => made (V c main_v0) (V c main_arg2) (y 0) (y 1) := by
  refine (dat1 V c).arrAt_eq_of_covers 2 _ (by decide +kernel) fun t _ y => ?_
  blk_simp
  rw [after1_2]
  frame_out
  have h0 : (y 0).val < 768 := (y 0).isLt
  have h1 : (y 1).val < 1024 := (y 1).isLt
  have hx := idx1 t
  have hy : y = ix2 ⟨y 0, h0⟩ ⟨y 1, h1⟩ := by
    blk_ext
  rw [hy, show ((View.whole main_v1).slice (win1_2.rect t)).emb (ix2 ⟨y 0, h0⟩ ⟨y 1, h1⟩)
      = ix2 ⟨768 * (grid1.coords t 1).val + y 0, by omega⟩ ⟨y 1, h1⟩ by
    blk_ext! [hx]]
  rw [out_apply]
  exact made_of (win1_h V c t ⟨y 0, h0⟩ · _ rfl) (win1_v V c t · ⟨y 1, h1⟩)

end Arrays

variable (m : (ℓ : Loc nD τ sig) → Buf (Elt Ideal) ℓ) (ρ : Dev nD → PrngReg)

/-- The layer's result, of the arguments as launched. -/
def result (c : Dev nD) : Buf (Elt Ideal) ((c.tc : Thread nD τ).loc main_v1) := fun y =>
  made (fun z => act (m ((c.tc : Thread nD τ).loc main_arg0)) (m ((c.tc : Thread nD τ).loc main_arg1)) (z 0) (z 1))
    (m ((c.tc : Thread nD τ).loc main_arg2)) (y 0) (y 1)

/-- The second call leaves the layer's result: its rows are the first call's, its matrix the argument as launched. -/
theorem left_result (c : Dev nD) : W2 m ρ c (Proc.devRef .tc main_v1) = result m c := by
  refine (W2_arr m ρ c 2).trans ?_
  rw [final1]
  funext y
  exact made_of (fun k => congrFun ((W1_arr m ρ c 3).trans (final0 (V0 m ρ) c)) (ix2 (y 0) k))
    (fun k => congrFun (W1_args m ρ c main_arg2 (by decide)) (ix2 k (y 1)))

end Cert.Kernel3Ideal.Feed
end
-- ==== Proof.Feed.Run.lean ====
module
public import proofs.«01_k».proof.Proof.Feed.Value
@[expose] public section
set_option maxRecDepth 16384

/-! # The feed-forward layer's two calls run to their result -/

noncomputable section
namespace Cert.Kernel3Ideal.Feed
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program ends with its result and its arguments as launched. -/
theorem run_result : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1 (by decide))).trans (left_result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.Kernel3Ideal.Feed
end
-- ==== Proof.Project.Product.lean ====
module
public import Idealize.ShloMosaic.Lib.Pointwise
@[expose] public section

/-! # The product of two matrices over the extended reals -/

noncomputable section
namespace Cert.Project

/-- Entry `(i, q)` of the product. -/
def product {m k n : ℕ} (X : Fin m → Fin k → EReal) (W : Fin k → Fin n → EReal) (i : Fin m) (q : Fin n) : EReal :=
  ∑ j, X i j * W j q

/-- An entry from equal factors. -/
theorem product_of {m k n : ℕ} {X : Fin m → Fin k → EReal} {W : Fin k → Fin n → EReal} {i : Fin m} {q : Fin n}
    {f g : Fin k → EReal} (hf : ∀ j, f j = X i j) (hg : ∀ j, g j = W j q) : ∑ j, f j * g j = product X W i q :=
  Finset.sum_congr rfl fun j _ => congrArg₂ (· * ·) (hf j) (hg j)

end Cert.Project
end
-- ==== Proof.Project.ScanIn.lean ====
module
public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import proofs.«01_k».proof.Proof.Project.Product
@[expose] public section
set_option maxRecDepth 16384

/-! # The scan's input projection -/

noncomputable section
open Idealize.ShloMosaic Idealize.ShloMosaic.TcCoe Idealize.SL.Sem
namespace Cert.Project.ScanIn
open Cert.Kernel4Ideal Cert.Kernel4Ideal.Gen Cert.Project

variable (m : (ℓ : Loc nD τ sig) → Buf (Elt Ideal) ℓ)

theorem point_apply (x : Vec Ideal S768x1024 .bf16) (w : Vec Ideal S1024x1024 .bf16) (r : Fin 768) (q : Fin 1024) :
    k0_pay1 x w (ix2 r q) = ∑ j : Fin 1024, HMul.hMul (α := EReal) (x (ix2 r j)) (w (ix2 j q)) := by
  pointwise [k0_pay1]

/-- The blocks of a grid point. -/
theorem idx : ∀ t : Fin cfg0.N, win0_0.index t = ![(grid0.coords t 1).val, 0]
    ∧ win0_1.index t = ![0, (grid0.coords t 0).val] ∧ win0_2.index t = ![(grid0.coords t 1).val, (grid0.coords t 0).val]
    ∧ (grid0.coords t 0).val < 5 ∧ (grid0.coords t 1).val < 22 :=
  (by decide +kernel : ∀ t : Fin grid0.N, _)

theorem win_x (c : Dev nD) (t : Fin cfg0.N) (r : Fin 768) (j : Fin 1024) (i : Fin 16896)
    (hi : i.val = 768 * (grid0.coords t 1).val + r) :
    (iblk m c 0 t (ix2 r j) : EReal) = m ((c.tc : Thread nD τ).loc main_arg0) (ix2 i j) := by
  have hx := idx t
  blk_simp [iblk]
  entry_read
  rw [show ((View.whole main_arg0).slice (win0_0.rect t)).emb (ix2 r j) = ix2 i j by
    blk_ext! [hx]]

theorem win_w (c : Dev nD) (t : Fin cfg0.N) (j : Fin 1024) (k : Fin 1024) (q : Fin 5184)
    (hq : q.val = 1024 * (grid0.coords t 0).val + k) :
    (X0_1 m c t (ix2 j k) : EReal) = m ((c.tc : Thread nD τ).loc main_arg1) (ix2 j q) := by
  have hx := idx t
  unfold X0_1 Pipeline.Window.fill
  rw [dif_pos (moved0_1 t _)]
  blk_simp [iblk]
  entry_read
  refine congrArg (m ((c.tc : Thread nD τ).loc main_arg1)) ?_
  blk_ext! [hx]

/-- The projection's result array. -/
def result (c : Dev nD) : Buf (Elt Ideal) ((c.tc : Thread nD τ).loc main_v0) := fun y =>
  product (m := 16896) (n := 5120) (fun i j => m ((c.tc : Thread nD τ).loc main_arg0) (ix2 i j))
    (fun j q => m ((c.tc : Thread nD τ).loc main_arg1) (ix2 j ⟨q.val, by omega⟩)) (y 0) (y 1)

theorem final (c : Dev nD) : (dats m 0 c).arrAt 2 cfg0.N = result m c := by
  refine (dats m 0 c).arrAt_eq_of_covers 2 _ (by decide +kernel) fun t _ y => ?_
  blk_simp
  rw [after0_2]
  simp only [outsAt0]
  frame_out
  have h0 : (y 0).val < 768 := (y 0).isLt
  have h1 : (y 1).val < 1024 := (y 1).isLt
  have hx := idx t
  have hy : y = ix2 ⟨y 0, h0⟩ ⟨y 1, h1⟩ := by
    blk_ext
  rw [hy, show ((View.whole main_v0).slice (win0_2.rect t)).emb (ix2 ⟨y 0, h0⟩ ⟨y 1, h1⟩)
      = ix2 ⟨768 * (grid0.coords t 1).val + y 0, by omega⟩ ⟨1024 * (grid0.coords t 0).val + y 1, by omega⟩ by
    blk_ext! [hx]]
  rw [point_apply]
  exact product_of (win_x m c t ⟨y 0, h0⟩ · _ rfl) (win_w m c t · ⟨y 1, h1⟩ _ rfl)

/-- The reference's term is the same product. -/
theorem term_eq (X : Vec Ideal Cert.Reference4Ideal.S16896x1024 .bf16) (W : Vec Ideal Cert.Reference4Ideal.S1024x5184 .bf16) :
    extractStridedSlice Cert.Reference4Ideal.S16896x5120 ![0, 0] (Host.dotGeneral (F := Ideal) Cert.Reference4Ideal.dot_S16896x1024_S1024x5184_S16896x5184_1_0_0_1_n_n none
      (extf .f32 X Cert.Reference4Ideal.Gen.bitsLt_bf16_f32) (extf .f32 W Cert.Reference4Ideal.Gen.bitsLt_bf16_f32)) Cert.Reference4Ideal.Gen.slices_S16896x5184_S16896x5120_0_0
    = fun y => product (m := 16896) (n := 5120) (fun i j => X (ix2 i j)) (fun j q => W (ix2 j ⟨q.val, by omega⟩)) (y 0) (y 1) := by
  funext y
  have hy : y = ix2 (y 0) (y 1) := by
    blk_ext
  rw [hy]
  generalize y 0 = i
  generalize y 1 = q
  unfold product
  pointwise []

/-- The reference ends well from every memory. -/
theorem frame_reference : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The kernel's result is the reference's product. -/
theorem value : Cert.algebraic_Kernel4Ideal_Reference4Ideal (hKernel4Ideal := Cert.Kernel4Ideal.Gen.facts)
    (hReference4Ideal := Cert.Reference4Ideal.Gen.facts) := by
  intro m ρ m' ρ' _ hagree
  refine ⟨_, Cert.Kernel4Ideal.Value.run_blocks m ρ, ?_⟩
  refine (θ_run Cert.Reference4Ideal.defs _ _).mono (fun _ h c => ⟨(h c).1.trans ?_, (h c).2⟩)
    (Cert.Reference4Ideal.Value.run (F := Ideal) m' ρ')
  rw [(hagree c).1, (hagree c).2]
  exact (term_eq _ _).trans (final m c).symm

end Cert.Project.ScanIn
end
-- ==== Proof.Project.ScanOut.lean ====
module
public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import proofs.«01_k».proof.Proof.Project.Product
@[expose] public section
set_option maxRecDepth 16384

/-! # The scan's output projection -/

noncomputable section
open Idealize.ShloMosaic Idealize.ShloMosaic.TcCoe Idealize.SL.Sem
namespace Cert.Project.ScanOut
open Cert.Kernel5Ideal Cert.Kernel5Ideal.Gen Cert.Project

variable (m : (ℓ : Loc nD τ sig) → Buf (Elt Ideal) ℓ)

theorem point_apply (x : Vec Ideal S768x2048 .bf16) (w : Vec Ideal S2048x1024 .bf16) (r : Fin 768) (q : Fin 1024) :
    k0_pay1 x w (ix2 r q) = ∑ j : Fin 2048, HMul.hMul (α := EReal) (x (ix2 r j)) (w (ix2 j q)) := by
  pointwise [k0_pay1]

/-- The blocks of a grid point. -/
theorem idx : ∀ t : Fin cfg0.N, win0_0.index t = ![(grid0.coords t 1).val, 0]
    ∧ win0_1.index t = ![0, (grid0.coords t 0).val] ∧ win0_2.index t = ![(grid0.coords t 1).val, (grid0.coords t 0).val]
    ∧ (grid0.coords t 0).val < 1 ∧ (grid0.coords t 1).val < 22 :=
  (by decide +kernel : ∀ t : Fin grid0.N, _)

theorem win_x (c : Dev nD) (t : Fin cfg0.N) (r : Fin 768) (j : Fin 2048) (i : Fin 16896)
    (hi : i.val = 768 * (grid0.coords t 1).val + r) :
    (iblk m c 0 t (ix2 r j) : EReal) = m ((c.tc : Thread nD τ).loc main_arg0) (ix2 i j) := by
  have hx := idx t
  blk_simp [iblk]
  entry_read
  rw [show ((View.whole main_arg0).slice (win0_0.rect t)).emb (ix2 r j) = ix2 i j by
    blk_ext! [hx]]

theorem win_w (c : Dev nD) (t : Fin cfg0.N) (j : Fin 2048) (k : Fin 1024) (q : Fin 1024)
    (hq : q.val = 1024 * (grid0.coords t 0).val + k) :
    (iblk m c 1 t (ix2 j k) : EReal) = m ((c.tc : Thread nD τ).loc main_arg1) (ix2 j q) := by
  have hx := idx t
  blk_simp [iblk]
  entry_read
  rw [show ((View.whole main_arg1).slice (win0_1.rect t)).emb (ix2 j k) = ix2 j q by
    blk_ext! [hx]]

/-- The projection's result array. -/
def result (c : Dev nD) : Buf (Elt Ideal) ((c.tc : Thread nD τ).loc main_v0) := fun y =>
  product (m := 16896) (n := 1024) (fun i j => m ((c.tc : Thread nD τ).loc main_arg0) (ix2 i j))
    (fun j q => m ((c.tc : Thread nD τ).loc main_arg1) (ix2 j q)) (y 0) (y 1)

theorem final (c : Dev nD) : (dats m 0 c).arrAt 2 cfg0.N = result m c := by
  refine (dats m 0 c).arrAt_eq_of_covers 2 _ (by decide +kernel) fun t _ y => ?_
  blk_simp
  rw [after0_2]
  frame_out
  have h0 : (y 0).val < 768 := (y 0).isLt
  have h1 : (y 1).val < 1024 := (y 1).isLt
  have hx := idx t
  have hy : y = ix2 ⟨y 0, h0⟩ ⟨y 1, h1⟩ := by
    blk_ext
  rw [hy, show ((View.whole main_v0).slice (win0_2.rect t)).emb (ix2 ⟨y 0, h0⟩ ⟨y 1, h1⟩)
      = ix2 ⟨768 * (grid0.coords t 1).val + y 0, by omega⟩ ⟨1024 * (grid0.coords t 0).val + y 1, by omega⟩ by
    blk_ext! [hx]]
  rw [point_apply]
  exact product_of (win_x m c t ⟨y 0, h0⟩ · _ rfl) (win_w m c t · ⟨y 1, h1⟩ _ rfl)

/-- The reference's term is the same product. -/
theorem term_eq (X : Vec Ideal Cert.Reference5Ideal.S16896x2048 .bf16) (W : Vec Ideal Cert.Reference5Ideal.S2048x1024 .bf16) :
    Host.dotGeneral (F := Ideal) Cert.Reference5Ideal.dot_S16896x2048_S2048x1024_S16896x1024_1_0_0_1_n_n none
      (extf .f32 X Cert.Reference5Ideal.Gen.bitsLt_bf16_f32) (extf .f32 W Cert.Reference5Ideal.Gen.bitsLt_bf16_f32)
    = fun y => product (m := 16896) (n := 1024) (fun i j => X (ix2 i j)) (fun j q => W (ix2 j q)) (y 0) (y 1) := by
  funext y
  have hy : y = ix2 (y 0) (y 1) := by
    blk_ext
  rw [hy]
  generalize y 0 = i
  generalize y 1 = q
  unfold product
  pointwise []

/-- The reference ends well from every memory. -/
theorem frame_reference : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The kernel's result is the reference's product. -/
theorem value : Cert.algebraic_Kernel5Ideal_Reference5Ideal (hKernel5Ideal := Cert.Kernel5Ideal.Gen.facts)
    (hReference5Ideal := Cert.Reference5Ideal.Gen.facts) := by
  intro m ρ m' ρ' _ hagree
  refine ⟨_, Cert.Kernel5Ideal.Value.run_blocks m ρ, ?_⟩
  refine (θ_run Cert.Reference5Ideal.defs _ _).mono (fun _ h c => ⟨(h c).1.trans ?_, (h c).2⟩)
    (Cert.Reference5Ideal.Value.run (F := Ideal) m' ρ')
  rw [(hagree c).1, (hagree c).2]
  exact (term_eq _ _).trans (final m c).symm

end Cert.Project.ScanOut
end
-- ==== Proof.Project.Recurrence.lean ====
module
public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import proofs.«01_k».proof.Proof.Project.Product
@[expose] public section
set_option maxRecDepth 16384

/-! # The recurrence's projections -/

noncomputable section
open Idealize.ShloMosaic Idealize.ShloMosaic.TcCoe Idealize.SL.Sem
namespace Cert.Project.Recurrence
open Cert.Kernel6Ideal Cert.Kernel6Ideal.Gen Cert.Project

variable (m : (ℓ : Loc nD τ sig) → Buf (Elt Ideal) ℓ)

theorem point_apply (x : Vec Ideal S768x1024 .bf16) (w : Vec Ideal S1024x1024 .bf16) (r : Fin 768) (q : Fin 1024) :
    k0_pay1 x w (ix2 r q) = ∑ j : Fin 1024, HMul.hMul (α := EReal) (x (ix2 r j)) (w (ix2 j q)) := by
  pointwise [k0_pay1]

/-- The blocks of a grid point. -/
theorem idx : ∀ t : Fin cfg0.N, win0_0.index t = ![(grid0.coords t 1).val, 0]
    ∧ win0_1.index t = ![0, (grid0.coords t 0).val] ∧ win0_2.index t = ![(grid0.coords t 1).val, (grid0.coords t 0).val]
    ∧ (grid0.coords t 0).val < 1 ∧ (grid0.coords t 1).val < 22 :=
  (by decide +kernel : ∀ t : Fin grid0.N, _)

theorem win_x (c : Dev nD) (t : Fin cfg0.N) (r : Fin 768) (j : Fin 1024) (i : Fin 16896)
    (hi : i.val = 768 * (grid0.coords t 1).val + r) :
    (iblk m c 0 t (ix2 r j) : EReal) = m ((c.tc : Thread nD τ).loc main_arg0) (ix2 i j) := by
  have hx := idx t
  blk_simp [iblk]
  entry_read
  rw [show ((View.whole main_arg0).slice (win0_0.rect t)).emb (ix2 r j) = ix2 i j by
    blk_ext! [hx]]

theorem win_w (c : Dev nD) (t : Fin cfg0.N) (j : Fin 1024) (k : Fin 1024) (q : Fin 1024)
    (hq : q.val = 1024 * (grid0.coords t 0).val + k) :
    (iblk m c 1 t (ix2 j k) : EReal) = m ((c.tc : Thread nD τ).loc main_arg1) (ix2 j q) := by
  have hx := idx t
  blk_simp [iblk]
  entry_read
  rw [show ((View.whole main_arg1).slice (win0_1.rect t)).emb (ix2 j k) = ix2 j q by
    blk_ext! [hx]]

/-- The projection's result array. -/
def result (c : Dev nD) : Buf (Elt Ideal) ((c.tc : Thread nD τ).loc main_v0) := fun y =>
  product (m := 16896) (n := 1024) (fun i j => m ((c.tc : Thread nD τ).loc main_arg0) (ix2 i j))
    (fun j q => m ((c.tc : Thread nD τ).loc main_arg1) (ix2 j q)) (y 0) (y 1)

theorem final (c : Dev nD) : (dats m 0 c).arrAt 2 cfg0.N = result m c := by
  refine (dats m 0 c).arrAt_eq_of_covers 2 _ (by decide +kernel) fun t _ y => ?_
  blk_simp
  rw [after0_2]
  frame_out
  have h0 : (y 0).val < 768 := (y 0).isLt
  have h1 : (y 1).val < 1024 := (y 1).isLt
  have hx := idx t
  have hy : y = ix2 ⟨y 0, h0⟩ ⟨y 1, h1⟩ := by
    blk_ext
  rw [hy, show ((View.whole main_v0).slice (win0_2.rect t)).emb (ix2 ⟨y 0, h0⟩ ⟨y 1, h1⟩)
      = ix2 ⟨768 * (grid0.coords t 1).val + y 0, by omega⟩ ⟨1024 * (grid0.coords t 0).val + y 1, by omega⟩ by
    blk_ext! [hx]]
  rw [point_apply]
  exact product_of (win_x m c t ⟨y 0, h0⟩ · _ rfl) (win_w m c t · ⟨y 1, h1⟩ _ rfl)

/-- The reference's term is the same product. -/
theorem term_eq (X : Vec Ideal Cert.Reference6Ideal.S16896x1024 .bf16) (W : Vec Ideal Cert.Reference6Ideal.S1024x1024 .bf16) :
    Host.dotGeneral (F := Ideal) Cert.Reference6Ideal.dot_S16896x1024_S1024x1024_S16896x1024_1_0_0_1_n_n none
      (extf .f32 X Cert.Reference6Ideal.Gen.bitsLt_bf16_f32) (extf .f32 W Cert.Reference6Ideal.Gen.bitsLt_bf16_f32)
    = fun y => product (m := 16896) (n := 1024) (fun i j => X (ix2 i j)) (fun j q => W (ix2 j q)) (y 0) (y 1) := by
  funext y
  have hy : y = ix2 (y 0) (y 1) := by
    blk_ext
  rw [hy]
  generalize y 0 = i
  generalize y 1 = q
  unfold product
  pointwise []

/-- The reference ends well from every memory. -/
theorem frame_reference : Cert.quiescent_Reference6Ideal (hReference6Ideal := Cert.Reference6Ideal.Gen.facts) :=
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The kernel's result is the reference's product. -/
theorem value : Cert.algebraic_Kernel6Ideal_Reference6Ideal (hKernel6Ideal := Cert.Kernel6Ideal.Gen.facts)
    (hReference6Ideal := Cert.Reference6Ideal.Gen.facts) := by
  intro m ρ m' ρ' _ hagree
  refine ⟨_, Cert.Kernel6Ideal.Value.run_blocks m ρ, ?_⟩
  refine (θ_run Cert.Reference6Ideal.defs _ _).mono (fun _ h c => ⟨(h c).1.trans ?_, (h c).2⟩)
    (Cert.Reference6Ideal.Value.run (F := Ideal) m' ρ')
  rw [(hagree c).1, (hagree c).2]
  exact (term_eq _ _).trans (final m c).symm

end Cert.Project.Recurrence
end
-- ==== Proof.Project.AttendIn.lean ====
module
public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import proofs.«01_k».proof.Proof.Project.Product
@[expose] public section
set_option maxRecDepth 16384

/-! # The attention's input projection -/

noncomputable section
open Idealize.ShloMosaic Idealize.ShloMosaic.TcCoe Idealize.SL.Sem
namespace Cert.Project.AttendIn
open Cert.Kernel7Ideal Cert.Kernel7Ideal.Gen Cert.Project

variable (m : (ℓ : Loc nD τ sig) → Buf (Elt Ideal) ℓ)

theorem point_apply (x : Vec Ideal S768x1024 .bf16) (w : Vec Ideal S1024x768 .bf16) (r : Fin 768) (q : Fin 768) :
    k0_pay1 x w (ix2 r q) = ∑ j : Fin 1024, HMul.hMul (α := EReal) (x (ix2 r j)) (w (ix2 j q)) := by
  pointwise [k0_pay1]

/-- The blocks of a grid point. -/
theorem idx : ∀ t : Fin cfg0.N, win0_0.index t = ![(grid0.coords t 1).val, 0]
    ∧ win0_1.index t = ![0, (grid0.coords t 0).val] ∧ win0_2.index t = ![(grid0.coords t 1).val, (grid0.coords t 0).val]
    ∧ (grid0.coords t 0).val < 2 ∧ (grid0.coords t 1).val < 22 :=
  (by decide +kernel : ∀ t : Fin grid0.N, _)

theorem win_x (c : Dev nD) (t : Fin cfg0.N) (r : Fin 768) (j : Fin 1024) (i : Fin 16896)
    (hi : i.val = 768 * (grid0.coords t 1).val + r) :
    (iblk m c 0 t (ix2 r j) : EReal) = m ((c.tc : Thread nD τ).loc main_arg0) (ix2 i j) := by
  have hx := idx t
  blk_simp [iblk]
  entry_read
  rw [show ((View.whole main_arg0).slice (win0_0.rect t)).emb (ix2 r j) = ix2 i j by
    blk_ext! [hx]]

theorem win_w (c : Dev nD) (t : Fin cfg0.N) (j : Fin 1024) (k : Fin 768) (q : Fin 1536)
    (hq : q.val = 768 * (grid0.coords t 0).val + k) :
    (iblk m c 1 t (ix2 j k) : EReal) = m ((c.tc : Thread nD τ).loc main_arg1) (ix2 j q) := by
  have hx := idx t
  blk_simp [iblk]
  entry_read
  rw [show ((View.whole main_arg1).slice (win0_1.rect t)).emb (ix2 j k) = ix2 j q by
    blk_ext! [hx]]

/-- The projection's result array. -/
def result (c : Dev nD) : Buf (Elt Ideal) ((c.tc : Thread nD τ).loc main_v0) := fun y =>
  product (m := 16896) (n := 1536) (fun i j => m ((c.tc : Thread nD τ).loc main_arg0) (ix2 i j))
    (fun j q => m ((c.tc : Thread nD τ).loc main_arg1) (ix2 j q)) (y 0) (y 1)

theorem final (c : Dev nD) : (dats m 0 c).arrAt 2 cfg0.N = result m c := by
  refine (dats m 0 c).arrAt_eq_of_covers 2 _ (by decide +kernel) fun t _ y => ?_
  blk_simp
  rw [after0_2]
  frame_out
  have h0 : (y 0).val < 768 := (y 0).isLt
  have h1 : (y 1).val < 768 := (y 1).isLt
  have hx := idx t
  have hy : y = ix2 ⟨y 0, h0⟩ ⟨y 1, h1⟩ := by
    blk_ext
  rw [hy, show ((View.whole main_v0).slice (win0_2.rect t)).emb (ix2 ⟨y 0, h0⟩ ⟨y 1, h1⟩)
      = ix2 ⟨768 * (grid0.coords t 1).val + y 0, by omega⟩ ⟨768 * (grid0.coords t 0).val + y 1, by omega⟩ by
    blk_ext! [hx]]
  rw [point_apply]
  exact product_of (win_x m c t ⟨y 0, h0⟩ · _ rfl) (win_w m c t · ⟨y 1, h1⟩ _ rfl)

/-- The reference's term is the same product. -/
theorem term_eq (X : Vec Ideal Cert.Reference7Ideal.S16896x1024 .bf16) (W : Vec Ideal Cert.Reference7Ideal.S1024x1536 .bf16) :
    Host.dotGeneral (F := Ideal) Cert.Reference7Ideal.dot_S16896x1024_S1024x1536_S16896x1536_1_0_0_1_n_n none
      (extf .f32 X Cert.Reference7Ideal.Gen.bitsLt_bf16_f32) (extf .f32 W Cert.Reference7Ideal.Gen.bitsLt_bf16_f32)
    = fun y => product (m := 16896) (n := 1536) (fun i j => X (ix2 i j)) (fun j q => W (ix2 j q)) (y 0) (y 1) := by
  funext y
  have hy : y = ix2 (y 0) (y 1) := by
    blk_ext
  rw [hy]
  generalize y 0 = i
  generalize y 1 = q
  unfold product
  pointwise []

/-- The reference ends well from every memory. -/
theorem frame_reference : Cert.quiescent_Reference7Ideal (hReference7Ideal := Cert.Reference7Ideal.Gen.facts) :=
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The kernel's result is the reference's product. -/
theorem value : Cert.algebraic_Kernel7Ideal_Reference7Ideal (hKernel7Ideal := Cert.Kernel7Ideal.Gen.facts)
    (hReference7Ideal := Cert.Reference7Ideal.Gen.facts) := by
  intro m ρ m' ρ' _ hagree
  refine ⟨_, Cert.Kernel7Ideal.Value.run_blocks m ρ, ?_⟩
  refine (θ_run Cert.Reference7Ideal.defs _ _).mono (fun _ h c => ⟨(h c).1.trans ?_, (h c).2⟩)
    (Cert.Reference7Ideal.Value.run (F := Ideal) m' ρ')
  rw [(hagree c).1, (hagree c).2]
  exact (term_eq _ _).trans (final m c).symm

end Cert.Project.AttendIn
end
-- ==== Proof.Project.AttendOut.lean ====
module
public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import proofs.«01_k».proof.Proof.Project.Product
@[expose] public section
set_option maxRecDepth 16384

/-! # The attention's output projection -/

noncomputable section
open Idealize.ShloMosaic Idealize.ShloMosaic.TcCoe Idealize.SL.Sem
namespace Cert.Project.AttendOut
open Cert.Kernel8Ideal Cert.Kernel8Ideal.Gen Cert.Project

variable (m : (ℓ : Loc nD τ sig) → Buf (Elt Ideal) ℓ)

theorem point_apply (x : Vec Ideal S1024x1024 .bf16) (w : Vec Ideal S1024x1024 .bf16) (r : Fin 1024) (q : Fin 1024) :
    k0_pay1 x w (ix2 r q) = ∑ j : Fin 1024, HMul.hMul (α := EReal) (x (ix2 r j)) (w (ix2 j q)) := by
  pointwise [k0_pay1]

/-- The blocks of a grid point. -/
theorem idx : ∀ t : Fin cfg0.N, win0_0.index t = ![(grid0.coords t 1).val, 0]
    ∧ win0_1.index t = ![0, (grid0.coords t 0).val] ∧ win0_2.index t = ![(grid0.coords t 1).val, (grid0.coords t 0).val]
    ∧ (grid0.coords t 0).val < 1 ∧ (grid0.coords t 1).val < 16 :=
  (by decide +kernel : ∀ t : Fin grid0.N, _)

theorem win_x (c : Dev nD) (t : Fin cfg0.N) (r : Fin 1024) (j : Fin 1024) (i : Fin 16384)
    (hi : i.val = 1024 * (grid0.coords t 1).val + r) :
    (iblk m c 0 t (ix2 r j) : EReal) = m ((c.tc : Thread nD τ).loc main_arg0) (ix2 i j) := by
  have hx := idx t
  blk_simp [iblk]
  entry_read
  rw [show ((View.whole main_arg0).slice (win0_0.rect t)).emb (ix2 r j) = ix2 i j by
    blk_ext! [hx]]

theorem win_w (c : Dev nD) (t : Fin cfg0.N) (j : Fin 1024) (k : Fin 1024) (q : Fin 1024)
    (hq : q.val = 1024 * (grid0.coords t 0).val + k) :
    (iblk m c 1 t (ix2 j k) : EReal) = m ((c.tc : Thread nD τ).loc main_arg1) (ix2 j q) := by
  have hx := idx t
  blk_simp [iblk]
  entry_read
  rw [show ((View.whole main_arg1).slice (win0_1.rect t)).emb (ix2 j k) = ix2 j q by
    blk_ext! [hx]]

/-- The projection's result array. -/
def result (c : Dev nD) : Buf (Elt Ideal) ((c.tc : Thread nD τ).loc main_v0) := fun y =>
  product (m := 16384) (n := 1024) (fun i j => m ((c.tc : Thread nD τ).loc main_arg0) (ix2 i j))
    (fun j q => m ((c.tc : Thread nD τ).loc main_arg1) (ix2 j q)) (y 0) (y 1)

theorem final (c : Dev nD) : (dats m 0 c).arrAt 2 cfg0.N = result m c := by
  refine (dats m 0 c).arrAt_eq_of_covers 2 _ (by decide +kernel) fun t _ y => ?_
  blk_simp
  rw [after0_2]
  frame_out
  have h0 : (y 0).val < 1024 := (y 0).isLt
  have h1 : (y 1).val < 1024 := (y 1).isLt
  have hx := idx t
  have hy : y = ix2 ⟨y 0, h0⟩ ⟨y 1, h1⟩ := by
    blk_ext
  rw [hy, show ((View.whole main_v0).slice (win0_2.rect t)).emb (ix2 ⟨y 0, h0⟩ ⟨y 1, h1⟩)
      = ix2 ⟨1024 * (grid0.coords t 1).val + y 0, by omega⟩ ⟨1024 * (grid0.coords t 0).val + y 1, by omega⟩ by
    blk_ext! [hx]]
  rw [point_apply]
  exact product_of (win_x m c t ⟨y 0, h0⟩ · _ rfl) (win_w m c t · ⟨y 1, h1⟩ _ rfl)

/-- The reference's term is the same product. -/
theorem term_eq (X : Vec Ideal Cert.Reference8Ideal.S16384x1024 .bf16) (W : Vec Ideal Cert.Reference8Ideal.S1024x1024 .bf16) :
    Host.dotGeneral (F := Ideal) Cert.Reference8Ideal.dot_S16384x1024_S1024x1024_S16384x1024_1_0_0_1_n_n none
      (extf .f32 X Cert.Reference8Ideal.Gen.bitsLt_bf16_f32) (extf .f32 W Cert.Reference8Ideal.Gen.bitsLt_bf16_f32)
    = fun y => product (m := 16384) (n := 1024) (fun i j => X (ix2 i j)) (fun j q => W (ix2 j q)) (y 0) (y 1) := by
  funext y
  have hy : y = ix2 (y 0) (y 1) := by
    blk_ext
  rw [hy]
  generalize y 0 = i
  generalize y 1 = q
  unfold product
  pointwise []

/-- The reference ends well from every memory. -/
theorem frame_reference : Cert.quiescent_Reference8Ideal (hReference8Ideal := Cert.Reference8Ideal.Gen.facts) :=
  fun m ρ _ => (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The kernel's result is the reference's product. -/
theorem value : Cert.algebraic_Kernel8Ideal_Reference8Ideal (hKernel8Ideal := Cert.Kernel8Ideal.Gen.facts)
    (hReference8Ideal := Cert.Reference8Ideal.Gen.facts) := by
  intro m ρ m' ρ' _ hagree
  refine ⟨_, Cert.Kernel8Ideal.Value.run_blocks m ρ, ?_⟩
  refine (θ_run Cert.Reference8Ideal.defs _ _).mono (fun _ h c => ⟨(h c).1.trans ?_, (h c).2⟩)
    (Cert.Reference8Ideal.Value.run (F := Ideal) m' ρ')
  rw [(hagree c).1, (hagree c).2]
  exact (term_eq _ _).trans (final m c).symm

end Cert.Project.AttendOut
end
-- ==== Proof.LowRank.Gate.lean ====
module
public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import proofs.«01_k».proof.Proof.Project.Product
public import proofs.«01_k».proof.Proof.Experts.Body
@[expose] public section
set_option maxRecDepth 16384

/-! # The recurrence's output gate: the sigmoid of one narrow projection, projected back -/

noncomputable section
open Idealize.ShloMosaic Idealize.ShloMosaic.TcCoe Idealize.SL.Sem
namespace Cert.LowRank.Gate
open Cert.Kernel9Ideal Cert.Kernel9Ideal.Gen Cert.Project Cert.Experts

variable (m : (ℓ : Loc nD τ sig) → Buf (Elt Ideal) ℓ)

/-- One over one plus the exponential of the negated number. -/
def sigmoid (x : EReal) : EReal := Ideal.div (Ideal.ofBits .f32 0x3F800000#32) (Ideal.ofBits .f32 0x3F800000#32 + Ideal.exp (-x))

theorem point_apply (x : Vec Ideal S512x1024 .bf16) (a : Vec Ideal S1024x128 .bf16) (b : Vec Ideal S128x1024 .bf16)
    (e : Vec Ideal S1x1024 .f32) (r : Fin 512) (q : Fin 1024) :
    k0_pay1 x a b e (ix2 r q) = (∑ k : Fin 128, HMul.hMul (α := EReal)
      (sigmoid (∑ j : Fin 1024, HMul.hMul (α := EReal) (x (ix2 r j)) (a (ix2 j k)))) (b (ix2 k q)) : EReal) + e (ix2 0 q) := by
  unfold sigmoid
  pointwise [k0_pay1]
  simp only [zero_sub]

/-- The blocks of a grid point. -/
theorem idx : ∀ t : Fin cfg0.N, win0_0.index t = ![(grid0.coords t 0).val, 0]
    ∧ win0_1.index t = ![0, 0] ∧ win0_2.index t = ![0, 0] ∧ win0_3.index t = ![0, 0]
    ∧ win0_4.index t = ![(grid0.coords t 0).val, 0] ∧ (grid0.coords t 0).val < 33 :=
  (by decide +kernel : ∀ t : Fin grid0.N, _)

theorem win_x (c : Dev nD) (t : Fin cfg0.N) (r : Fin 512) (j : Fin 1024) (i : Fin 16896)
    (hi : i.val = 512 * (grid0.coords t 0).val + r) :
    (iblk m c 0 t (ix2 r j) : EReal) = m ((c.tc : Thread nD τ).loc main_arg0) (ix2 i j) := by
  have hx := idx t
  blk_simp [iblk]
  entry_read
  rw [show ((View.whole main_arg0).slice (win0_0.rect t)).emb (ix2 r j) = ix2 i j by
    blk_ext! [hx]]

theorem win_a (c : Dev nD) (t : Fin cfg0.N) (j : Fin 1024) (k : Fin 128) :
    (iblk m c 1 t (ix2 j k) : EReal) = m ((c.tc : Thread nD τ).loc main_arg1) (ix2 j k) := by
  have hx := idx t
  blk_simp [iblk]
  entry_read
  rw [show ((View.whole main_v0).slice (win0_1.rect t)).emb (ix2 j k) = ix2 j k by
    blk_ext! [hx]]
  rfl

theorem win_b (c : Dev nD) (t : Fin cfg0.N) (k : Fin 128) (q : Fin 1024) :
    (iblk m c 2 t (ix2 k q) : EReal) = m ((c.tc : Thread nD τ).loc main_arg2) (ix2 k q) := by
  have hx := idx t
  blk_simp [iblk]
  entry_read
  rw [show ((View.whole main_v1).slice (win0_2.rect t)).emb (ix2 k q) = ix2 k q by
    blk_ext! [hx]]
  rfl

theorem win_e (c : Dev nD) (t : Fin cfg0.N) (q : Fin 1024) :
    (iblk m c 3 t (ix2 0 q) : EReal) = (0 : EReal) := by
  have hx := idx t
  blk_simp [iblk]
  entry_read
  rw [show ((View.whole main_v2).slice (win0_3.rect t)).emb (ix2 0 q) = ix2 0 q by
    blk_ext! [hx]]
  pointwise []

/-- Entry `(i, q)` of the gate of the rows `X`. -/
def gate (X : Vec Ideal S16896x1024 .bf16) (A : Vec Ideal S1024x128 .f32) (B : Vec Ideal S128x1024 .f32)
    (i : Fin 16896) (q : Fin 1024) : EReal :=
  ∑ k : Fin 128, HMul.hMul (α := EReal)
    (sigmoid (∑ j : Fin 1024, HMul.hMul (α := EReal) (X (ix2 i j)) (A (ix2 j k)))) (B (ix2 k q))

/-- An entry of the gate from equal factors. -/
theorem gate_of {X : Vec Ideal S16896x1024 .bf16} {A : Vec Ideal S1024x128 .f32} {B : Vec Ideal S128x1024 .f32}
    {i : Fin 16896} {q : Fin 1024} {x : Fin 1024 → EReal} {a : Fin 1024 → Fin 128 → EReal} {b : Fin 128 → EReal} {e : EReal}
    (hx : ∀ j, x j = X (ix2 i j)) (ha : ∀ j k, a j k = A (ix2 j k)) (hb : ∀ k, b k = B (ix2 k q)) (he : e = 0) :
    (∑ k, sigmoid (∑ j, x j * a j k) * b k) + e = gate X A B i q := by
  rw [he, add_zero]
  exact Finset.sum_congr rfl fun k _ => congrArg₂ (fun u v : EReal => sigmoid u * v)
    (Finset.sum_congr rfl fun j _ => congrArg₂ (HMul.hMul (α := EReal)) (hx j) (ha j k)) (hb k)

/-- The kernel's result array. -/
def result (c : Dev nD) : Buf (Elt Ideal) ((c.tc : Thread nD τ).loc main_v3) := fun y =>
  gate (m ((c.tc : Thread nD τ).loc main_arg0)) (m ((c.tc : Thread nD τ).loc main_arg1))
    (m ((c.tc : Thread nD τ).loc main_arg2)) (y 0) (y 1)

theorem final (c : Dev nD) : (dats m 0 c).arrAt 4 cfg0.N = result m c := by
  refine (dats m 0 c).arrAt_eq_of_covers 4 _ (by decide +kernel) fun t _ y => ?_
  blk_simp
  rw [after0_4]
  frame_out
  have h0 : (y 0).val < 512 := (y 0).isLt
  have h1 : (y 1).val < 1024 := (y 1).isLt
  have hx := idx t
  have hy : y = ix2 ⟨y 0, h0⟩ ⟨y 1, h1⟩ := by
    blk_ext
  rw [hy, show ((View.whole main_v3).slice (win0_4.rect t)).emb (ix2 ⟨y 0, h0⟩ ⟨y 1, h1⟩)
      = ix2 ⟨512 * (grid0.coords t 0).val + y 0, by omega⟩ ⟨y 1, h1⟩ by
    blk_ext! [hx]]
  rw [point_apply]
  exact gate_of (win_x m c t ⟨y 0, h0⟩ · _ rfl) (win_a m c t) (win_b m c t · ⟨y 1, h1⟩) (win_e m c t ⟨y 1, h1⟩)

/-- The reference's result, of its arguments. -/
def term (X : Vec Ideal Cert.Reference9Ideal.S16896x1024 .bf16) (A : FVec Ideal Cert.Reference9Ideal.S1024x128 .f32)
    (B : FVec Ideal Cert.Reference9Ideal.S128x1024 .f32) : FVec Ideal Cert.Reference9Ideal.S16896x1024 .f32 :=
  let one := broadcastInDim Cert.Reference9Ideal.S16896x128 ![] Cert.Reference9Ideal.Gen.bcast_S_S16896x128
    (constant (F := Ideal) Cert.Reference9Ideal.S_ .f32 0x3F800000#32)
  let narrow : FVec Ideal Cert.Reference9Ideal.S16896x128 .f32 := Host.dotGeneral (F := Ideal)
    Cert.Reference9Ideal.dot_S16896x1024_S1024x128_S16896x128_1_0_0_1_n_n none
    (extf .f32 X Cert.Reference9Ideal.Gen.bitsLt_bf16_f32) A
  Host.dotGeneral (F := Ideal) Cert.Reference9Ideal.dot_S16896x128_S128x1024_S16896x1024_1_0_0_1_n_n none
    (Host.divf one (addf one (Host.exp (Host.negf narrow)))) B

theorem term_eq (X : Vec Ideal Cert.Reference9Ideal.S16896x1024 .bf16) (A : FVec Ideal Cert.Reference9Ideal.S1024x128 .f32)
    (B : FVec Ideal Cert.Reference9Ideal.S128x1024 .f32) : term X A B = fun y => gate X A B (y 0) (y 1) := by
  funext y
  have hy : y = ix2 (y 0) (y 1) := by
    blk_ext
  rw [hy]
  generalize y 0 = i
  generalize y 1 = q
  unfold gate sigmoid
  pointwise [term]

/-- The reference ends well from every memory. -/
theorem frame_reference : Cert.quiescent_Reference9Ideal (hReference9Ideal := Cert.Reference9Ideal.Gen.facts) :=
  fun m ρ _ => (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The kernel's result is the reference's gate. -/
theorem value : Cert.algebraic_Kernel9Ideal_Reference9Ideal (hKernel9Ideal := Cert.Kernel9Ideal.Gen.facts)
    (hReference9Ideal := Cert.Reference9Ideal.Gen.facts) := by
  intro m ρ m' ρ' _ hagree
  refine ⟨_, Cert.Kernel9Ideal.Value.run_blocks m ρ, ?_⟩
  refine (θ_run Cert.Reference9Ideal.defs _ _).mono (fun _ h c => ⟨(h c).1.trans ?_, (h c).2⟩)
    (Cert.Reference9Ideal.Value.run (F := Ideal) m' ρ')
  rw [(hagree c).1, (hagree c).2.1, (hagree c).2.2]
  exact (term_eq _ _ _).trans (final m c).symm

end Cert.LowRank.Gate
end
-- ==== Proof.LowRank.Sides.lean ====
module
public import Idealize.ShloMosaic.Lib.Pointwise
@[expose] public section

/-! # Two narrow projections laid side by side

The two directions' first matrices stand side by side and their second matrices on the diagonal of one matrix: the sum
over all columns of the first is, for a column of one direction's half, the sum over that direction's own. -/

noncomputable section
namespace Cert.LowRank

/-- Entry `q` of one direction's projection, widened again by `w2` and moved by `w0`. -/
def side (act : EReal → EReal) (x : Fin 1024 → EReal) (w0 : Fin 1024 → EReal) (w1 : Fin 1024 → Fin 64 → EReal)
    (w2 : Fin 64 → Fin 1024 → EReal) (q : Fin 1024) : EReal :=
  w0 q + ∑ k : Fin 64, act (∑ j : Fin 1024, x j * w1 j k) * w2 k q

/-- Entry `q` of both directions' projections, the first direction's first. -/
def sides (act : EReal → EReal) (x : Fin 1024 → EReal) (w0 : Fin 2 → Fin 1024 → EReal) (w1 : Fin 2 → Fin 1024 → Fin 64 → EReal)
    (w2 : Fin 2 → Fin 64 → Fin 1024 → EReal) (q : Fin 2048) : EReal :=
  side act x (w0 ⟨q.val / 1024, by omega⟩) (w1 ⟨q.val / 1024, by omega⟩) (w2 ⟨q.val / 1024, by omega⟩) ⟨q.val % 1024, by omega⟩

theorem sum_halves (f : Fin 128 → EReal) :
    ∑ k, f k = ∑ k : Fin 64, f ⟨k.val, by omega⟩ + ∑ k : Fin 64, f ⟨64 + k.val, by omega⟩ :=
  Fin.sum_univ_add (a := 64) (b := 64) f

/-- What one grid point adds up is the direction's own projection. -/
theorem sides_of {act : EReal → EReal} {x X : Fin 1024 → EReal} {w0 : Fin 2 → Fin 1024 → EReal}
    {w1 : Fin 2 → Fin 1024 → Fin 64 → EReal} {w2 : Fin 2 → Fin 64 → Fin 1024 → EReal} {q : Fin 2048}
    {a : Fin 1024 → Fin 128 → EReal} {b : Fin 128 → EReal} {e : EReal} (hx : ∀ j, x j = X j)
    (ha : ∀ j (d : Fin 2) (k : Fin 64) (k' : Fin 128), k'.val = 64 * d + k → a j k' = w1 d j k)
    (hb : ∀ (d d' : Fin 2) (k : Fin 64) (k' : Fin 128) (p : Fin 1024), k'.val = 64 * d + k → q.val = 1024 * d' + p →
      b k' = if d = d' then w2 d k p else 0)
    (he : ∀ (d : Fin 2) (p : Fin 1024), q.val = 1024 * d + p → e = w0 d p) :
    (∑ k, act (∑ j, x j * a j k) * b k) + e = sides act X w0 w1 w2 q := by
  unfold sides
  have hq : q.val = 1024 * (⟨q.val / 1024, by omega⟩ : Fin 2).val + (⟨q.val % 1024, by omega⟩ : Fin 1024).val := by
    simp only
    omega
  revert hq
  generalize (⟨q.val / 1024, by omega⟩ : Fin 2) = d'
  generalize (⟨q.val % 1024, by omega⟩ : Fin 1024) = p
  intro hq
  obtain rfl : x = X := funext hx
  have hin (d : Fin 2) (k : Fin 64) (k' : Fin 128) (hk : k'.val = 64 * d + k) :
      (∑ j, x j * a j k') = ∑ j, x j * w1 d j k :=
    Finset.sum_congr rfl fun j _ => congrArg (x j * ·) (ha j d k k' hk)
  rw [sum_halves, he d' p hq, add_comm]
  unfold side
  refine congrArg (w0 d' p + ·) ?_
  rw [Finset.sum_congr rfl fun k _ => by
      rw [hin 0 k ⟨k.val, by omega⟩ (by simp), hb 0 d' k ⟨k.val, by omega⟩ p (by simp) hq],
    Finset.sum_congr (s₁ := (Finset.univ : Finset (Fin 64))) (f := fun k : Fin 64 => act (∑ j, x j * a j ⟨64 + k.val, by omega⟩) * b ⟨64 + k.val, by omega⟩) rfl fun k _ => by
      rw [hin 1 k ⟨64 + k.val, by omega⟩ (by simp), hb 1 d' k ⟨64 + k.val, by omega⟩ p (by simp) hq]]
  fin_cases d'
  · simp
  · simp

end Cert.LowRank
end
-- ==== Proof.LowRank.Decay.lean ====
module
public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import proofs.«01_k».proof.Proof.LowRank.Sides
@[expose] public section
set_option maxRecDepth 16384

/-! # The recurrence's decays: two narrow projections, one a direction, laid side by side -/

noncomputable section
open Idealize.ShloMosaic Idealize.ShloMosaic.TcCoe Idealize.SL.Sem
namespace Cert.LowRank.Decay
open Cert.Kernel10Ideal Cert.Kernel10Ideal.Gen Cert.LowRank

variable (m : (ℓ : Loc nD τ sig) → Buf (Elt Ideal) ℓ)

theorem point_apply (x : Vec Ideal S512x1024 .bf16) (a : Vec Ideal S1024x128 .bf16) (b : Vec Ideal S128x2048 .bf16)
    (e : Vec Ideal S1x2048 .f32) (r : Fin 512) (q : Fin 2048) :
    k0_pay1 x a b e (ix2 r q) = (∑ k : Fin 128, HMul.hMul (α := EReal)
      (Ideal.tanh (∑ j : Fin 1024, HMul.hMul (α := EReal) (x (ix2 r j)) (a (ix2 j k)))) (b (ix2 k q)) : EReal) + e (ix2 0 q) := by
  pointwise [k0_pay1]

/-- The blocks of a grid point. -/
theorem idx : ∀ t : Fin cfg0.N, win0_0.index t = ![(grid0.coords t 0).val, 0]
    ∧ win0_1.index t = ![0, 0] ∧ win0_2.index t = ![0, 0] ∧ win0_3.index t = ![0, 0]
    ∧ win0_4.index t = ![(grid0.coords t 0).val, 0] ∧ (grid0.coords t 0).val < 33 :=
  (by decide +kernel : ∀ t : Fin grid0.N, _)

theorem win_x (c : Dev nD) (t : Fin cfg0.N) (r : Fin 512) (j : Fin 1024) (i : Fin 16896)
    (hi : i.val = 512 * (grid0.coords t 0).val + r) :
    (iblk m c 0 t (ix2 r j) : EReal) = m ((c.tc : Thread nD τ).loc main_arg0) (ix2 i j) := by
  have hx := idx t
  blk_simp [iblk]
  entry_read
  rw [show ((View.whole main_arg0).slice (win0_0.rect t)).emb (ix2 r j) = ix2 i j by
    blk_ext! [hx]]

/-- The first matrix: the two directions' columns side by side. -/
theorem win_a (c : Dev nD) (t : Fin cfg0.N) (j : Fin 1024) (d : Fin 2) (k : Fin 64) (k' : Fin 128) (hk : k'.val = 64 * d + k) :
    (iblk m c 1 t (ix2 j k') : EReal) = m ((c.tc : Thread nD τ).loc main_arg2) (ix3 d j k) := by
  have hx := idx t
  blk_simp [iblk]
  entry_read
  rw [show ((View.whole main_v5).slice (win0_1.rect t)).emb (ix2 j k') = ix2 j k' by
    blk_ext! [hx]]
  have h0 : ((0 : Fin 2) : ℕ) = 0 := rfl
  have h1 : ((1 : Fin 2) : ℕ) = 1 := rfl
  pointwise []
  obtain rfl | rfl : d = 0 ∨ d = 1 := by omega
  · rw [dif_pos (by omega)]
    exact congrArg (fun z => m ((c.tc : Thread nD τ).loc main_arg2) (ix3 0 j z)) (Fin.ext (by simp only; omega))
  · rw [dif_neg (by omega)]
    exact congrArg (fun z => m ((c.tc : Thread nD τ).loc main_arg2) (ix3 1 j z)) (Fin.ext (by simp only; omega))

/-- The second matrix: the two directions' blocks on the diagonal. -/
theorem win_b (c : Dev nD) (t : Fin cfg0.N) (d d' : Fin 2) (k : Fin 64) (k' : Fin 128) (q : Fin 1024) (q' : Fin 2048)
    (hk : k'.val = 64 * d + k) (hq : q'.val = 1024 * d' + q) :
    (iblk m c 2 t (ix2 k' q') : EReal) = (if d = d' then m ((c.tc : Thread nD τ).loc main_arg3) (ix3 d k q) else (0 : EReal) : EReal) := by
  have hx := idx t
  blk_simp [iblk]
  entry_read
  rw [show ((View.whole main_v19).slice (win0_2.rect t)).emb (ix2 k' q') = ix2 k' q' by
    blk_ext! [hx]]
  have h0 : ((0 : Fin 2) : ℕ) = 0 := rfl
  have h1 : ((1 : Fin 2) : ℕ) = 1 := rfl
  pointwise []
  obtain rfl | rfl : d = 0 ∨ d = 1 := by omega
  · rw [dif_pos (by omega)]
    obtain rfl | rfl : d' = 0 ∨ d' = 1 := by omega
    · rw [dif_pos (by omega), if_pos rfl]
      exact congrArg₂ (fun z w => m ((c.tc : Thread nD τ).loc main_arg3) (ix3 0 z w)) (Fin.ext (by simp only; omega))
        (Fin.ext (by simp only; omega))
    · rw [dif_neg (by omega), if_neg (by decide)]
  · rw [dif_neg (by omega)]
    obtain rfl | rfl : d' = 0 ∨ d' = 1 := by omega
    · rw [dif_pos (by omega), if_neg (by decide)]
    · rw [dif_neg (by omega)]
      exact (congrArg₂ (fun z w => m ((c.tc : Thread nD τ).loc main_arg3) (ix3 1 z w)) (Fin.ext (by simp only; omega))
        (Fin.ext (by simp only; omega))).trans (if_pos rfl).symm

theorem win_e (c : Dev nD) (t : Fin cfg0.N) (d : Fin 2) (q : Fin 1024) (q' : Fin 2048) (hq : q'.val = 1024 * d + q) :
    (iblk m c 3 t (ix2 0 q') : EReal) = m ((c.tc : Thread nD τ).loc main_arg1) (ix2 d q) := by
  have hx := idx t
  blk_simp [iblk]
  entry_read
  rw [show ((View.whole main_v20).slice (win0_3.rect t)).emb (ix2 0 q') = ix2 0 q' by
    blk_ext! [hx]]
  pointwise []
  exact congrArg₂ (fun z w => m ((c.tc : Thread nD τ).loc main_arg1) (ix2 z w)) (Fin.ext (by simp only; omega))
    (Fin.ext (by simp only; omega))

/-- The kernel's result array. -/
def result (c : Dev nD) : Buf (Elt Ideal) ((c.tc : Thread nD τ).loc main_v21) := fun y =>
  sides Ideal.tanh (fun j => m ((c.tc : Thread nD τ).loc main_arg0) (ix2 (y 0) j)) (fun d q => m ((c.tc : Thread nD τ).loc main_arg1) (ix2 d q))
    (fun d j k => m ((c.tc : Thread nD τ).loc main_arg2) (ix3 d j k)) (fun d k q => m ((c.tc : Thread nD τ).loc main_arg3) (ix3 d k q)) (y 1)

theorem final (c : Dev nD) : (dats m 0 c).arrAt 4 cfg0.N = result m c := by
  refine (dats m 0 c).arrAt_eq_of_covers 4 _ (by decide +kernel) fun t _ y => ?_
  blk_simp
  rw [after0_4]
  frame_out
  have h0 : (y 0).val < 512 := (y 0).isLt
  have h1 : (y 1).val < 2048 := (y 1).isLt
  have hx := idx t
  have hy : y = ix2 ⟨y 0, h0⟩ ⟨y 1, h1⟩ := by
    blk_ext
  rw [hy, show ((View.whole main_v21).slice (win0_4.rect t)).emb (ix2 ⟨y 0, h0⟩ ⟨y 1, h1⟩)
      = ix2 ⟨512 * (grid0.coords t 0).val + y 0, by omega⟩ ⟨y 1, h1⟩ by
    blk_ext! [hx]]
  rw [point_apply]
  exact sides_of (act := Ideal.tanh) (win_x m c t ⟨y 0, h0⟩ · _ rfl) (fun j d k k' h => win_a m c t j d k k' h)
    (fun d d' k k' p h h' => win_b m c t d d' k k' p ⟨y 1, h1⟩ h h') (fun d p h => win_e m c t d p ⟨y 1, h1⟩ h)

/-- One direction's part of the reference's result. -/
def part (X : FVec Ideal Cert.Reference10Ideal.S16896x1024 .bf16) (w0 : FVec Ideal Cert.Reference10Ideal.S1x1024 .f32) (w1 : FVec Ideal Cert.Reference10Ideal.S1x1024x64 .f32)
    (w2 : FVec Ideal Cert.Reference10Ideal.S1x64x1024 .f32) : FVec Ideal Cert.Reference10Ideal.S16896x1024 .f32 :=
  let narrow : FVec Ideal Cert.Reference10Ideal.S16896x64 .f32 := Host.dotGeneral (F := Ideal) Cert.Reference10Ideal.dot_S16896x1024_S1024x64_S16896x64_1_0_0_1_n_n none
    (extf .f32 X Cert.Reference10Ideal.Gen.bitsLt_bf16_f32) (shapeCast Cert.Reference10Ideal.S1024x64 w1 Cert.Reference10Ideal.Gen.shapeCasts_S1x1024x64_S1024x64)
  (addf (broadcastInDim Cert.Reference10Ideal.S16896x1024 ![0, 1] Cert.Reference10Ideal.Gen.bcast_S1x1024_S16896x1024_0_1 (broadcastInDim Cert.Reference10Ideal.S1x1024 ![1] Cert.Reference10Ideal.Gen.bcast_S1024_S1x1024_1
      (shapeCast Cert.Reference10Ideal.S1024 w0 Cert.Reference10Ideal.Gen.shapeCasts_S1x1024_S1024)))
    (Host.dotGeneral (F := Ideal) Cert.Reference10Ideal.dot_S16896x64_S64x1024_S16896x1024_1_0_0_1_n_n none (Host.tanh narrow)
      (shapeCast Cert.Reference10Ideal.S64x1024 w2 Cert.Reference10Ideal.Gen.shapeCasts_S1x64x1024_S64x1024)))

/-- The reference's result, of its arguments. -/
def term (X : FVec Ideal Cert.Reference10Ideal.S16896x1024 .bf16) (W0 : FVec Ideal Cert.Reference10Ideal.S2x1024 .f32)
    (W1 : FVec Ideal Cert.Reference10Ideal.S2x1024x64 .f32) (W2 : FVec Ideal Cert.Reference10Ideal.S2x64x1024 .f32) :
    FVec Ideal Cert.Reference10Ideal.S16896x2048 .f32 :=
  concatenate Cert.Reference10Ideal.S16896x2048 1
    [⟨Cert.Reference10Ideal.S16896x1024, part X (extractStridedSlice Cert.Reference10Ideal.S1x1024 ![0, 0] W0 Cert.Reference10Ideal.Gen.slices_S2x1024_S1x1024_0_0)
      (extractStridedSlice Cert.Reference10Ideal.S1x1024x64 ![0, 0, 0] W1 Cert.Reference10Ideal.Gen.slices_S2x1024x64_S1x1024x64_0_0_0)
      (extractStridedSlice Cert.Reference10Ideal.S1x64x1024 ![0, 0, 0] W2 Cert.Reference10Ideal.Gen.slices_S2x64x1024_S1x64x1024_0_0_0)⟩,
     ⟨Cert.Reference10Ideal.S16896x1024, part X (extractStridedSlice Cert.Reference10Ideal.S1x1024 ![1, 0] W0 Cert.Reference10Ideal.Gen.slices_S2x1024_S1x1024_1_0)
      (extractStridedSlice Cert.Reference10Ideal.S1x1024x64 ![1, 0, 0] W1 Cert.Reference10Ideal.Gen.slices_S2x1024x64_S1x1024x64_1_0_0)
      (extractStridedSlice Cert.Reference10Ideal.S1x64x1024 ![1, 0, 0] W2 Cert.Reference10Ideal.Gen.slices_S2x64x1024_S1x64x1024_1_0_0)⟩]
    Cert.Reference10Ideal.Gen.concatenates_S16896x1024_S16896x1024_S16896x2048_d1

theorem term_eq (X : FVec Ideal Cert.Reference10Ideal.S16896x1024 .bf16) (W0 : FVec Ideal Cert.Reference10Ideal.S2x1024 .f32)
    (W1 : FVec Ideal Cert.Reference10Ideal.S2x1024x64 .f32) (W2 : FVec Ideal Cert.Reference10Ideal.S2x64x1024 .f32) :
    term X W0 W1 W2 = fun y => sides Ideal.tanh (fun j => X (ix2 (y 0) j)) (fun d q => W0 (ix2 d q)) (fun d j k => W1 (ix3 d j k))
      (fun d k q => W2 (ix3 d k q)) (y 1) := by
  funext y
  have hy : y = ix2 (y 0) (y 1) := by
    blk_ext
  rw [hy]
  generalize y 0 = i
  generalize hq : y 1 = q
  have hl : q.val < 2048 := q.isLt
  show term X W0 W1 W2 (ix2 i q) = sides Ideal.tanh (fun j => X (ix2 i j)) (fun d q => W0 (ix2 d q)) (fun d j k => W1 (ix3 d j k))
      (fun d k q => W2 (ix3 d k q)) q
  unfold sides side
  pointwise [term, part]
  split
  · rename_i h
    have h0 : (⟨q.val / 1024, by omega⟩ : Fin 2) = 0 := Fin.ext (by simp only [Fin.val_zero]; omega)
    have h1 : (⟨q.val % 1024, by omega⟩ : Fin 1024) = ⟨q.val, h⟩ := Fin.ext (by simp only; omega)
    simp only [h0, h1]
  · rename_i h
    have h0 : (⟨q.val / 1024, by omega⟩ : Fin 2) = 1 := Fin.ext (by simp only [Fin.val_one]; omega)
    have h1 : (⟨q.val % 1024, by omega⟩ : Fin 1024) = ⟨q.val - 1024, by omega⟩ := Fin.ext (by simp only; omega)
    simp only [h0, h1]

/-- The reference ends well from every memory. -/
theorem frame_reference : Cert.quiescent_Reference10Ideal (hReference10Ideal := Cert.Reference10Ideal.Gen.facts) :=
  fun m ρ _ => (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The kernel's result is the two directions' projections of the reference. -/
theorem value : Cert.algebraic_Kernel10Ideal_Reference10Ideal (hKernel10Ideal := Cert.Kernel10Ideal.Gen.facts)
    (hReference10Ideal := Cert.Reference10Ideal.Gen.facts) := by
  intro m ρ m' ρ' _ hagree
  refine ⟨_, Cert.Kernel10Ideal.Value.run_blocks m ρ, ?_⟩
  refine (θ_run Cert.Reference10Ideal.defs _ _).mono (fun _ h c => ⟨(h c).1.trans ?_, (h c).2⟩)
    (Cert.Reference10Ideal.Value.run (F := Ideal) m' ρ')
  rw [(hagree c).1, (hagree c).2.1, (hagree c).2.2.1, (hagree c).2.2.2]
  exact (term_eq _ _ _ _).trans (final m c).symm

end Cert.LowRank.Decay
end
-- ==== Proof.LowRank.Rate.lean ====
module
public import proofs.«01_k».proof.Defs
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit
public import proofs.«01_k».proof.Proof.LowRank.Sides
@[expose] public section
set_option maxRecDepth 16384

/-! # The recurrence's learning rates: two narrow projections, one a direction, laid side by side -/

noncomputable section
open Idealize.ShloMosaic Idealize.ShloMosaic.TcCoe Idealize.SL.Sem
namespace Cert.LowRank.Rate
open Cert.Kernel11Ideal Cert.Kernel11Ideal.Gen Cert.LowRank

variable (m : (ℓ : Loc nD τ sig) → Buf (Elt Ideal) ℓ)

theorem point_apply (x : Vec Ideal S512x1024 .bf16) (a : Vec Ideal S1024x128 .bf16) (b : Vec Ideal S128x2048 .bf16)
    (e : Vec Ideal S1x2048 .f32) (r : Fin 512) (q : Fin 2048) :
    k0_pay1 x a b e (ix2 r q) = (∑ k : Fin 128, HMul.hMul (α := EReal)
      (id (∑ j : Fin 1024, HMul.hMul (α := EReal) (x (ix2 r j)) (a (ix2 j k)))) (b (ix2 k q)) : EReal) + e (ix2 0 q) := by
  pointwise [k0_pay1, id]

/-- The blocks of a grid point. -/
theorem idx : ∀ t : Fin cfg0.N, win0_0.index t = ![(grid0.coords t 0).val, 0]
    ∧ win0_1.index t = ![0, 0] ∧ win0_2.index t = ![0, 0] ∧ win0_3.index t = ![0, 0]
    ∧ win0_4.index t = ![(grid0.coords t 0).val, 0] ∧ (grid0.coords t 0).val < 33 :=
  (by decide +kernel : ∀ t : Fin grid0.N, _)

theorem win_x (c : Dev nD) (t : Fin cfg0.N) (r : Fin 512) (j : Fin 1024) (i : Fin 16896)
    (hi : i.val = 512 * (grid0.coords t 0).val + r) :
    (iblk m c 0 t (ix2 r j) : EReal) = m ((c.tc : Thread nD τ).loc main_arg0) (ix2 i j) := by
  have hx := idx t
  blk_simp [iblk]
  entry_read
  rw [show ((View.whole main_arg0).slice (win0_0.rect t)).emb (ix2 r j) = ix2 i j by
    blk_ext! [hx]]

/-- The first matrix: the two directions' columns side by side. -/
theorem win_a (c : Dev nD) (t : Fin cfg0.N) (j : Fin 1024) (d : Fin 2) (k : Fin 64) (k' : Fin 128) (hk : k'.val = 64 * d + k) :
    (iblk m c 1 t (ix2 j k') : EReal) = m ((c.tc : Thread nD τ).loc main_arg2) (ix3 d j k) := by
  have hx := idx t
  blk_simp [iblk]
  entry_read
  rw [show ((View.whole main_v5).slice (win0_1.rect t)).emb (ix2 j k') = ix2 j k' by
    blk_ext! [hx]]
  have h0 : ((0 : Fin 2) : ℕ) = 0 := rfl
  have h1 : ((1 : Fin 2) : ℕ) = 1 := rfl
  pointwise []
  obtain rfl | rfl : d = 0 ∨ d = 1 := by omega
  · rw [dif_pos (by omega)]
    exact congrArg (fun z => m ((c.tc : Thread nD τ).loc main_arg2) (ix3 0 j z)) (Fin.ext (by simp only; omega))
  · rw [dif_neg (by omega)]
    exact congrArg (fun z => m ((c.tc : Thread nD τ).loc main_arg2) (ix3 1 j z)) (Fin.ext (by simp only; omega))

/-- The second matrix: the two directions' blocks on the diagonal. -/
theorem win_b (c : Dev nD) (t : Fin cfg0.N) (d d' : Fin 2) (k : Fin 64) (k' : Fin 128) (q : Fin 1024) (q' : Fin 2048)
    (hk : k'.val = 64 * d + k) (hq : q'.val = 1024 * d' + q) :
    (iblk m c 2 t (ix2 k' q') : EReal) = (if d = d' then m ((c.tc : Thread nD τ).loc main_arg3) (ix3 d k q) else (0 : EReal) : EReal) := by
  have hx := idx t
  blk_simp [iblk]
  entry_read
  rw [show ((View.whole main_v19).slice (win0_2.rect t)).emb (ix2 k' q') = ix2 k' q' by
    blk_ext! [hx]]
  have h0 : ((0 : Fin 2) : ℕ) = 0 := rfl
  have h1 : ((1 : Fin 2) : ℕ) = 1 := rfl
  pointwise []
  obtain rfl | rfl : d = 0 ∨ d = 1 := by omega
  · rw [dif_pos (by omega)]
    obtain rfl | rfl : d' = 0 ∨ d' = 1 := by omega
    · rw [dif_pos (by omega), if_pos rfl]
      exact congrArg₂ (fun z w => m ((c.tc : Thread nD τ).loc main_arg3) (ix3 0 z w)) (Fin.ext (by simp only; omega))
        (Fin.ext (by simp only; omega))
    · rw [dif_neg (by omega), if_neg (by decide)]
  · rw [dif_neg (by omega)]
    obtain rfl | rfl : d' = 0 ∨ d' = 1 := by omega
    · rw [dif_pos (by omega), if_neg (by decide)]
    · rw [dif_neg (by omega)]
      exact (congrArg₂ (fun z w => m ((c.tc : Thread nD τ).loc main_arg3) (ix3 1 z w)) (Fin.ext (by simp only; omega))
        (Fin.ext (by simp only; omega))).trans (if_pos rfl).symm

theorem win_e (c : Dev nD) (t : Fin cfg0.N) (d : Fin 2) (q : Fin 1024) (q' : Fin 2048) (hq : q'.val = 1024 * d + q) :
    (iblk m c 3 t (ix2 0 q') : EReal) = m ((c.tc : Thread nD τ).loc main_arg1) (ix2 d q) := by
  have hx := idx t
  blk_simp [iblk]
  entry_read
  rw [show ((View.whole main_v20).slice (win0_3.rect t)).emb (ix2 0 q') = ix2 0 q' by
    blk_ext! [hx]]
  pointwise []
  exact congrArg₂ (fun z w => m ((c.tc : Thread nD τ).loc main_arg1) (ix2 z w)) (Fin.ext (by simp only; omega))
    (Fin.ext (by simp only; omega))

/-- The kernel's result array. -/
def result (c : Dev nD) : Buf (Elt Ideal) ((c.tc : Thread nD τ).loc main_v21) := fun y =>
  sides id (fun j => m ((c.tc : Thread nD τ).loc main_arg0) (ix2 (y 0) j)) (fun d q => m ((c.tc : Thread nD τ).loc main_arg1) (ix2 d q))
    (fun d j k => m ((c.tc : Thread nD τ).loc main_arg2) (ix3 d j k)) (fun d k q => m ((c.tc : Thread nD τ).loc main_arg3) (ix3 d k q)) (y 1)

theorem final (c : Dev nD) : (dats m 0 c).arrAt 4 cfg0.N = result m c := by
  refine (dats m 0 c).arrAt_eq_of_covers 4 _ (by decide +kernel) fun t _ y => ?_
  blk_simp
  rw [after0_4]
  frame_out
  have h0 : (y 0).val < 512 := (y 0).isLt
  have h1 : (y 1).val < 2048 := (y 1).isLt
  have hx := idx t
  have hy : y = ix2 ⟨y 0, h0⟩ ⟨y 1, h1⟩ := by
    blk_ext
  rw [hy, show ((View.whole main_v21).slice (win0_4.rect t)).emb (ix2 ⟨y 0, h0⟩ ⟨y 1, h1⟩)
      = ix2 ⟨512 * (grid0.coords t 0).val + y 0, by omega⟩ ⟨y 1, h1⟩ by
    blk_ext! [hx]]
  rw [point_apply]
  exact sides_of (act := id) (win_x m c t ⟨y 0, h0⟩ · _ rfl) (fun j d k k' h => win_a m c t j d k k' h)
    (fun d d' k k' p h h' => win_b m c t d d' k k' p ⟨y 1, h1⟩ h h') (fun d p h => win_e m c t d p ⟨y 1, h1⟩ h)

/-- One direction's part of the reference's result. -/
def part (X : FVec Ideal Cert.Reference11Ideal.S16896x1024 .bf16) (w0 : FVec Ideal Cert.Reference11Ideal.S1x1024 .f32) (w1 : FVec Ideal Cert.Reference11Ideal.S1x1024x64 .f32)
    (w2 : FVec Ideal Cert.Reference11Ideal.S1x64x1024 .f32) : FVec Ideal Cert.Reference11Ideal.S16896x1024 .f32 :=
  let narrow : FVec Ideal Cert.Reference11Ideal.S16896x64 .f32 := Host.dotGeneral (F := Ideal) Cert.Reference11Ideal.dot_S16896x1024_S1024x64_S16896x64_1_0_0_1_n_n none
    (extf .f32 X Cert.Reference11Ideal.Gen.bitsLt_bf16_f32) (shapeCast Cert.Reference11Ideal.S1024x64 w1 Cert.Reference11Ideal.Gen.shapeCasts_S1x1024x64_S1024x64)
  (addf (broadcastInDim Cert.Reference11Ideal.S16896x1024 ![0, 1] Cert.Reference11Ideal.Gen.bcast_S1x1024_S16896x1024_0_1 (broadcastInDim Cert.Reference11Ideal.S1x1024 ![1] Cert.Reference11Ideal.Gen.bcast_S1024_S1x1024_1
      (shapeCast Cert.Reference11Ideal.S1024 w0 Cert.Reference11Ideal.Gen.shapeCasts_S1x1024_S1024)))
    (Host.dotGeneral (F := Ideal) Cert.Reference11Ideal.dot_S16896x64_S64x1024_S16896x1024_1_0_0_1_n_n none narrow
      (shapeCast Cert.Reference11Ideal.S64x1024 w2 Cert.Reference11Ideal.Gen.shapeCasts_S1x64x1024_S64x1024)))

/-- The reference's result, of its arguments. -/
def term (X : FVec Ideal Cert.Reference11Ideal.S16896x1024 .bf16) (W0 : FVec Ideal Cert.Reference11Ideal.S2x1024 .f32)
    (W1 : FVec Ideal Cert.Reference11Ideal.S2x1024x64 .f32) (W2 : FVec Ideal Cert.Reference11Ideal.S2x64x1024 .f32) :
    FVec Ideal Cert.Reference11Ideal.S16896x2048 .f32 :=
  concatenate Cert.Reference11Ideal.S16896x2048 1
    [⟨Cert.Reference11Ideal.S16896x1024, part X (extractStridedSlice Cert.Reference11Ideal.S1x1024 ![0, 0] W0 Cert.Reference11Ideal.Gen.slices_S2x1024_S1x1024_0_0)
      (extractStridedSlice Cert.Reference11Ideal.S1x1024x64 ![0, 0, 0] W1 Cert.Reference11Ideal.Gen.slices_S2x1024x64_S1x1024x64_0_0_0)
      (extractStridedSlice Cert.Reference11Ideal.S1x64x1024 ![0, 0, 0] W2 Cert.Reference11Ideal.Gen.slices_S2x64x1024_S1x64x1024_0_0_0)⟩,
     ⟨Cert.Reference11Ideal.S16896x1024, part X (extractStridedSlice Cert.Reference11Ideal.S1x1024 ![1, 0] W0 Cert.Reference11Ideal.Gen.slices_S2x1024_S1x1024_1_0)
      (extractStridedSlice Cert.Reference11Ideal.S1x1024x64 ![1, 0, 0] W1 Cert.Reference11Ideal.Gen.slices_S2x1024x64_S1x1024x64_1_0_0)
      (extractStridedSlice Cert.Reference11Ideal.S1x64x1024 ![1, 0, 0] W2 Cert.Reference11Ideal.Gen.slices_S2x64x1024_S1x64x1024_1_0_0)⟩]
    Cert.Reference11Ideal.Gen.concatenates_S16896x1024_S16896x1024_S16896x2048_d1

theorem term_eq (X : FVec Ideal Cert.Reference11Ideal.S16896x1024 .bf16) (W0 : FVec Ideal Cert.Reference11Ideal.S2x1024 .f32)
    (W1 : FVec Ideal Cert.Reference11Ideal.S2x1024x64 .f32) (W2 : FVec Ideal Cert.Reference11Ideal.S2x64x1024 .f32) :
    term X W0 W1 W2 = fun y => sides id (fun j => X (ix2 (y 0) j)) (fun d q => W0 (ix2 d q)) (fun d j k => W1 (ix3 d j k))
      (fun d k q => W2 (ix3 d k q)) (y 1) := by
  funext y
  have hy : y = ix2 (y 0) (y 1) := by
    blk_ext
  rw [hy]
  generalize y 0 = i
  generalize hq : y 1 = q
  have hl : q.val < 2048 := q.isLt
  show term X W0 W1 W2 (ix2 i q) = sides id (fun j => X (ix2 i j)) (fun d q => W0 (ix2 d q)) (fun d j k => W1 (ix3 d j k))
      (fun d k q => W2 (ix3 d k q)) q
  unfold sides side
  pointwise [term, part, id]
  split
  · rename_i h
    have h0 : (⟨q.val / 1024, by omega⟩ : Fin 2) = 0 := Fin.ext (by simp only [Fin.val_zero]; omega)
    have h1 : (⟨q.val % 1024, by omega⟩ : Fin 1024) = ⟨q.val, h⟩ := Fin.ext (by simp only; omega)
    simp only [h0, h1]
  · rename_i h
    have h0 : (⟨q.val / 1024, by omega⟩ : Fin 2) = 1 := Fin.ext (by simp only [Fin.val_one]; omega)
    have h1 : (⟨q.val % 1024, by omega⟩ : Fin 1024) = ⟨q.val - 1024, by omega⟩ := Fin.ext (by simp only; omega)
    simp only [h0, h1]

/-- The reference ends well from every memory. -/
theorem frame_reference : Cert.quiescent_Reference11Ideal (hReference11Ideal := Cert.Reference11Ideal.Gen.facts) :=
  fun m ρ _ => (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The kernel's result is the two directions' projections of the reference. -/
theorem value : Cert.algebraic_Kernel11Ideal_Reference11Ideal (hKernel11Ideal := Cert.Kernel11Ideal.Gen.facts)
    (hReference11Ideal := Cert.Reference11Ideal.Gen.facts) := by
  intro m ρ m' ρ' _ hagree
  refine ⟨_, Cert.Kernel11Ideal.Value.run_blocks m ρ, ?_⟩
  refine (θ_run Cert.Reference11Ideal.defs _ _).mono (fun _ h c => ⟨(h c).1.trans ?_, (h c).2⟩)
    (Cert.Reference11Ideal.Value.run (F := Ideal) m' ρ')
  rw [(hagree c).1, (hagree c).2.1, (hagree c).2.2.1, (hagree c).2.2.2]
  exact (term_eq _ _ _ _).trans (final m c).symm

end Cert.LowRank.Rate
end
-- ==== Proof.Scan.Block.lean ====
module
public import proofs.«01_k».proof.Proof.Gen.Kernel12Ideal.Frame
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.Kernel12Ideal.Scan
open Cert.Kernel12Ideal Cert.Kernel12Ideal.Gen
variable (m : (ℓ : Loc nD τ sig) → Buf (Elt Ideal) ℓ)

/-- Whether a lane belongs to the first head of a pair. -/
abbrev low (l : Fin 128) : BitVec 1 := IntOp.cmpi (w := 32) .slt (BitVec.ofNat 32 l.val) 64#32

/-- Whether position `x` of a chunk is not after position `i`, in the direction of sign `w`. -/
abbrev after (w : BitVec 32) (i x : Fin 128) : BitVec 1 :=
  IntOp.cmpi (w := 32) .sge (IntOp.muli (IntOp.subi (BitVec.ofNat 32 i.val) (BitVec.ofNat 32 x.val)) w) 0#32

/-- One pair's new state. -/
def newState (X : Vec Ideal S1x128x2048 .f32) (B : Vec Ideal S1x128x512 .f32) (f : FVec Ideal S128x32 .f32) (e : FVec Ideal S1x32 .f32)
    (S : Vec Ideal S16x128x128 .f32) (p : Fin 16) (n l : Fin 128) : EReal :=
  HAdd.hAdd (α := EReal) (HMul.hMul (α := EReal) (S (ix3 p n l)) (Scalar.select (low l) (e (ix2 0 ⟨2 * p, by omega⟩)) (e (ix2 0 ⟨2 * p + 1, by omega⟩))))
    (∑ x : Fin 128, HMul.hMul (α := EReal) (B (ix3 0 x ⟨128 * (p.val / 4) + n, by omega⟩))
      (HMul.hMul (α := EReal) (X (ix3 0 x ⟨128 * p + l, by omega⟩)) (Scalar.select (low l) (f (ix2 x ⟨2 * p, by omega⟩)) (f (ix2 x ⟨2 * p + 1, by omega⟩)))))

/-- The same at an index of the carried block. -/
def newStateAt (X : Vec Ideal S1x128x2048 .f32) (B : Vec Ideal S1x128x512 .f32) (f : FVec Ideal S128x32 .f32) (e : FVec Ideal S1x32 .f32)
    (S : Vec Ideal S16x128x128 .f32) (y : S16x128x128.Idx) : EReal := newState X B f e S (y 0) (y 1) (y 2)

theorem newStateAt_eq {X : Vec Ideal S1x128x2048 .f32} {B : Vec Ideal S1x128x512 .f32} {f : FVec Ideal S128x32 .f32} {e : FVec Ideal S1x32 .f32}
    {S : Vec Ideal S16x128x128 .f32} {y : S16x128x128.Idx} {a : EReal} (p : Fin 16) (n l : Fin 128) (hy : y = ix3 p n l)
    (h : a = newState X B f e S p n l) : a = newStateAt X B f e S y := by
  subst hy; exact h

/-- The direction's sign. -/
abbrev sgn (t : Fin cfg0.N) : BitVec 32 := Scalar.subi (1#32) (Scalar.muli (2#32) (BitVec.ofNat 32 (grid0.coords t 1).val))

abbrev dts (c : Dev nD) (t : Fin cfg0.N) : FVec Ideal S128x32 .f32 := k0_pay3 (F := Ideal) (iblk m c 3 t) (iblk m c 5 t)
abbrev dtas (c : Dev nD) (t : Fin cfg0.N) : FVec Ideal S128x32 .f32 := k0_pay8 (F := Ideal) (dts m c t) (iblk m c 7 t)
abbrev cums (c : Dev nD) (t : Fin cfg0.N) : FVec Ideal S128x32 .f32 := k0_pay11 (F := Ideal) (sgn t) (dts m c t) (iblk m c 7 t)
abbrev fs (c : Dev nD) (t : Fin cfg0.N) : FVec Ideal S128x32 .f32 := k0_pay16 (F := Ideal) (dts m c t) (dtas m c t) (cums m c t)
abbrev gs (c : Dev nD) (t : Fin cfg0.N) : FVec Ideal S128x32 .f32 := k0_pay15 (F := Ideal) (cums m c t)
abbrev dtrows (c : Dev nD) (t : Fin cfg0.N) : FVec Ideal S32x128 .f32 :=
  k0_pay7 (F := Ideal) (k0_pay5 (iblk m c 4 t) (iblk m c 6 t)) (k0_pay6 (iblk m c 4 t) (iblk m c 6 t))
abbrev cumrows (c : Dev nD) (t : Fin cfg0.N) : FVec Ideal S32x128 .f32 :=
  k0_pay13 (F := Ideal) (k0_pay9 (k0_pay5 (iblk m c 4 t) (iblk m c 6 t)) (k0_pay6 (iblk m c 4 t) (iblk m c 6 t)) (iblk m c 8 t)) (k0_pay12 (sgn t)) 0#32
abbrev es (c : Dev nD) (t : Fin cfg0.N) : FVec Ideal S1x32 .f32 := k0_pay17 (F := Ideal) (dtas m c t)

/-- One pair's outputs: what the chunk itself contributes, and what the carried state does. -/
def newY (w : BitVec 32) (X : Vec Ideal S1x128x2048 .f32) (B C : Vec Ideal S1x128x512 .f32) (K : FVec Ideal S128x32 .f32) (L D : FVec Ideal S32x128 .f32)
    (g : FVec Ideal S128x32 .f32) (S : Vec Ideal S16x128x128 .f32) (p : Fin 16) (i l : Fin 128) : EReal :=
  HAdd.hAdd (α := EReal)
    (Scalar.select (low l) (inner ⟨2 * p, by omega⟩) (inner ⟨2 * p + 1, by omega⟩))
    (HMul.hMul (α := EReal)
      (∑ n : Fin 128, HMul.hMul (α := EReal) (C (ix3 0 i ⟨128 * (p.val / 4) + n, by omega⟩)) (S (ix3 p n l)))
      (Scalar.select (low l) (g (ix2 i ⟨2 * p, by omega⟩)) (g (ix2 i ⟨2 * p + 1, by omega⟩))))
where
  /-- The chunk's own part, for a head. -/
  inner (h : Fin 32) : EReal :=
    ∑ x : Fin 128, HMul.hMul (α := EReal)
      (HMul.hMul (α := EReal)
        (∑ n : Fin 128, HMul.hMul (α := EReal) (C (ix3 0 i ⟨128 * (p.val / 4) + n, by omega⟩)) (B (ix3 0 x ⟨128 * (p.val / 4) + n, by omega⟩)))
        (HMul.hMul (α := EReal) (Ideal.exp (Scalar.select (after w i x) (HSub.hSub (α := EReal) (K (ix2 i h)) (L (ix2 h x))) (Ideal.ofBits .f32 4286578688#32))) (D (ix2 h x))))
      (X (ix3 0 x ⟨128 * p + l, by omega⟩))

/-- The same at an index of the output block. -/
def newYAt (w : BitVec 32) (X : Vec Ideal S1x128x2048 .f32) (B C : Vec Ideal S1x128x512 .f32) (K : FVec Ideal S128x32 .f32) (L D : FVec Ideal S32x128 .f32)
    (g : FVec Ideal S128x32 .f32) (S : Vec Ideal S16x128x128 .f32) (y : S1x1x128x2048.Idx) : EReal :=
  newY w X B C K L D g S ⟨(y 3).val / 128, by have := (y 3).isLt; simp at this; omega⟩ (y 2) ⟨(y 3).val % 128, by omega⟩

theorem newYAt_eq {w : BitVec 32} {X : Vec Ideal S1x128x2048 .f32} {B C : Vec Ideal S1x128x512 .f32} {K : FVec Ideal S128x32 .f32} {L D : FVec Ideal S32x128 .f32}
    {g : FVec Ideal S128x32 .f32} {S : Vec Ideal S16x128x128 .f32} {y : S1x1x128x2048.Idx} {a : EReal} (p : Fin 16) (i l : Fin 128)
    (hy : y = ix4 0 0 i ⟨128 * p + l, by omega⟩) (h : a = newY w X B C K L D g S p i l) : a = newYAt w X B C K L D g S y := by
  subst hy
  refine h.trans ?_
  unfold newYAt
  congr 1 <;> ext <;> simp [ix4] <;> omega

/-- Where the first pieces of a list cover an index, what they hold decides what is read there. -/
theorem canon_apply_of_first {s : Shape} (G : s.Idx → EReal) (rest : List (View.Piece (Elt Ideal) s .f32)) (y : s.Idx) :
    ∀ L : List (View.Piece (Elt Ideal) s .f32), (∀ p ∈ L, ∀ x, p.2 x = G (p.1.emb x)) → (∃ p ∈ L, y ∈ p.1.set) → View.canon (L ++ rest) y = G y
  | [], _, hc => by obtain ⟨p, hp, _⟩ := hc; exact absurd hp List.not_mem_nil
  | p :: L, h, hc => by
    rw [List.cons_append]
    by_cases hm : y ∈ p.1.set
    · obtain ⟨x, rfl⟩ := p.1.exists_idx_of_mem hm
      rw [show p.1.idx x = p.1.emb x from rfl, View.canon_cons_emb]
      exact h p (List.mem_cons_self) x
    · rw [View.canon_cons_of_not_mem p _ hm]
      refine canon_apply_of_first G rest y L (fun q hq => h q (List.mem_cons_of_mem _ hq)) ?_
      obtain ⟨q, hq, hy⟩ := hc
      rcases List.mem_cons.1 hq with rfl | hq
      · exact absurd hy hm
      · exact ⟨q, hq, hy⟩

end Cert.Kernel12Ideal.Scan
-- ==== Proof.Scan.Spec.lean ====
module

public import Idealize.ShloMosaic.Lib.Pointwise

@[expose] public section

/-! # The chunked scan, in the order a direction walks the rows

The 8448 rows are 66 chunks of 128. Direction 0 walks them in order; direction 1 walks the first two chunks backwards, then the other
64 backwards. `row d c q` is the row direction `d` is at after `c` chunks and `q` rows. Everything below is indexed by `c` and `q`. -/

noncomputable section
open Idealize.ShloMosaic
namespace Cert.Scan

/-- The chunk of the array a direction's `c`-th chunk is. -/
def chunk (d : Fin 2) (c : Fin 66) : Fin 66 :=
  if d = 0 then c else if h : c.val < 2 then ⟨1 - c.val, by omega⟩ else ⟨67 - c.val, by omega⟩

/-- A row of the array by its chunk and its place in the chunk. -/
def at_ (k : Fin 66) (j : Fin 128) : Fin 8448 := ⟨k * 128 + j, by omega⟩

/-- A place in a chunk, seen from a direction's end of it. -/
def turn (d : Fin 2) (q : Fin 128) : Fin 128 := if d = 0 then q else Fin.rev q

theorem turn_turn (d : Fin 2) (q : Fin 128) : turn d (turn d q) = q := by
  unfold turn; split <;> simp

/-- The row a direction is at. -/
def row (d : Fin 2) (c : Fin 66) (q : Fin 128) : Fin 8448 := at_ (chunk d c) (turn d q)

theorem row_turn (d : Fin 2) (c : Fin 66) (j : Fin 128) : row d c (turn d j) = at_ (chunk d c) j := by
  unfold row; rw [turn_turn]

/-- The row, by its number in time. -/
theorem row_val (d : Fin 2) (c : Fin 66) (q : Fin 128) : (row d c q).val = if d = 0 then c.val * 128 + q.val
    else if c.val * 128 + q.val < 256 then 255 - (c.val * 128 + q.val) else 8703 - (c.val * 128 + q.val) := by
  unfold row at_ chunk turn
  by_cases hd : d = 0
  · simp [hd]
  · simp only [if_neg hd, Fin.val_rev]
    split <;> split <;> simp only <;> omega

/-- The row at a place in time; also the place in time of a row. -/
def inOrder (d : Fin 2) (p : Fin 8448) : Fin 8448 :=
  if d = 0 then p else ⟨if p.val < 256 then 255 - p.val else 8703 - p.val, by split <;> omega⟩

theorem inOrder_at (d : Fin 2) (c : Fin 66) (q : Fin 128) : inOrder d (at_ c q) = row d c q := by
  refine Fin.ext ?_
  rw [row_val]
  unfold inOrder
  by_cases hd : d = 0
  · rw [if_pos hd, if_pos hd]; rfl
  · rw [if_neg hd, if_neg hd]; rfl

/-- A sum over a chunk's rows, in either direction. -/
theorem sum_turn (d : Fin 2) (f : Fin 128 → EReal) : ∑ j, f (turn d j) = ∑ q, f q :=
  Equiv.sum_comp (Equiv.mk (turn d) (turn d) (turn_turn d) (turn_turn d)) f

/-- The positive part plus the logarithm: the smooth step size. -/
def soft (x : EReal) : EReal := max x 0 + Ideal.log (1 + Ideal.exp (0 - max x (-x)))

variable (xa : Fin 2 → Fin 8448 → Fin 3072 → EReal) (dtc : Fin 2 → Fin 2 → Fin 8448 → Fin 32 → EReal) (bias alog : Fin 2 → Fin 32 → EReal)

/-- A row's step size. -/
def step (d b : Fin 2) (c : Fin 66) (q : Fin 128) (h : Fin 32) : EReal := soft (dtc d b (row d c q) h + bias d h)

/-- A row's logarithmic decay. -/
def drop (d b : Fin 2) (c : Fin 66) (q : Fin 128) (h : Fin 32) : EReal := step dtc bias d b c q h * (0 - Ideal.exp (alog d h))

/-- The decay up to a row of the chunk. -/
def cum (d b : Fin 2) (c : Fin 66) (q : Fin 128) (h : Fin 32) : EReal := ∑ x, if x ≤ q then drop dtc bias alog d b c x h else 0

/-- The decay of the whole chunk. -/
def tot (d b : Fin 2) (c : Fin 66) (h : Fin 32) : EReal := ∑ x, drop dtc bias alog d b c x h

/-- A head's channel. -/
abbrev chan (h : Fin 32) (e : Fin 64) : Fin 3072 := ⟨64 * h + e, by omega⟩
/-- A head's column of the first and of the second mixing vectors: eight heads share them. -/
abbrev colB (h : Fin 32) (n : Fin 128) : Fin 3072 := ⟨2048 + (128 * (h.val / 8) + n), by omega⟩
abbrev colC (h : Fin 32) (n : Fin 128) : Fin 3072 := ⟨2560 + (128 * (h.val / 8) + n), by omega⟩

/-- What a chunk adds to the state. -/
def gain (d b : Fin 2) (c : Fin 66) (h : Fin 32) (e : Fin 64) (n : Fin 128) : EReal :=
  ∑ q, xa b (row d c q) (colB h n) * (xa b (row d c q) (chan h e)
    * (Ideal.exp (tot dtc bias alog d b c h - cum dtc bias alog d b c q h) * step dtc bias d b c q h))

/-- The state before a chunk. -/
def state (d b : Fin 2) (h : Fin 32) (e : Fin 64) (n : Fin 128) : ℕ → EReal
  | 0 => 0
  | c + 1 => if hc : c < 66 then state d b h e n c * Ideal.exp (tot dtc bias alog d b ⟨c, hc⟩ h) + gain xa dtc bias alog d b ⟨c, hc⟩ h e n else 0

theorem state_succ (d b : Fin 2) (h : Fin 32) (e : Fin 64) (n : Fin 128) (c : ℕ) (hc : c < 66) :
    state xa dtc bias alog d b h e n (c + 1) = state xa dtc bias alog d b h e n c * Ideal.exp (tot dtc bias alog d b ⟨c, hc⟩ h)
      + gain xa dtc bias alog d b ⟨c, hc⟩ h e n := by
  rw [state, dif_pos hc]

/-- A row's output, at a head's channel. -/
def out (d b : Fin 2) (c : Fin 66) (q : Fin 128) (h : Fin 32) (e : Fin 64) : EReal :=
  (∑ x, (∑ n, xa b (row d c q) (colC h n) * xa b (row d c x) (colB h n))
      * (Ideal.exp (if x ≤ q then cum dtc bias alog d b c q h - cum dtc bias alog d b c x h else ⊥) * step dtc bias d b c x h)
      * xa b (row d c x) (chan h e))
    + (∑ n, xa b (row d c q) (colC h n) * state xa dtc bias alog d b h e n c) * Ideal.exp (cum dtc bias alog d b c q h)

/-! ## A running sum in three parts -/

theorem exp_nonneg (x : EReal) : 0 ≤ Ideal.exp x := by
  induction x with
  | bot => exact le_refl _
  | top => exact le_top
  | coe r => exact EReal.coe_nonneg.2 (Real.exp_pos r).le

theorem log_nonneg {x : EReal} (h : 1 ≤ x) : 0 ≤ Ideal.log x := by
  induction x with
  | bot => exact absurd (zero_le_one.trans h) (by simp)
  | top => exact le_top
  | coe r =>
    have hr : (1 : ℝ) ≤ r := by exact_mod_cast h
    rw [show Ideal.log (r : EReal) = (Real.log r : EReal) from if_neg (by linarith)]
    exact EReal.coe_nonneg.2 (Real.log_nonneg hr)

theorem soft_nonneg (x : EReal) : 0 ≤ soft x := by
  refine add_nonneg (le_max_right _ _) (log_nonneg ?_)
  exact le_add_of_nonneg_right (exp_nonneg _)

theorem drop_ne_top (d b : Fin 2) (c : Fin 66) (q : Fin 128) (h : Fin 32) : drop dtc bias alog d b c q h ≠ ⊤ := by
  have hn : 0 ≤ step dtc bias d b c q h * Ideal.exp (alog d h) := mul_nonneg (soft_nonneg _) (exp_nonneg _)
  unfold drop
  rw [zero_sub, mul_neg]
  intro ht
  rw [EReal.neg_eq_top_iff] at ht
  rw [ht] at hn
  exact absurd hn (by simp)

/-- A number that is not positive infinity is the sum of its three parts, each the rest the parts before it leave. -/
theorem parts {x : EReal} (h : x ≠ ⊤) : x + (x - x) + (x - x - (x - x)) = x := by
  induction x with
  | bot => simp
  | top => exact absurd rfl h
  | coe r => norm_cast; simp

theorem sum_parts (p : Fin 128 → BitVec 1) (D : Fin 128 → EReal) (hD : ∀ x, D x ≠ ⊤) :
    (∑ x, Scalar.select (p x) (D x) 0) + (∑ x, Scalar.select (p x) (D x - D x) 0) + (∑ x, Scalar.select (p x) (D x - D x - (D x - D x)) 0)
      = ∑ x, Scalar.select (p x) (D x) 0 := by
  rw [← Finset.sum_add_distrib, ← Finset.sum_add_distrib]
  refine Finset.sum_congr rfl fun x _ => ?_
  unfold Scalar.select
  split
  · exact parts (hD x)
  · simp

end Cert.Scan
-- ==== Proof.Scan.Windows.lean ====
module

public import proofs.«01_k».proof.Proof.Scan.Block
public import proofs.«01_k».proof.Proof.Scan.Spec

@[expose] public section
set_option maxRecDepth 16384

/-! # Which part of each array a grid point of the scan sees -/

noncomputable section
open Idealize.ShloMosaic Idealize.ShloMosaic.TcCoe Idealize.SL.Sem
namespace Cert.Kernel12Ideal.Scan
open Cert.Kernel12Ideal Cert.Kernel12Ideal.Gen Cert.Scan

variable (m : (ℓ : Loc nD τ sig) → Buf (Elt Ideal) ℓ)

/-- A grid point's batch, direction and step. -/
abbrev bOf (t : Fin cfg0.N) : Fin 2 := ⟨t.val / 132, by have := t.isLt; change _ < 264 at this; omega⟩
abbrev dOf (t : Fin cfg0.N) : Fin 2 := ⟨t.val / 66 % 2, by omega⟩
abbrev cOf (t : Fin cfg0.N) : Fin 66 := ⟨t.val % 66, by omega⟩

/-- The blocks of a grid point. -/
theorem idx : ∀ t : Fin cfg0.N, win0_0.index t = ![(bOf t).val, (chunk (dOf t) (cOf t)).val, 0]
    ∧ win0_1.index t = ![(bOf t).val, (chunk (dOf t) (cOf t)).val, 4] ∧ win0_2.index t = ![(bOf t).val, (chunk (dOf t) (cOf t)).val, 5]
    ∧ win0_3.index t = ![(dOf t).val, (bOf t).val, (chunk (dOf t) (cOf t)).val, 0] ∧ win0_4.index t = ![(dOf t).val, (bOf t).val, 0, (chunk (dOf t) (cOf t)).val]
    ∧ win0_5.index t = ![(dOf t).val, 0, 0] ∧ win0_6.index t = ![(dOf t).val, 0, 0] ∧ win0_7.index t = ![(dOf t).val, 0, 0] ∧ win0_8.index t = ![(dOf t).val, 0, 0]
    ∧ win0_9.index t = ![(dOf t).val, (bOf t).val, (chunk (dOf t) (cOf t)).val, 0] ∧ (grid0.coords t 1).val = (dOf t).val :=
  (by decide +kernel : ∀ t : Fin grid0.N, _)

/-- The arrays of the call, as functions. -/
abbrev xa (c : Dev nD) : Fin 2 → Fin 8448 → Fin 3072 → EReal := fun b r k => m ((c.tc : Thread nD τ).loc main_arg0) (ix3 b r k)
abbrev dtc (c : Dev nD) : Fin 2 → Fin 2 → Fin 8448 → Fin 32 → EReal := fun d b r h => m ((c.tc : Thread nD τ).loc main_arg1) (ix4 d b r h)
abbrev bias (c : Dev nD) : Fin 2 → Fin 32 → EReal := fun d h => m ((c.tc : Thread nD τ).loc main_arg2) (ix2 d h)
abbrev alog (c : Dev nD) : Fin 2 → Fin 32 → EReal := fun d h => m ((c.tc : Thread nD τ).loc main_arg3) (ix2 d h)

theorem win_x (c : Dev nD) (t : Fin cfg0.N) (j : Fin 128) (k : Fin 2048) :
    (X0_0 m c t (ix3 0 j k) : EReal) = xa m c (bOf t) (at_ (chunk (dOf t) (cOf t)) j) ⟨k, by omega⟩ := by
  have hx := idx t
  unfold X0_0 Pipeline.Window.fill
  rw [dif_pos (moved0_0 t _)]
  blk_simp [iblk]
  entry_read
  refine congrArg (m ((c.tc : Thread nD τ).loc main_arg0)) ?_
  blk_ext! [hx, at_]

theorem win_b (c : Dev nD) (t : Fin cfg0.N) (j : Fin 128) (k : Fin 512) :
    (iblk m c 1 t (ix3 0 j k) : EReal) = xa m c (bOf t) (at_ (chunk (dOf t) (cOf t)) j) ⟨2048 + k, by omega⟩ := by
  have hx := idx t
  blk_simp [iblk]
  entry_read
  refine congrArg (m ((c.tc : Thread nD τ).loc main_arg0)) ?_
  blk_ext! [hx, at_]

theorem win_c (c : Dev nD) (t : Fin cfg0.N) (j : Fin 128) (k : Fin 512) :
    (iblk m c 2 t (ix3 0 j k) : EReal) = xa m c (bOf t) (at_ (chunk (dOf t) (cOf t)) j) ⟨2560 + k, by omega⟩ := by
  have hx := idx t
  blk_simp [iblk]
  entry_read
  refine congrArg (m ((c.tc : Thread nD τ).loc main_arg0)) ?_
  blk_ext! [hx, at_]

theorem win_dtc (c : Dev nD) (t : Fin cfg0.N) (j : Fin 128) (h : Fin 32) :
    (iblk m c 3 t (ix4 0 0 j h) : EReal) = dtc m c (dOf t) (bOf t) (at_ (chunk (dOf t) (cOf t)) j) h := by
  have hx := idx t
  blk_simp [iblk]
  entry_read
  refine congrArg (m ((c.tc : Thread nD τ).loc main_arg1)) ?_
  blk_ext! [hx, at_]

theorem win_dtr (c : Dev nD) (t : Fin cfg0.N) (j : Fin 128) (h : Fin 32) :
    (iblk m c 4 t (ix4 0 0 h j) : EReal) = dtc m c (dOf t) (bOf t) (at_ (chunk (dOf t) (cOf t)) j) h := by
  have hx := idx t
  blk_simp [iblk]
  entry_read
  rw [show ((View.whole main_v0).slice (win0_4.rect t)).emb (ix4 0 0 h j) = ix4 (dOf t) (bOf t) h (at_ (chunk (dOf t) (cOf t)) j) by
    blk_ext! [hx, at_]]
  pointwise []

theorem win_bias (c : Dev nD) (t : Fin cfg0.N) (h : Fin 32) : (iblk m c 5 t (ix3 0 0 h) : EReal) = bias m c (dOf t) h := by
  have hx := idx t
  blk_simp [iblk]
  entry_read
  rw [show ((View.whole main_v1).slice (win0_5.rect t)).emb (ix3 0 0 h) = ix3 (dOf t) 0 h by
    blk_ext! [hx, at_]]
  pointwise []

theorem win_biasr (c : Dev nD) (t : Fin cfg0.N) (h : Fin 32) : (iblk m c 6 t (ix3 0 h 0) : EReal) = bias m c (dOf t) h := by
  have hx := idx t
  blk_simp [iblk]
  entry_read
  rw [show ((View.whole main_v2).slice (win0_6.rect t)).emb (ix3 0 h 0) = ix3 (dOf t) h 0 by
    blk_ext! [hx, at_]]
  pointwise []

theorem win_alog (c : Dev nD) (t : Fin cfg0.N) (h : Fin 32) : (iblk m c 7 t (ix3 0 0 h) : EReal) = alog m c (dOf t) h := by
  have hx := idx t
  blk_simp [iblk]
  entry_read
  rw [show ((View.whole main_v3).slice (win0_7.rect t)).emb (ix3 0 0 h) = ix3 (dOf t) 0 h by
    blk_ext! [hx, at_]]
  pointwise []

theorem win_alogr (c : Dev nD) (t : Fin cfg0.N) (h : Fin 32) : (iblk m c 8 t (ix3 0 h 0) : EReal) = alog m c (dOf t) h := by
  have hx := idx t
  blk_simp [iblk]
  entry_read
  rw [show ((View.whole main_v4).slice (win0_8.rect t)).emb (ix3 0 h 0) = ix3 (dOf t) h 0 by
    blk_ext! [hx, at_]]
  pointwise []

end Cert.Kernel12Ideal.Scan
-- ==== Proof.Scan.Terms.lean ====
module

public import proofs.«01_k».proof.Proof.Scan.Windows

@[expose] public section
set_option maxRecDepth 16384

/-! # What a grid point of the scan computes before the per-head work: step sizes, decays and their running sums -/

noncomputable section
open Idealize.ShloMosaic Idealize.ShloMosaic.TcCoe Idealize.SL.Sem
namespace Cert.Kernel12Ideal.Scan
open Cert.Kernel12Ideal Cert.Kernel12Ideal.Gen Cert.Scan

variable (m : (ℓ : Loc nD τ sig) → Buf (Elt Ideal) ℓ)

theorem dts_apply (c : Dev nD) (t : Fin cfg0.N) (j : Fin 128) (h : Fin 32) :
    dts m c t (ix2 j h) = step (dtc m c) (bias m c) (dOf t) (bOf t) (cOf t) (turn (dOf t) j) h := by
  unfold step
  rw [row_turn, ← win_dtc, ← win_bias]
  unfold dts soft
  pointwise [k0_pay3]
  rfl

theorem dtrows_apply (c : Dev nD) (t : Fin cfg0.N) (j : Fin 128) (h : Fin 32) :
    dtrows m c t (ix2 h j) = step (dtc m c) (bias m c) (dOf t) (bOf t) (cOf t) (turn (dOf t) j) h := by
  unfold step
  rw [row_turn, ← win_dtr, ← win_biasr]
  unfold dtrows soft
  pointwise [k0_pay4, k0_pay5, k0_pay6, k0_pay7]
  rfl

theorem dtas_apply (c : Dev nD) (t : Fin cfg0.N) (j : Fin 128) (h : Fin 32) :
    dtas m c t (ix2 j h) = drop (dtc m c) (bias m c) (alog m c) (dOf t) (bOf t) (cOf t) (turn (dOf t) j) h := by
  unfold drop
  rw [← dts_apply, ← win_alog]
  unfold dtas
  generalize dts m c t = D
  pointwise [k0_pay8]

theorem es_apply (c : Dev nD) (t : Fin cfg0.N) (h : Fin 32) :
    es m c t (ix2 0 h) = Ideal.exp (tot (dtc m c) (bias m c) (alog m c) (dOf t) (bOf t) (cOf t) h) := by
  unfold tot
  rw [← sum_turn (dOf t)]
  simp only [← dtas_apply]
  unfold es
  generalize dtas m c t = D
  pointwise [k0_pay14, k0_pay17]

/-- Whether a place of a chunk is not after another, as the kernel's signed difference says it. -/
theorem after_iff : ∀ (d : Fin 2) (i x : Fin 128),
    after (Scalar.subi (1#32) (Scalar.muli (2#32) (BitVec.ofNat 32 d.val))) (turn d i) (turn d x) = if x ≤ i then 1#1 else 0#1 := by
  decide +kernel

theorem after_sgn (t : Fin cfg0.N) (i x : Fin 128) : after (sgn t) i x = if turn (dOf t) x ≤ turn (dOf t) i then 1#1 else 0#1 := by
  have hx := (idx t).2.2.2.2.2.2.2.2.2.2
  rw [← after_iff, turn_turn, turn_turn]
  unfold sgn
  rw [hx]

theorem select_after (t : Fin cfg0.N) (i x : Fin 128) (u v : EReal) :
    Scalar.select (after (sgn t) i x) u v = if turn (dOf t) x ≤ turn (dOf t) i then u else v := by
  rw [after_sgn]
  split <;> rfl

theorem sum_after (c : Dev nD) (t : Fin cfg0.N) (j : Fin 128) (h : Fin 32) (D : Fin 128 → EReal)
    (hD : ∀ x, D x = drop (dtc m c) (bias m c) (alog m c) (dOf t) (bOf t) (cOf t) (turn (dOf t) x) h) :
    (∑ x, Scalar.select (after (sgn t) j x) (D x) 0) + (∑ x, Scalar.select (after (sgn t) j x) (D x - D x) 0)
        + (∑ x, Scalar.select (after (sgn t) j x) (D x - D x - (D x - D x)) 0)
      = cum (dtc m c) (bias m c) (alog m c) (dOf t) (bOf t) (cOf t) (turn (dOf t) j) h := by
  rw [sum_parts _ _ fun x => by rw [hD]; exact drop_ne_top _ _ _ _ _ _ _ _]
  unfold cum
  refine (Finset.sum_congr rfl fun x _ => ?_).trans (sum_turn (dOf t) fun x => if x ≤ turn (dOf t) j then
    drop (dtc m c) (bias m c) (alog m c) (dOf t) (bOf t) (cOf t) x h else 0)
  rw [select_after, hD]

theorem cums_apply (c : Dev nD) (t : Fin cfg0.N) (j : Fin 128) (h : Fin 32) :
    cums m c t (ix2 j h) = cum (dtc m c) (bias m c) (alog m c) (dOf t) (bOf t) (cOf t) (turn (dOf t) j) h := by
  refine Eq.trans ?_ (sum_after m c t j h (fun x => dtas m c t (ix2 x h)) fun x => dtas_apply m c t x h)
  unfold cums dtas
  generalize dts m c t = D
  pointwise [k0_pay10, k0_pay11]

theorem cumrows_apply (c : Dev nD) (t : Fin cfg0.N) (j : Fin 128) (h : Fin 32) :
    cumrows m c t (ix2 h j) = cum (dtc m c) (bias m c) (alog m c) (dOf t) (bOf t) (cOf t) (turn (dOf t) j) h := by
  refine Eq.trans ?_ (sum_after m c t j h (fun x => dtrows m c t (ix2 h x) * (0 - Ideal.exp (iblk m c 8 t (ix3 0 h 0)))) fun x => by
    rw [dtrows_apply, win_alogr]; rfl)
  unfold cumrows dtrows
  pointwise [k0_pay9, k0_pay12, k0_pay13]
  try rfl

theorem fs_apply (c : Dev nD) (t : Fin cfg0.N) (j : Fin 128) (h : Fin 32) :
    fs m c t (ix2 j h) = Ideal.exp (tot (dtc m c) (bias m c) (alog m c) (dOf t) (bOf t) (cOf t) h
        - cum (dtc m c) (bias m c) (alog m c) (dOf t) (bOf t) (cOf t) (turn (dOf t) j) h)
      * step (dtc m c) (bias m c) (dOf t) (bOf t) (cOf t) (turn (dOf t) j) h := by
  unfold tot
  rw [← sum_turn (dOf t), ← cums_apply, ← dts_apply]
  simp only [← dtas_apply]
  unfold fs
  generalize dtas m c t = D
  generalize dts m c t = E
  generalize cums m c t = K
  pointwise [k0_pay14, k0_pay16]

theorem gs_apply (c : Dev nD) (t : Fin cfg0.N) (j : Fin 128) (h : Fin 32) :
    gs m c t (ix2 j h) = Ideal.exp (cum (dtc m c) (bias m c) (alog m c) (dOf t) (bOf t) (cOf t) (turn (dOf t) j) h) := by
  rw [← cums_apply]
  unfold gs
  generalize cums m c t = K
  pointwise [k0_pay15]

end Cert.Kernel12Ideal.Scan
-- ==== Proof.Scan.StateA.lean ====
module

public import proofs.«01_k».proof.Proof.Scan.Block

@[expose] public section
set_option maxRecDepth 16384
noncomputable section
open Idealize.ShloMosaic Idealize.ShloMosaic.TcCoe Idealize.SL.Sem
namespace Cert.Kernel12Ideal.Scan
open Cert.Kernel12Ideal Cert.Kernel12Ideal.Gen
variable (m : (ℓ : Loc nD τ sig) → Buf (Elt Ideal) ℓ)

theorem state_A (c : Dev nD) (t : Fin cfg0.N) (h0 : t.val % 66 = 0) (y : S16x128x128.Idx) :
    (outsAt0 m c t.val t.isLt).2 y = newStateAt (X0_0 m c t) (iblk m c 1 t) (fs m c t) (es m c t) (k0_pay2 (F := Ideal)) y := by
  rw [outsAt0_A m c t h0]
  frame_open
  simp (disch := decide) only [↓ View.readCov_skip, ↓ View.readCov_cons_toLoadRect, ↓ View.readCov_fill]
  frame_out
  unfold fs es cums dtas dts sgn
  generalize (k0_pay16 (F := Ideal) _ _ _) = f
  generalize (k0_pay17 (F := Ideal) _) = e
  generalize X0_0 m c t = X
  generalize iblk m c 1 t = B
  generalize (k0_pay2 (F := Ideal)) = S
  refine canon_apply_of_first (newStateAt X B f e S) [_] y [_, _, _, _, _, _, _, _, _, _, _, _, _, _, _, _] ?_ (View.cover_of_tiledL (s := S16x128x128) _ S1x128x128.size (by sl_kernel_rfl) y)
  refine List.forall_mem_cons.2 ⟨fun x => newStateAt_eq 15 (x 1) (x 2) (by blk_ext) ?_, ?_⟩
  rotate_left
  refine List.forall_mem_cons.2 ⟨fun x => newStateAt_eq 14 (x 1) (x 2) (by blk_ext) ?_, ?_⟩
  rotate_left
  refine List.forall_mem_cons.2 ⟨fun x => newStateAt_eq 13 (x 1) (x 2) (by blk_ext) ?_, ?_⟩
  rotate_left
  refine List.forall_mem_cons.2 ⟨fun x => newStateAt_eq 12 (x 1) (x 2) (by blk_ext) ?_, ?_⟩
  rotate_left
  refine List.forall_mem_cons.2 ⟨fun x => newStateAt_eq 11 (x 1) (x 2) (by blk_ext) ?_, ?_⟩
  rotate_left
  refine List.forall_mem_cons.2 ⟨fun x => newStateAt_eq 10 (x 1) (x 2) (by blk_ext) ?_, ?_⟩
  rotate_left
  refine List.forall_mem_cons.2 ⟨fun x => newStateAt_eq 9 (x 1) (x 2) (by blk_ext) ?_, ?_⟩
  rotate_left
  refine List.forall_mem_cons.2 ⟨fun x => newStateAt_eq 8 (x 1) (x 2) (by blk_ext) ?_, ?_⟩
  rotate_left
  refine List.forall_mem_cons.2 ⟨fun x => newStateAt_eq 7 (x 1) (x 2) (by blk_ext) ?_, ?_⟩
  rotate_left
  refine List.forall_mem_cons.2 ⟨fun x => newStateAt_eq 6 (x 1) (x 2) (by blk_ext) ?_, ?_⟩
  rotate_left
  refine List.forall_mem_cons.2 ⟨fun x => newStateAt_eq 5 (x 1) (x 2) (by blk_ext) ?_, ?_⟩
  rotate_left
  refine List.forall_mem_cons.2 ⟨fun x => newStateAt_eq 4 (x 1) (x 2) (by blk_ext) ?_, ?_⟩
  rotate_left
  refine List.forall_mem_cons.2 ⟨fun x => newStateAt_eq 3 (x 1) (x 2) (by blk_ext) ?_, ?_⟩
  rotate_left
  refine List.forall_mem_cons.2 ⟨fun x => newStateAt_eq 2 (x 1) (x 2) (by blk_ext) ?_, ?_⟩
  rotate_left
  refine List.forall_mem_cons.2 ⟨fun x => newStateAt_eq 1 (x 1) (x 2) (by blk_ext) ?_, ?_⟩
  rotate_left
  refine List.forall_mem_cons.2 ⟨fun x => newStateAt_eq 0 (x 1) (x 2) (by blk_ext) ?_, ?_⟩
  rotate_left
  · exact fun _ h => absurd h List.not_mem_nil
  all_goals
    dsimp only
    pointwise [k0_pay1, k0_pay10, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, newState]

end Cert.Kernel12Ideal.Scan
-- ==== Proof.Scan.StateB.lean ====
module

public import proofs.«01_k».proof.Proof.Scan.Block

@[expose] public section
set_option maxRecDepth 16384
noncomputable section
open Idealize.ShloMosaic Idealize.ShloMosaic.TcCoe Idealize.SL.Sem
namespace Cert.Kernel12Ideal.Scan
open Cert.Kernel12Ideal Cert.Kernel12Ideal.Gen
variable (m : (ℓ : Loc nD τ sig) → Buf (Elt Ideal) ℓ)

theorem state_B (c : Dev nD) (t : Fin cfg0.N) (h0 : ¬t.val % 66 = 0) (y : S16x128x128.Idx) :
    (outsAt0 m c t.val t.isLt).2 y = newStateAt (X0_0 m c t) (iblk m c 1 t) (fs m c t) (es m c t) (outsAt0 m c (t.val - 1) (by omega)).2 y := by
  rw [outsAt0_B m c t h0]
  frame_out
  unfold fs es cums dtas dts sgn
  generalize (k0_pay16 (F := Ideal) _ _ _) = f
  generalize (k0_pay17 (F := Ideal) _) = e
  generalize X0_0 m c t = X
  generalize iblk m c 1 t = B
  simp only [read_unread_whole]
  generalize (outsAt0 m c _ _).2 = S
  refine View.canon_apply_of_pieces (Val := Elt Ideal) (e := .f32) (newStateAt X B f e S) _ ?_ y (View.cover_of_tiledL (s := S16x128x128) _ S1x128x128.size (by sl_kernel_rfl) y)
  refine List.forall_mem_cons.2 ⟨fun x => newStateAt_eq 15 (x 1) (x 2) (by blk_ext) ?_, ?_⟩
  rotate_left
  refine List.forall_mem_cons.2 ⟨fun x => newStateAt_eq 14 (x 1) (x 2) (by blk_ext) ?_, ?_⟩
  rotate_left
  refine List.forall_mem_cons.2 ⟨fun x => newStateAt_eq 13 (x 1) (x 2) (by blk_ext) ?_, ?_⟩
  rotate_left
  refine List.forall_mem_cons.2 ⟨fun x => newStateAt_eq 12 (x 1) (x 2) (by blk_ext) ?_, ?_⟩
  rotate_left
  refine List.forall_mem_cons.2 ⟨fun x => newStateAt_eq 11 (x 1) (x 2) (by blk_ext) ?_, ?_⟩
  rotate_left
  refine List.forall_mem_cons.2 ⟨fun x => newStateAt_eq 10 (x 1) (x 2) (by blk_ext) ?_, ?_⟩
  rotate_left
  refine List.forall_mem_cons.2 ⟨fun x => newStateAt_eq 9 (x 1) (x 2) (by blk_ext) ?_, ?_⟩
  rotate_left
  refine List.forall_mem_cons.2 ⟨fun x => newStateAt_eq 8 (x 1) (x 2) (by blk_ext) ?_, ?_⟩
  rotate_left
  refine List.forall_mem_cons.2 ⟨fun x => newStateAt_eq 7 (x 1) (x 2) (by blk_ext) ?_, ?_⟩
  rotate_left
  refine List.forall_mem_cons.2 ⟨fun x => newStateAt_eq 6 (x 1) (x 2) (by blk_ext) ?_, ?_⟩
  rotate_left
  refine List.forall_mem_cons.2 ⟨fun x => newStateAt_eq 5 (x 1) (x 2) (by blk_ext) ?_, ?_⟩
  rotate_left
  refine List.forall_mem_cons.2 ⟨fun x => newStateAt_eq 4 (x 1) (x 2) (by blk_ext) ?_, ?_⟩
  rotate_left
  refine List.forall_mem_cons.2 ⟨fun x => newStateAt_eq 3 (x 1) (x 2) (by blk_ext) ?_, ?_⟩
  rotate_left
  refine List.forall_mem_cons.2 ⟨fun x => newStateAt_eq 2 (x 1) (x 2) (by blk_ext) ?_, ?_⟩
  rotate_left
  refine List.forall_mem_cons.2 ⟨fun x => newStateAt_eq 1 (x 1) (x 2) (by blk_ext) ?_, ?_⟩
  rotate_left
  refine List.forall_mem_cons.2 ⟨fun x => newStateAt_eq 0 (x 1) (x 2) (by blk_ext) ?_, ?_⟩
  rotate_left
  · exact fun _ h => absurd h List.not_mem_nil
  all_goals
    dsimp only
    pointwise [k0_pay1, k0_pay10, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, newState]

end Cert.Kernel12Ideal.Scan
-- ==== Proof.Scan.OutA.lean ====
module

public import proofs.«01_k».proof.Proof.Scan.Block

@[expose] public section
set_option maxRecDepth 16384
noncomputable section
open Idealize.ShloMosaic Idealize.ShloMosaic.TcCoe Idealize.SL.Sem
namespace Cert.Kernel12Ideal.Scan
open Cert.Kernel12Ideal Cert.Kernel12Ideal.Gen
variable (m : (ℓ : Loc nD τ sig) → Buf (Elt Ideal) ℓ)

theorem y_A (c : Dev nD) (t : Fin cfg0.N) (h0 : t.val % 66 = 0) (y : S1x1x128x2048.Idx) :
    (outsAt0 m c t.val t.isLt).1 y
      = newYAt (sgn t) (X0_0 m c t) (iblk m c 1 t) (iblk m c 2 t) (cums m c t) (cumrows m c t) (dtrows m c t) (gs m c t) (k0_pay2 (F := Ideal)) y := by
  rw [outsAt0_A m c t h0]
  frame_open
  simp (disch := decide) only [↓ View.readCov_skip, ↓ View.readCov_cons_toLoadRect, ↓ View.readCov_fill]
  frame_out
  unfold gs cumrows dtrows cums dts sgn
  generalize Scalar.subi (1#32) _ = w
  generalize (k0_pay15 (F := Ideal) _) = g
  generalize (k0_pay11 (F := Ideal) _ _ _) = K
  generalize (k0_pay13 (F := Ideal) _ _ _) = L
  generalize (k0_pay7 (F := Ideal) _ _) = D
  generalize X0_0 m c t = X
  generalize iblk m c 1 t = B
  generalize iblk m c 2 t = C
  generalize (k0_pay2 (F := Ideal)) = S
  refine View.canon_apply_of_pieces (Val := Elt Ideal) (e := .f32) (newYAt w X B C K L D g S) _ ?_ y (View.cover_of_tiledL (s := S1x1x128x2048) _ S1x1x128x128.size (by sl_kernel_rfl) y)
  refine List.forall_mem_cons.2 ⟨fun x => newYAt_eq 15 (x 2) (x 3) (by blk_ext) ?_, ?_⟩
  rotate_left
  refine List.forall_mem_cons.2 ⟨fun x => newYAt_eq 14 (x 2) (x 3) (by blk_ext) ?_, ?_⟩
  rotate_left
  refine List.forall_mem_cons.2 ⟨fun x => newYAt_eq 13 (x 2) (x 3) (by blk_ext) ?_, ?_⟩
  rotate_left
  refine List.forall_mem_cons.2 ⟨fun x => newYAt_eq 12 (x 2) (x 3) (by blk_ext) ?_, ?_⟩
  rotate_left
  refine List.forall_mem_cons.2 ⟨fun x => newYAt_eq 11 (x 2) (x 3) (by blk_ext) ?_, ?_⟩
  rotate_left
  refine List.forall_mem_cons.2 ⟨fun x => newYAt_eq 10 (x 2) (x 3) (by blk_ext) ?_, ?_⟩
  rotate_left
  refine List.forall_mem_cons.2 ⟨fun x => newYAt_eq 9 (x 2) (x 3) (by blk_ext) ?_, ?_⟩
  rotate_left
  refine List.forall_mem_cons.2 ⟨fun x => newYAt_eq 8 (x 2) (x 3) (by blk_ext) ?_, ?_⟩
  rotate_left
  refine List.forall_mem_cons.2 ⟨fun x => newYAt_eq 7 (x 2) (x 3) (by blk_ext) ?_, ?_⟩
  rotate_left
  refine List.forall_mem_cons.2 ⟨fun x => newYAt_eq 6 (x 2) (x 3) (by blk_ext) ?_, ?_⟩
  rotate_left
  refine List.forall_mem_cons.2 ⟨fun x => newYAt_eq 5 (x 2) (x 3) (by blk_ext) ?_, ?_⟩
  rotate_left
  refine List.forall_mem_cons.2 ⟨fun x => newYAt_eq 4 (x 2) (x 3) (by blk_ext) ?_, ?_⟩
  rotate_left
  refine List.forall_mem_cons.2 ⟨fun x => newYAt_eq 3 (x 2) (x 3) (by blk_ext) ?_, ?_⟩
  rotate_left
  refine List.forall_mem_cons.2 ⟨fun x => newYAt_eq 2 (x 2) (x 3) (by blk_ext) ?_, ?_⟩
  rotate_left
  refine List.forall_mem_cons.2 ⟨fun x => newYAt_eq 1 (x 2) (x 3) (by blk_ext) ?_, ?_⟩
  rotate_left
  refine List.forall_mem_cons.2 ⟨fun x => newYAt_eq 0 (x 2) (x 3) (by blk_ext) ?_, ?_⟩
  rotate_left
  · exact fun _ h => absurd h List.not_mem_nil
  all_goals
    dsimp only
    pointwise [k0_pay1, k0_pay10, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, newY, newY.inner]

end Cert.Kernel12Ideal.Scan
-- ==== Proof.Scan.OutB.lean ====
module

public import proofs.«01_k».proof.Proof.Scan.Block

@[expose] public section
set_option maxRecDepth 16384
noncomputable section
open Idealize.ShloMosaic Idealize.ShloMosaic.TcCoe Idealize.SL.Sem
namespace Cert.Kernel12Ideal.Scan
open Cert.Kernel12Ideal Cert.Kernel12Ideal.Gen
variable (m : (ℓ : Loc nD τ sig) → Buf (Elt Ideal) ℓ)

theorem y_B (c : Dev nD) (t : Fin cfg0.N) (h0 : ¬t.val % 66 = 0) (y : S1x1x128x2048.Idx) :
    (outsAt0 m c t.val t.isLt).1 y
      = newYAt (sgn t) (X0_0 m c t) (iblk m c 1 t) (iblk m c 2 t) (cums m c t) (cumrows m c t) (dtrows m c t) (gs m c t) (outsAt0 m c (t.val - 1) (by omega)).2 y := by
  rw [outsAt0_B m c t h0]
  frame_out
  unfold gs cumrows dtrows cums dts sgn
  generalize Scalar.subi (1#32) _ = w
  generalize (k0_pay15 (F := Ideal) _) = g
  generalize (k0_pay11 (F := Ideal) _ _ _) = K
  generalize (k0_pay13 (F := Ideal) _ _ _) = L
  generalize (k0_pay7 (F := Ideal) _ _) = D
  generalize X0_0 m c t = X
  generalize iblk m c 1 t = B
  generalize iblk m c 2 t = C
  simp only [read_unread_whole]
  generalize (outsAt0 m c _ _).2 = S
  refine View.canon_apply_of_pieces (Val := Elt Ideal) (e := .f32) (newYAt w X B C K L D g S) _ ?_ y (View.cover_of_tiledL (s := S1x1x128x2048) _ S1x1x128x128.size (by sl_kernel_rfl) y)
  refine List.forall_mem_cons.2 ⟨fun x => newYAt_eq 15 (x 2) (x 3) (by blk_ext) ?_, ?_⟩
  rotate_left
  refine List.forall_mem_cons.2 ⟨fun x => newYAt_eq 14 (x 2) (x 3) (by blk_ext) ?_, ?_⟩
  rotate_left
  refine List.forall_mem_cons.2 ⟨fun x => newYAt_eq 13 (x 2) (x 3) (by blk_ext) ?_, ?_⟩
  rotate_left
  refine List.forall_mem_cons.2 ⟨fun x => newYAt_eq 12 (x 2) (x 3) (by blk_ext) ?_, ?_⟩
  rotate_left
  refine List.forall_mem_cons.2 ⟨fun x => newYAt_eq 11 (x 2) (x 3) (by blk_ext) ?_, ?_⟩
  rotate_left
  refine List.forall_mem_cons.2 ⟨fun x => newYAt_eq 10 (x 2) (x 3) (by blk_ext) ?_, ?_⟩
  rotate_left
  refine List.forall_mem_cons.2 ⟨fun x => newYAt_eq 9 (x 2) (x 3) (by blk_ext) ?_, ?_⟩
  rotate_left
  refine List.forall_mem_cons.2 ⟨fun x => newYAt_eq 8 (x 2) (x 3) (by blk_ext) ?_, ?_⟩
  rotate_left
  refine List.forall_mem_cons.2 ⟨fun x => newYAt_eq 7 (x 2) (x 3) (by blk_ext) ?_, ?_⟩
  rotate_left
  refine List.forall_mem_cons.2 ⟨fun x => newYAt_eq 6 (x 2) (x 3) (by blk_ext) ?_, ?_⟩
  rotate_left
  refine List.forall_mem_cons.2 ⟨fun x => newYAt_eq 5 (x 2) (x 3) (by blk_ext) ?_, ?_⟩
  rotate_left
  refine List.forall_mem_cons.2 ⟨fun x => newYAt_eq 4 (x 2) (x 3) (by blk_ext) ?_, ?_⟩
  rotate_left
  refine List.forall_mem_cons.2 ⟨fun x => newYAt_eq 3 (x 2) (x 3) (by blk_ext) ?_, ?_⟩
  rotate_left
  refine List.forall_mem_cons.2 ⟨fun x => newYAt_eq 2 (x 2) (x 3) (by blk_ext) ?_, ?_⟩
  rotate_left
  refine List.forall_mem_cons.2 ⟨fun x => newYAt_eq 1 (x 2) (x 3) (by blk_ext) ?_, ?_⟩
  rotate_left
  refine List.forall_mem_cons.2 ⟨fun x => newYAt_eq 0 (x 2) (x 3) (by blk_ext) ?_, ?_⟩
  rotate_left
  · exact fun _ h => absurd h List.not_mem_nil
  all_goals
    dsimp only
    pointwise [k0_pay1, k0_pay10, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, newY, newY.inner]

end Cert.Kernel12Ideal.Scan
-- ==== Proof.Scan.Value.lean ====
module

public import proofs.«01_k».proof.Proof.Scan.Terms
public import proofs.«01_k».proof.Proof.Scan.StateA
public import proofs.«01_k».proof.Proof.Scan.StateB
public import proofs.«01_k».proof.Proof.Scan.OutA
public import proofs.«01_k».proof.Proof.Scan.OutB
public import proofs.«01_k».proof.Proof.Gen.Kernel12Ideal.Value

@[expose] public section
set_option maxRecDepth 16384

/-! # The scan's kernel: the state after every grid point, and the result array -/

noncomputable section
open Idealize.ShloMosaic Idealize.ShloMosaic.TcCoe Idealize.SL.Sem
namespace Cert.Kernel12Ideal.Scan
open Cert.Kernel12Ideal Cert.Kernel12Ideal.Gen Cert.Scan

variable (m : (ℓ : Loc nD τ sig) → Buf (Elt Ideal) ℓ)

/-- The head, and its feature, of a lane of a pair. -/
abbrev headOf (p : Fin 16) (l : Fin 128) : Fin 32 := ⟨2 * p + l / 64, by omega⟩
abbrev featOf (l : Fin 128) : Fin 64 := ⟨l % 64, by omega⟩

theorem low_iff : ∀ l : Fin 128, low l = if l.val / 64 = 0 then 1#1 else 0#1 := by decide +kernel

/-- A lane takes its own head's value. -/
theorem pick (A : Fin 32 → EReal) (p : Fin 16) (l : Fin 128) :
    Scalar.select (low l) (A ⟨2 * p, by omega⟩) (A ⟨2 * p + 1, by omega⟩) = A (headOf p l) := by
  rw [low_iff]
  split
  · exact congrArg A (Fin.ext (by simp only; omega))
  · exact congrArg A (Fin.ext (by simp only; omega))

/-- One grid point's new state, from the state the point before it left. -/
theorem newState_apply (c : Dev nD) (t : Fin cfg0.N) (S : Vec Ideal S16x128x128 .f32) (p : Fin 16) (n l : Fin 128) :
    newState (X0_0 m c t) (iblk m c 1 t) (fs m c t) (es m c t) S p n l
      = S (ix3 p n l) * Ideal.exp (tot (dtc m c) (bias m c) (alog m c) (dOf t) (bOf t) (cOf t) (headOf p l))
        + gain (xa m c) (dtc m c) (bias m c) (alog m c) (dOf t) (bOf t) (cOf t) (headOf p l) (featOf l) n := by
  unfold newState
  rw [pick (fun h => es m c t (ix2 0 h)), es_apply]
  congr 1
  unfold gain
  refine (Finset.sum_congr rfl fun x _ => ?_).trans (sum_turn (dOf t) _)
  rw [pick (fun h => fs m c t (ix2 x h)), fs_apply, win_b, win_x, row_turn]
  have e1 : (⟨2048 + (⟨128 * (p.val / 4) + n, by omega⟩ : Fin 512), by omega⟩ : Fin 3072) = colB (headOf p l) n := Fin.ext (by simp only; omega)
  have e2 : (⟨(⟨128 * p + l, by omega⟩ : Fin 2048), by omega⟩ : Fin 3072) = chan (headOf p l) (featOf l) := Fin.ext (by simp only; omega)
  rw [← e1, ← e2]

theorem zero_state (y : S16x128x128.Idx) : (k0_pay2 (F := Ideal)) y = 0 := by
  pointwise [k0_pay2]

/-- The state a grid point leaves is the scan's state after its chunk. -/
theorem state_at (c : Dev nD) : ∀ (k : ℕ) (t : Fin cfg0.N), t.val % 66 = k → ∀ (p : Fin 16) (n l : Fin 128),
    (outsAt0 m c t.val t.isLt).2 (ix3 p n l)
      = state (xa m c) (dtc m c) (bias m c) (alog m c) (dOf t) (bOf t) (headOf p l) (featOf l) n (k + 1) := by
  intro k
  induction k with
  | zero =>
    intro t ht p n l
    rw [state_A m c t ht]
    refine (newState_apply m c t _ p n l).trans ?_
    rw [zero_state]
    rw [state_succ _ _ _ _ _ _ _ _ _ 0 (by omega), state]
    rw [show cOf t = ⟨0, by omega⟩ from Fin.ext ht]
  | succ k ih =>
    intro t ht p n l
    rw [state_B m c t (by omega)]
    refine (newState_apply m c t _ p n l).trans ?_
    have hN : t.val < 264 := t.isLt
    have := ih ⟨t.val - 1, by show t.val - 1 < 264; omega⟩ (by simp only; omega) p n l
    rw [this]
    rw [state_succ _ _ _ _ _ _ _ _ _ (k + 1) (by omega)]
    rw [show cOf t = ⟨k + 1, by omega⟩ from Fin.ext ht]
    rw [show dOf ⟨t.val - 1, by show t.val - 1 < 264; omega⟩ = dOf t from Fin.ext (by simp only; omega),
      show bOf ⟨t.val - 1, by show t.val - 1 < 264; omega⟩ = bOf t from Fin.ext (by simp only; omega)]

theorem mask_value : Ideal.ofBits .f32 4286578688#32 = (⊥ : EReal) := by
  simp [Ideal.ofBits, Ideal.ieee]

theorem newYAt_ix4 (w : BitVec 32) (X : Vec Ideal S1x128x2048 .f32) (B C : Vec Ideal S1x128x512 .f32) (K : FVec Ideal S128x32 .f32) (L D : FVec Ideal S32x128 .f32)
    (g : FVec Ideal S128x32 .f32) (S : Vec Ideal S16x128x128 .f32) (p : Fin 16) (i l : Fin 128) :
    newYAt w X B C K L D g S (ix4 0 0 i ⟨128 * p + l, by omega⟩) = newY w X B C K L D g S p i l :=
  (newYAt_eq (y := ix4 0 0 i ⟨128 * p + l, by omega⟩) (a := newY w X B C K L D g S p i l) p i l rfl rfl).symm

/-- The chunk's own part of a row's output. -/
theorem inner_apply (c : Dev nD) (t : Fin cfg0.N) (p : Fin 16) (i l : Fin 128) :
    newY.inner (sgn t) (X0_0 m c t) (iblk m c 1 t) (iblk m c 2 t) (cums m c t) (cumrows m c t) (dtrows m c t) p i l (headOf p l)
      = ∑ x, (∑ n, xa m c (bOf t) (row (dOf t) (cOf t) (turn (dOf t) i)) (colC (headOf p l) n) * xa m c (bOf t) (row (dOf t) (cOf t) x) (colB (headOf p l) n))
        * (Ideal.exp (if x ≤ turn (dOf t) i then cum (dtc m c) (bias m c) (alog m c) (dOf t) (bOf t) (cOf t) (turn (dOf t) i) (headOf p l)
            - cum (dtc m c) (bias m c) (alog m c) (dOf t) (bOf t) (cOf t) x (headOf p l) else ⊥) * step (dtc m c) (bias m c) (dOf t) (bOf t) (cOf t) x (headOf p l))
        * xa m c (bOf t) (row (dOf t) (cOf t) x) (chan (headOf p l) (featOf l)) := by
  unfold newY.inner
  refine (Finset.sum_congr rfl fun x _ => ?_).trans (sum_turn (dOf t) _)
  have eB : ∀ n : Fin 128, (⟨2048 + (⟨128 * (p.val / 4) + n, by omega⟩ : Fin 512), by omega⟩ : Fin 3072) = colB (headOf p l) n := fun n => Fin.ext (by simp only; omega)
  have eC : ∀ n : Fin 128, (⟨2560 + (⟨128 * (p.val / 4) + n, by omega⟩ : Fin 512), by omega⟩ : Fin 3072) = colC (headOf p l) n := fun n => Fin.ext (by simp only; omega)
  have eX : (⟨(⟨128 * p + l, by omega⟩ : Fin 2048), by omega⟩ : Fin 3072) = chan (headOf p l) (featOf l) := Fin.ext (by simp only; omega)
  rw [select_after, cums_apply, cumrows_apply, dtrows_apply, win_x, eX, mask_value]
  refine congrArg₂ (· * ·) (congrArg₂ (· * ·) (Finset.sum_congr rfl fun n _ => ?_) rfl) ?_
  · rw [win_c, win_b, eB, eC, row_turn, row_turn]
  · rw [row_turn]

/-- One grid point's outputs, from the state it starts from. -/
theorem newY_apply (c : Dev nD) (t : Fin cfg0.N) (p : Fin 16) (i l : Fin 128) (S : Vec Ideal S16x128x128 .f32) (hS : ∀ n, S (ix3 p n l)
      = state (xa m c) (dtc m c) (bias m c) (alog m c) (dOf t) (bOf t) (headOf p l) (featOf l) n (cOf t)) :
    newYAt (sgn t) (X0_0 m c t) (iblk m c 1 t) (iblk m c 2 t) (cums m c t) (cumrows m c t) (dtrows m c t) (gs m c t) S (ix4 0 0 i ⟨128 * p + l, by omega⟩)
      = out (xa m c) (dtc m c) (bias m c) (alog m c) (dOf t) (bOf t) (cOf t) (turn (dOf t) i) (headOf p l) (featOf l) := by
  rw [newYAt_ix4]
  unfold newY
  rw [pick (fun h => newY.inner (sgn t) (X0_0 m c t) (iblk m c 1 t) (iblk m c 2 t) (cums m c t) (cumrows m c t) (dtrows m c t) p i l h), inner_apply,
    pick (fun h => gs m c t (ix2 i h)), gs_apply]
  unfold out
  refine congrArg₂ _ rfl (congrArg₂ _ (Finset.sum_congr rfl fun n _ => ?_) rfl)
  have eC : (⟨2560 + (⟨128 * (p.val / 4) + n, by omega⟩ : Fin 512), by omega⟩ : Fin 3072) = colC (headOf p l) n := Fin.ext (by simp only; omega)
  rw [hS, win_c, eC, row_turn]

/-- What a grid point writes. -/
theorem y_at (c : Dev nD) (t : Fin cfg0.N) (p : Fin 16) (i l : Fin 128) :
    (outsAt0 m c t.val t.isLt).1 (ix4 0 0 i ⟨128 * p + l, by omega⟩)
      = out (xa m c) (dtc m c) (bias m c) (alog m c) (dOf t) (bOf t) (cOf t) (turn (dOf t) i) (headOf p l) (featOf l) := by
  have hN : t.val < 264 := t.isLt
  by_cases h0 : t.val % 66 = 0
  · rw [y_A m c t h0]
    refine newY_apply m c t p i l _ fun n => ?_
    rw [zero_state, show ((cOf t : Fin 66) : ℕ) = 0 from h0, state]
  · rw [y_B m c t h0]
    refine newY_apply m c t p i l _ fun n => ?_
    have := state_at m c (t.val % 66 - 1) ⟨t.val - 1, by show t.val - 1 < 264; omega⟩ (by simp only; omega) p n l
    rw [this, show ((cOf t : Fin 66) : ℕ) = t.val % 66 - 1 + 1 by simp only; omega]
    rw [show dOf ⟨t.val - 1, by show t.val - 1 < 264; omega⟩ = dOf t from Fin.ext (by simp only; omega),
      show bOf ⟨t.val - 1, by show t.val - 1 < 264; omega⟩ = bOf t from Fin.ext (by simp only; omega)]

theorem chunk_chunk (d : Fin 2) (k : Fin 66) : chunk d (chunk d k) = k := by revert d k; decide +kernel

/-- The array of all outputs. -/
def result (c : Dev nD) : Vec Ideal S2x2x8448x2048 .f32 := fun y =>
  out (xa m c) (dtc m c) (bias m c) (alog m c) (y 0) (y 1) (chunk (y 0) ⟨(y 2).val / 128, Nat.div_lt_of_lt_mul (y 2).isLt⟩)
    (turn (y 0) ⟨(y 2).val % 128, Nat.mod_lt _ (by decide)⟩) ⟨(y 3).val / 64, Nat.div_lt_of_lt_mul (y 3).isLt⟩ ⟨(y 3).val % 64, Nat.mod_lt _ (by decide)⟩

theorem result_at (c : Dev nD) (d b : Fin 2) (k : Fin 66) (j : Fin 128) (q : Fin 2048) : result m c (ix4 d b (at_ k j) q)
    = out (xa m c) (dtc m c) (bias m c) (alog m c) d b (chunk d k) (turn d j) ⟨q.val / 64, by omega⟩ ⟨q.val % 64, by omega⟩ := by
  have h1 : (at_ k j).val / 128 < 66 := by simp only [at_]; omega
  have h2 : (at_ k j).val % 128 < 128 := by omega
  have e1 : (⟨(at_ k j).val / 128, h1⟩ : Fin 66) = k := Fin.ext (by simp only [at_]; omega)
  have e2 : (⟨(at_ k j).val % 128, h2⟩ : Fin 128) = j := Fin.ext (by simp only [at_]; omega)
  show out (xa m c) (dtc m c) (bias m c) (alog m c) d b (chunk d ⟨(at_ k j).val / 128, h1⟩) (turn d ⟨(at_ k j).val % 128, h2⟩) _ _ = _
  rw [e1, e2]
  rfl

/-- A grid point's outputs are its part of the array. -/
theorem final_at (c : Dev nD) (t : Fin cfg0.N) (i : Fin 128) (q : Fin 2048) :
    (outsAt0 m c t.val t.isLt).1 (ix4 0 0 i q) = result m c (ix4 (dOf t) (bOf t) (at_ (chunk (dOf t) (cOf t)) i) q) := by
  have hN : t.val < 264 := t.isLt
  have hq : q = ⟨128 * (⟨q.val / 128, by omega⟩ : Fin 16) + (⟨q.val % 128, by omega⟩ : Fin 128), by simp only; omega⟩ := Fin.ext (by simp only; omega)
  conv_lhs => rw [hq]
  rw [y_at m c t]
  rw [result_at, chunk_chunk]
  have e3 : headOf ⟨q.val / 128, by omega⟩ ⟨q.val % 128, by omega⟩ = ⟨q.val / 64, by omega⟩ := Fin.ext (by simp only; omega)
  have e4 : featOf ⟨q.val % 128, by omega⟩ = ⟨q.val % 64, by omega⟩ := Fin.ext (by simp only; omega)
  rw [e3, e4]

set_option maxHeartbeats 1000000 in
theorem final (c : Dev nD) : (dats m 0 c).arrAt 9 cfg0.N = result m c := by
  refine (dats m 0 c).arrAt_eq_of_covers 9 _ (by decide +kernel) fun t _ y => ?_
  have hx := idx t
  blk_simp
  rw [after0_9]
  have hy : y = ix4 (0 : Fin 1) (0 : Fin 1) (y 2) (y 3) := by
    blk_ext
  rw [hy]
  refine (final_at m c t (y 2) (y 3)).trans (congrArg (result m c) ?_)
  symm
  show ((View.whole main_v5).slice (win0_9.rect t)).emb (ix4 (0 : Fin 1) (0 : Fin 1) (y 2) (y 3)) = _
  blk_ext! [hx, at_]

end Cert.Kernel12Ideal.Scan
-- ==== Proof.Scan.Order.lean ====
module
public import proofs.«01_k».proof.Proof.Scan.Spec
public import proofs.«01_k».proof.Proof.Gen.Reference12Ideal.Run
public import Idealize.ShloMosaic.Lib.Pointwise
@[expose] public section
set_option maxRecDepth 16384

/-! # Rows in the order a direction walks them -/

noncomputable section
open Idealize.ShloMosaic Idealize.ShloMosaic.TcCoe Idealize.SL.Sem
namespace Cert.Reference12Ideal.Scan
open Cert.Reference12Ideal Cert.Reference12Ideal.Gen Cert.Scan

theorem ix4_of {n0 n1 n2 n3 : ℕ} {a a' : Fin n0} {b b' : Fin n1} {c c' : Fin n2} {e e' : Fin n3} (ha : a = a') (hb : b = b') (hc : c = c') (he : e = e') :
    ix4 a b c e = ix4 a' b' c' e' := by
  subst ha hb hc he; rfl

/-- An array's steps with direction 1's first 256 rows reversed and its others reversed. -/
def order32 (X : FVec Ideal S2x2x8448x32 .f32) : FVec Ideal S2x2x8448x32 .f32 :=
  concatenate S2x2x8448x32 0
    [⟨S1x2x8448x32, broadcastInDim S1x2x8448x32 ![1, 2, 3] bcast_S2x8448x32_S1x2x8448x32_1_2_3
      (shapeCast S2x8448x32 (extractStridedSlice S1x2x8448x32 ![0, 0, 0, 0] X slices_S2x2x8448x32_S1x2x8448x32_0_0_0_0) shapeCasts_S1x2x8448x32_S2x8448x32)⟩,
     ⟨S1x2x8448x32, broadcastInDim S1x2x8448x32 ![1, 2, 3] bcast_S2x8448x32_S1x2x8448x32_1_2_3
      (concatenate S2x8448x32 1
        [⟨S2x256x32, Host.reverse [1] (shapeCast S2x256x32 (extractStridedSlice S1x2x256x32 ![1, 0, 0, 0] X slices_S2x2x8448x32_S1x2x256x32_1_0_0_0) shapeCasts_S1x2x256x32_S2x256x32)⟩,
         ⟨S2x8192x32, Host.reverse [1] (shapeCast S2x8192x32 (extractStridedSlice S1x2x8192x32 ![1, 0, 256, 0] X slices_S2x2x8448x32_S1x2x8192x32_1_0_256_0) shapeCasts_S1x2x8192x32_S2x8192x32)⟩]
        concatenates_S2x256x32_S2x8192x32_S2x8448x32_d1)⟩]
    concatenates_S1x2x8448x32_S1x2x8448x32_S2x2x8448x32_d0

theorem order32_apply (X : FVec Ideal S2x2x8448x32 .f32) (d b : Fin 2) (p : Fin 8448) (h : Fin 32) :
    (order32 X (ix4 d b p h) : EReal) = X (ix4 d b (inOrder d p) h) := by
  pointwise [order32, Host.reverse]
  have hp := p.isLt
  by_cases h0 : d.val < 1
  · have hd : d = 0 := Fin.ext (by simp only [Fin.val_zero]; omega)
    rw [dif_pos h0, hd]; rfl
  · have hd : d = 1 := Fin.ext (by simp only [Fin.val_one]; omega)
    rw [dif_neg h0, hd]
    have hi : (inOrder 1 p).val = if p.val < 256 then 255 - p.val else 8703 - p.val := rfl
    by_cases h1 : p.val < 256
    · rw [dif_pos h1]
      refine congrArg X (ix4_of rfl (if_neg (by decide)) (Fin.ext ?_) (if_neg (by decide)))
      rw [hi, if_pos h1]
      refine (congrArg Fin.val (if_pos (by decide))).trans ?_
      simp only [Fin.val_rev]; omega
    · rw [dif_neg h1]
      refine congrArg X (ix4_of rfl (if_neg (by decide)) (Fin.ext ?_) (if_neg (by decide)))
      rw [hi, if_neg h1]
      refine (congrArg (fun i : Fin 8192 => 256 + i.val) (if_pos (by decide))).trans ?_
      simp only [Fin.val_rev]; omega

/-- An array's rows with direction 1's first 256 rows reversed and its others reversed. -/
def order3072 (X : FVec Ideal S2x2x8448x3072 .f32) : FVec Ideal S2x2x8448x3072 .f32 :=
  concatenate S2x2x8448x3072 0
    [⟨S1x2x8448x3072, broadcastInDim S1x2x8448x3072 ![1, 2, 3] bcast_S2x8448x3072_S1x2x8448x3072_1_2_3
      (shapeCast S2x8448x3072 (extractStridedSlice S1x2x8448x3072 ![0, 0, 0, 0] X slices_S2x2x8448x3072_S1x2x8448x3072_0_0_0_0) shapeCasts_S1x2x8448x3072_S2x8448x3072)⟩,
     ⟨S1x2x8448x3072, broadcastInDim S1x2x8448x3072 ![1, 2, 3] bcast_S2x8448x3072_S1x2x8448x3072_1_2_3
      (concatenate S2x8448x3072 1
        [⟨S2x256x3072, Host.reverse [1] (shapeCast S2x256x3072 (extractStridedSlice S1x2x256x3072 ![1, 0, 0, 0] X slices_S2x2x8448x3072_S1x2x256x3072_1_0_0_0) shapeCasts_S1x2x256x3072_S2x256x3072)⟩,
         ⟨S2x8192x3072, Host.reverse [1] (shapeCast S2x8192x3072 (extractStridedSlice S1x2x8192x3072 ![1, 0, 256, 0] X slices_S2x2x8448x3072_S1x2x8192x3072_1_0_256_0) shapeCasts_S1x2x8192x3072_S2x8192x3072)⟩]
        concatenates_S2x256x3072_S2x8192x3072_S2x8448x3072_d1)⟩]
    concatenates_S1x2x8448x3072_S1x2x8448x3072_S2x2x8448x3072_d0

theorem order3072_apply (X : FVec Ideal S2x2x8448x3072 .f32) (d b : Fin 2) (p : Fin 8448) (h : Fin 3072) :
    (order3072 X (ix4 d b p h) : EReal) = X (ix4 d b (inOrder d p) h) := by
  pointwise [order3072, Host.reverse]
  have hp := p.isLt
  by_cases h0 : d.val < 1
  · have hd : d = 0 := Fin.ext (by simp only [Fin.val_zero]; omega)
    rw [dif_pos h0, hd]; rfl
  · have hd : d = 1 := Fin.ext (by simp only [Fin.val_one]; omega)
    rw [dif_neg h0, hd]
    have hi : (inOrder 1 p).val = if p.val < 256 then 255 - p.val else 8703 - p.val := rfl
    by_cases h1 : p.val < 256
    · rw [dif_pos h1]
      refine congrArg X (ix4_of rfl (if_neg (by decide)) (Fin.ext ?_) (if_neg (by decide)))
      rw [hi, if_pos h1]
      refine (congrArg Fin.val (if_pos (by decide))).trans ?_
      simp only [Fin.val_rev]; omega
    · rw [dif_neg h1]
      refine congrArg X (ix4_of rfl (if_neg (by decide)) (Fin.ext ?_) (if_neg (by decide)))
      rw [hi, if_neg h1]
      refine (congrArg (fun i : Fin 8192 => 256 + i.val) (if_pos (by decide))).trans ?_
      simp only [Fin.val_rev]; omega

/-- An array's outputs with direction 1's first 256 rows reversed and its others reversed. -/
def order2048 (X : FVec Ideal S2x2x8448x2048 .f32) : FVec Ideal S2x2x8448x2048 .f32 :=
  concatenate S2x2x8448x2048 0
    [⟨S1x2x8448x2048, broadcastInDim S1x2x8448x2048 ![1, 2, 3] bcast_S2x8448x2048_S1x2x8448x2048_1_2_3
      (shapeCast S2x8448x2048 (extractStridedSlice S1x2x8448x2048 ![0, 0, 0, 0] X slices_S2x2x8448x2048_S1x2x8448x2048_0_0_0_0) shapeCasts_S1x2x8448x2048_S2x8448x2048)⟩,
     ⟨S1x2x8448x2048, broadcastInDim S1x2x8448x2048 ![1, 2, 3] bcast_S2x8448x2048_S1x2x8448x2048_1_2_3
      (concatenate S2x8448x2048 1
        [⟨S2x256x2048, Host.reverse [1] (shapeCast S2x256x2048 (extractStridedSlice S1x2x256x2048 ![1, 0, 0, 0] X slices_S2x2x8448x2048_S1x2x256x2048_1_0_0_0) shapeCasts_S1x2x256x2048_S2x256x2048)⟩,
         ⟨S2x8192x2048, Host.reverse [1] (shapeCast S2x8192x2048 (extractStridedSlice S1x2x8192x2048 ![1, 0, 256, 0] X slices_S2x2x8448x2048_S1x2x8192x2048_1_0_256_0) shapeCasts_S1x2x8192x2048_S2x8192x2048)⟩]
        concatenates_S2x256x2048_S2x8192x2048_S2x8448x2048_d1)⟩]
    concatenates_S1x2x8448x2048_S1x2x8448x2048_S2x2x8448x2048_d0

theorem order2048_apply (X : FVec Ideal S2x2x8448x2048 .f32) (d b : Fin 2) (p : Fin 8448) (h : Fin 2048) :
    (order2048 X (ix4 d b p h) : EReal) = X (ix4 d b (inOrder d p) h) := by
  pointwise [order2048, Host.reverse]
  have hp := p.isLt
  by_cases h0 : d.val < 1
  · have hd : d = 0 := Fin.ext (by simp only [Fin.val_zero]; omega)
    rw [dif_pos h0, hd]; rfl
  · have hd : d = 1 := Fin.ext (by simp only [Fin.val_one]; omega)
    rw [dif_neg h0, hd]
    have hi : (inOrder 1 p).val = if p.val < 256 then 255 - p.val else 8703 - p.val := rfl
    by_cases h1 : p.val < 256
    · rw [dif_pos h1]
      refine congrArg X (ix4_of rfl (if_neg (by decide)) (Fin.ext ?_) (if_neg (by decide)))
      rw [hi, if_pos h1]
      refine (congrArg Fin.val (if_pos (by decide))).trans ?_
      simp only [Fin.val_rev]; omega
    · rw [dif_neg h1]
      refine congrArg X (ix4_of rfl (if_neg (by decide)) (Fin.ext ?_) (if_neg (by decide)))
      rw [hi, if_neg h1]
      refine (congrArg (fun i : Fin 8192 => 256 + i.val) (if_pos (by decide))).trans ?_
      simp only [Fin.val_rev]; omega

end Cert.Reference12Ideal.Scan
-- ==== Proof.Scan.Steps.lean ====
module
public import proofs.«01_k».proof.Proof.Scan.Spec
public import proofs.«01_k».proof.Proof.Scan.Order
public import proofs.«01_k».proof.Proof.Gen.Reference12Ideal.Run
public import Idealize.ShloMosaic.Lib.StableHlo.ReadAt
@[expose] public section
set_option maxRecDepth 16384

/-! # The scan's reference before its loop: step sizes and rows in time order -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value Cert.Scan

variable (m : (ℓ : Loc nD τ sig) → Buf (Elt Ideal) ℓ)

/-- The arrays of the call, as functions. -/
abbrev xa (c : Dev nD) : Fin 2 → Fin 8448 → Fin 3072 → EReal := fun b r k => m ((c.tc : Thread nD τ).loc main_arg0) (ix3 b r k)
abbrev dtc (c : Dev nD) : Fin 2 → Fin 2 → Fin 8448 → Fin 32 → EReal := fun d b r h => m ((c.tc : Thread nD τ).loc main_arg1) (ix4 d b r h)
abbrev bias (c : Dev nD) : Fin 2 → Fin 32 → EReal := fun d h => m ((c.tc : Thread nD τ).loc main_arg2) (ix2 d h)
abbrev alog (c : Dev nD) : Fin 2 → Fin 32 → EReal := fun d h => m ((c.tc : Thread nD τ).loc main_arg3) (ix2 d h)

/-- A head, by its group and its place in the group. -/
abbrev headAt (g : Fin 4) (k : Fin 8) : Fin 32 := ⟨8 * g + k, by omega⟩

/-- The contents after the step sizes are computed. -/
def V1 (c : Dev nD) : Valuation τ sig (Elt Ideal) := after hostOps0_1 (after hostOps0 (launchContents m c))

theorem V1_arg0 (c : Dev nD) : V1 m c (Proc.devRef .tc main_arg0) = m ((c.tc : Thread nD τ).loc main_arg0) := by
  unfold V1
  after_reads_simp
  all_goals try simp -implicitDefEqProofs only [StableHlo.TRef.toBuf, StableHlo.TRef.ofBuf, cast_cast, cast_eq]
  all_goals clean_types
  all_goals rfl

theorem V1_v2 (c : Dev nD) (d : Fin 2) (g : Fin 4) (k : Fin 8) :
    (V1 m c (Proc.devRef .tc main_v2) (ix6 d 0 0 0 g k) : EReal) = -Ideal.exp (alog m c d (headAt g k)) := by
  unfold V1
  after_reads_at
  refine congrArg (fun h => -Ideal.exp (alog m c d h)) (Fin.ext ?_)
  simp only; omega

theorem V1_v6 (c : Dev nD) (d b : Fin 2) (r : Fin 8448) (h : Fin 32) :
    (V1 m c (Proc.devRef .tc main_v6) (ix4 d b r h) : EReal) = soft (dtc m c d b r h + bias m c d h) := by
  unfold V1
  after_reads_at
  rw [if_neg (by simp)]
  unfold soft
  rw [zero_sub]
  rfl

/-- The contents after the step sizes are in time order. -/
def V6 (c : Dev nD) : Valuation τ sig (Elt Ideal) :=
  after hostOps0_6 (after hostOps0_5 (after hostOps0_4 (after hostOps0_3 (after hostOps0_2 (V1 m c)))))

theorem V6_v18 (c : Dev nD) : V6 m c (Proc.devRef .tc main_v18) = order32 (V1 m c (Proc.devRef .tc main_v6)) := by
  unfold V6
  generalize V1 m c = V
  after_reads_simp
  all_goals try simp -implicitDefEqProofs only [StableHlo.TRef.toBuf, StableHlo.TRef.ofBuf, cast_cast, cast_eq]
  all_goals clean_types
  unfold order32
  refine congrArg₂ (fun a b => concatenate S2x2x8448x32 0 [⟨S1x2x8448x32, a⟩, ⟨S1x2x8448x32, b⟩] concatenates_S1x2x8448x32_S1x2x8448x32_S2x2x8448x32_d0) ?_ ?_
  · after_reads_simp
    all_goals try simp -implicitDefEqProofs only [StableHlo.TRef.toBuf, StableHlo.TRef.ofBuf, cast_cast, cast_eq]
    all_goals clean_types
    all_goals rfl
  · after_reads_simp
    all_goals try simp -implicitDefEqProofs only [StableHlo.TRef.toBuf, StableHlo.TRef.ofBuf, cast_cast, cast_eq]
    all_goals clean_types
    refine congrArg (fun a : FVec Ideal S2x8448x32 .f32 => broadcastInDim S1x2x8448x32 ![1, 2, 3] bcast_S2x8448x32_S1x2x8448x32_1_2_3 a) ?_
    refine congrArg₂ (fun a b => concatenate S2x8448x32 1 [⟨S2x256x32, a⟩, ⟨S2x8192x32, b⟩] concatenates_S2x256x32_S2x8192x32_S2x8448x32_d1) ?_ ?_
    · after_reads_simp
      all_goals try simp -implicitDefEqProofs only [StableHlo.TRef.toBuf, StableHlo.TRef.ofBuf, cast_cast, cast_eq]
      all_goals clean_types
      all_goals rfl
    · after_reads_simp
      all_goals try simp -implicitDefEqProofs only [StableHlo.TRef.toBuf, StableHlo.TRef.ofBuf, cast_cast, cast_eq]
      all_goals clean_types
      all_goals rfl

theorem V6_v19 (c : Dev nD) (d b : Fin 2) (k : Fin 66) (q : Fin 128) (g : Fin 4) (e : Fin 8) :
    (V6 m c (Proc.devRef .tc main_v19) (ix6 d b k q g e) : EReal) = step (dtc m c) (bias m c) d b k q (headAt g e) := by
  have h : V6 m c (Proc.devRef .tc main_v19) = shapeCast S2x2x66x128x4x8 (V6 m c (Proc.devRef .tc main_v18)) shapeCasts_S2x2x8448x32_S2x2x66x128x4x8 := by
    unfold V6
    generalize V1 m c = V
    after_reads_simp
    all_goals try simp -implicitDefEqProofs only [StableHlo.TRef.toBuf, StableHlo.TRef.ofBuf, cast_cast, cast_eq]
    all_goals clean_types
    all_goals rfl
  rw [h, V6_v18]
  have e1 : (shapeCast S2x2x66x128x4x8 (order32 (V1 m c (Proc.devRef .tc main_v6))) shapeCasts_S2x2x8448x32_S2x2x66x128x4x8 (ix6 d b k q g e) : EReal)
      = order32 (V1 m c (Proc.devRef .tc main_v6)) (ix4 d b ⟨k.val * 128 + q.val, by omega⟩ ⟨g.val * 8 + e.val, by omega⟩) := by
    generalize order32 _ = X
    pointwise
  rw [e1, order32_apply, V1_v6, show (⟨k.val * 128 + q.val, by omega⟩ : Fin 8448) = at_ k q from rfl, inOrder_at,
    show (⟨g.val * 8 + e.val, by omega⟩ : Fin 32) = headAt g e from Fin.ext (by simp only; omega)]
  rfl

theorem V6_v2 (c : Dev nD) : V6 m c (Proc.devRef .tc main_v2) = V1 m c (Proc.devRef .tc main_v2) := by
  unfold V6
  generalize V1 m c = V
  after_reads_simp
  all_goals try simp -implicitDefEqProofs only [StableHlo.TRef.toBuf, StableHlo.TRef.ofBuf, cast_cast, cast_eq]
  all_goals clean_types
  all_goals rfl

/-- Both directions' copies of the rows. -/
def twice (X : FVec Ideal S2x8448x3072 .f32) : FVec Ideal S2x2x8448x3072 .f32 :=
  concatenate S2x2x8448x3072 0
    [⟨S1x2x8448x3072, broadcastInDim S1x2x8448x3072 ![1, 2, 3] bcast_S2x8448x3072_S1x2x8448x3072_1_2_3 X⟩,
     ⟨S1x2x8448x3072, broadcastInDim S1x2x8448x3072 ![1, 2, 3] bcast_S2x8448x3072_S1x2x8448x3072_1_2_3 X⟩]
    concatenates_S1x2x8448x3072_S1x2x8448x3072_S2x2x8448x3072_d0

theorem twice_apply (X : FVec Ideal S2x8448x3072 .f32) (d b : Fin 2) (r : Fin 8448) (k : Fin 3072) : (twice X (ix4 d b r k) : EReal) = X (ix3 b r k) := by
  pointwise [twice]
  by_cases h : d.val < 1
  · rw [dif_pos h]
  · rw [dif_neg h]

theorem V6_v22 (c : Dev nD) : V6 m c (Proc.devRef .tc main_v22) = twice (m ((c.tc : Thread nD τ).loc main_arg0)) := by
  rw [← V1_arg0 m c]
  unfold V6
  generalize V1 m c = V
  after_reads_simp
  all_goals try simp -implicitDefEqProofs only [StableHlo.TRef.toBuf, StableHlo.TRef.ofBuf, cast_cast, cast_eq]
  all_goals clean_types
  unfold twice
  refine congrArg₂ (fun a b => concatenate S2x2x8448x3072 0 [⟨S1x2x8448x3072, a⟩, ⟨S1x2x8448x3072, b⟩] concatenates_S1x2x8448x3072_S1x2x8448x3072_S2x2x8448x3072_d0) ?_ ?_
  · after_reads_simp
    all_goals try simp -implicitDefEqProofs only [StableHlo.TRef.toBuf, StableHlo.TRef.ofBuf, cast_cast, cast_eq]
    all_goals clean_types
    all_goals rfl
  · after_reads_simp
    all_goals try simp -implicitDefEqProofs only [StableHlo.TRef.toBuf, StableHlo.TRef.ofBuf, cast_cast, cast_eq]
    all_goals clean_types
    all_goals rfl

end Cert.Reference12Ideal.Scan
-- ==== Proof.Scan.Rows.lean ====
module
public import proofs.«01_k».proof.Proof.Scan.Spec
public import proofs.«01_k».proof.Proof.Scan.Steps
public import proofs.«01_k».proof.Proof.Scan.Order
public import proofs.«01_k».proof.Proof.Gen.Reference12Ideal.Run
public import Idealize.ShloMosaic.Lib.StableHlo.ReadAt
@[expose] public section
set_option maxRecDepth 16384

/-! # The scan's reference before its loop: the rows in time order -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value Cert.Scan

variable (m : (ℓ : Loc nD τ sig) → Buf (Elt Ideal) ℓ)

/-- The contents after the rows are in time order. -/
def V10 (c : Dev nD) : Valuation τ sig (Elt Ideal) :=
  after hostOps0_10 (after hostOps0_9 (after hostOps0_8 (after hostOps0_7 (V6 m c))))

theorem V10_v34 (c : Dev nD) : V10 m c (Proc.devRef .tc main_v34) = order3072 (V6 m c (Proc.devRef .tc main_v22)) := by
  unfold V10
  have h24 : V6 m c (Proc.devRef .tc main_v24) = shapeCast S2x8448x3072 (extractStridedSlice S1x2x8448x3072 ![0, 0, 0, 0] (V6 m c (Proc.devRef .tc main_v22)) slices_S2x2x8448x3072_S1x2x8448x3072_0_0_0_0) shapeCasts_S1x2x8448x3072_S2x8448x3072 := by
    unfold V6
    generalize V1 m c = V
    after_reads_simp
    all_goals try simp -implicitDefEqProofs only [StableHlo.TRef.toBuf, StableHlo.TRef.ofBuf, cast_cast, cast_eq]
    all_goals clean_types
    all_goals rfl
  have h26 : V6 m c (Proc.devRef .tc main_v26) = shapeCast S2x256x3072 (extractStridedSlice S1x2x256x3072 ![1, 0, 0, 0] (V6 m c (Proc.devRef .tc main_v22)) slices_S2x2x8448x3072_S1x2x256x3072_1_0_0_0) shapeCasts_S1x2x256x3072_S2x256x3072 := by
    unfold V6
    generalize V1 m c = V
    after_reads_simp
    all_goals try simp -implicitDefEqProofs only [StableHlo.TRef.toBuf, StableHlo.TRef.ofBuf, cast_cast, cast_eq]
    all_goals clean_types
    all_goals rfl
  generalize V6 m c = V at h24 h26
  after_reads_simp
  all_goals try simp -implicitDefEqProofs only [StableHlo.TRef.toBuf, StableHlo.TRef.ofBuf, cast_cast, cast_eq]
  all_goals clean_types
  unfold order3072
  refine congrArg₂ (fun a b => concatenate S2x2x8448x3072 0 [⟨S1x2x8448x3072, a⟩, ⟨S1x2x8448x3072, b⟩] concatenates_S1x2x8448x3072_S1x2x8448x3072_S2x2x8448x3072_d0) ?_ ?_
  · after_reads_simp
    all_goals try simp -implicitDefEqProofs only [StableHlo.TRef.toBuf, StableHlo.TRef.ofBuf, cast_cast, cast_eq]
    all_goals clean_types
    rw [h24]
    all_goals rfl
  · after_reads_simp
    all_goals try simp -implicitDefEqProofs only [StableHlo.TRef.toBuf, StableHlo.TRef.ofBuf, cast_cast, cast_eq]
    all_goals clean_types
    refine congrArg (fun a : FVec Ideal S2x8448x3072 .f32 => broadcastInDim S1x2x8448x3072 ![1, 2, 3] bcast_S2x8448x3072_S1x2x8448x3072_1_2_3 a) ?_
    refine congrArg₂ (fun a b => concatenate S2x8448x3072 1 [⟨S2x256x3072, a⟩, ⟨S2x8192x3072, b⟩] concatenates_S2x256x3072_S2x8192x3072_S2x8448x3072_d1) ?_ ?_
    · after_reads_simp
      all_goals try simp -implicitDefEqProofs only [StableHlo.TRef.toBuf, StableHlo.TRef.ofBuf, cast_cast, cast_eq]
      all_goals clean_types
      rw [h26]
      all_goals rfl
    · after_reads_simp
      all_goals try simp -implicitDefEqProofs only [StableHlo.TRef.toBuf, StableHlo.TRef.ofBuf, cast_cast, cast_eq]
      all_goals clean_types
      all_goals rfl

/-- The rows, in time order. -/
theorem V10_row (c : Dev nD) (d b : Fin 2) (k : Fin 66) (q : Fin 128) (f : Fin 3072) :
    (V10 m c (Proc.devRef .tc main_v34) (ix4 d b ⟨k.val * 128 + q.val, by omega⟩ f) : EReal) = xa m c b (row d k q) f := by
  rw [V10_v34, order3072_apply, V6_v22, twice_apply, show (⟨k.val * 128 + q.val, by omega⟩ : Fin 8448) = at_ k q from rfl, inOrder_at]

theorem V10_v36 (c : Dev nD) (d b : Fin 2) (k : Fin 66) (q : Fin 128) (g : Fin 4) (e : Fin 8) (f : Fin 64) :
    (V10 m c (Proc.devRef .tc main_v36) (ix7 d b k q g e f) : EReal) = xa m c b (row d k q) (chan (headAt g e) f) := by
  have h : V10 m c (Proc.devRef .tc main_v36) = shapeCast S2x2x66x128x4x8x64 (extractStridedSlice S2x2x8448x2048 ![0, 0, 0, 0] (V10 m c (Proc.devRef .tc main_v34)) slices_S2x2x8448x3072_S2x2x8448x2048_0_0_0_0) shapeCasts_S2x2x8448x2048_S2x2x66x128x4x8x64 := by
    unfold V10
    generalize V6 m c = V
    after_reads_simp
    all_goals try simp -implicitDefEqProofs only [StableHlo.TRef.toBuf, StableHlo.TRef.ofBuf, cast_cast, cast_eq]
    all_goals clean_types
    all_goals rfl
  rw [h]
  have hr := V10_row m c d b k q
  generalize V10 m c (Proc.devRef .tc main_v34) = X at hr
  pointwise
  refine (hr _).trans (congrArg (xa m c b (row d k q)) (Fin.ext ?_))
  simp only; omega

theorem V10_v38 (c : Dev nD) (d b : Fin 2) (k : Fin 66) (q : Fin 128) (g : Fin 4) (e : Fin 8) (n : Fin 128) :
    (V10 m c (Proc.devRef .tc main_v38) (ix6 d b k q g n) : EReal) = xa m c b (row d k q) (colB (headAt g e) n) := by
  have h : V10 m c (Proc.devRef .tc main_v38) = shapeCast S2x2x66x128x4x128 (extractStridedSlice S2x2x8448x512 ![0, 0, 0, 2048] (V10 m c (Proc.devRef .tc main_v34)) slices_S2x2x8448x3072_S2x2x8448x512_0_0_0_2048) shapeCasts_S2x2x8448x512_S2x2x66x128x4x128 := by
    unfold V10
    generalize V6 m c = V
    after_reads_simp
    all_goals try simp -implicitDefEqProofs only [StableHlo.TRef.toBuf, StableHlo.TRef.ofBuf, cast_cast, cast_eq]
    all_goals clean_types
    all_goals rfl
  rw [h]
  have hr := V10_row m c d b k q
  generalize V10 m c (Proc.devRef .tc main_v34) = X at hr
  pointwise
  refine (hr _).trans (congrArg (xa m c b (row d k q)) (Fin.ext ?_))
  simp only; omega

theorem V10_v40 (c : Dev nD) (d b : Fin 2) (k : Fin 66) (q : Fin 128) (g : Fin 4) (e : Fin 8) (n : Fin 128) :
    (V10 m c (Proc.devRef .tc main_v40) (ix6 d b k q g n) : EReal) = xa m c b (row d k q) (colC (headAt g e) n) := by
  have h : V10 m c (Proc.devRef .tc main_v40) = shapeCast S2x2x66x128x4x128 (extractStridedSlice S2x2x8448x512 ![0, 0, 0, 2560] (V10 m c (Proc.devRef .tc main_v34)) slices_S2x2x8448x3072_S2x2x8448x512_0_0_0_2560) shapeCasts_S2x2x8448x512_S2x2x66x128x4x128 := by
    unfold V10
    generalize V6 m c = V
    after_reads_simp
    all_goals try simp -implicitDefEqProofs only [StableHlo.TRef.toBuf, StableHlo.TRef.ofBuf, cast_cast, cast_eq]
    all_goals clean_types
    all_goals rfl
  rw [h]
  have hr := V10_row m c d b k q
  generalize V10 m c (Proc.devRef .tc main_v34) = X at hr
  pointwise
  refine (hr _).trans (congrArg (xa m c b (row d k q)) (Fin.ext ?_))
  simp only; omega

theorem V10_v19 (c : Dev nD) : V10 m c (Proc.devRef .tc main_v19) = V6 m c (Proc.devRef .tc main_v19) := by
  unfold V10
  generalize V6 m c = V
  after_reads_simp
  all_goals try simp -implicitDefEqProofs only [StableHlo.TRef.toBuf, StableHlo.TRef.ofBuf, cast_cast, cast_eq]
  all_goals clean_types
  all_goals rfl

theorem V10_v42 (c : Dev nD) (d b : Fin 2) (k : Fin 66) (q : Fin 128) (g : Fin 4) (e : Fin 8) :
    (V10 m c (Proc.devRef .tc main_v42) (ix6 d b k q g e) : EReal) = drop (dtc m c) (bias m c) (alog m c) d b k q (headAt g e) := by
  unfold drop
  rw [← V6_v19, zero_sub, ← V1_v2, ← V6_v2]
  unfold V10
  generalize V6 m c = V
  after_reads_at

end Cert.Reference12Ideal.Scan
-- ==== Proof.Scan.Running.lean ====
module
public import proofs.«01_k».proof.Proof.Gen.Reference12Ideal.Run
public import Idealize.ShloMosaic.Lib.Pointwise
@[expose] public section

/-! # A running sum along a chunk's rows -/

noncomputable section
open Idealize.ShloMosaic Idealize.ShloMosaic.TcCoe Idealize.SL.Sem
namespace Cert.Reference12Ideal.Scan
open Cert.Reference12Ideal Cert.Reference12Ideal.Gen

/-- Adding a list's terms one by one adds their sum. -/
theorem foldl_add {α : Type} (f : α → EReal) (l : List α) (a : EReal) : l.foldl (fun r n => r + f n) a = a + (l.map f).sum := by
  induction l generalizing a with
  | nil => simp
  | cons x l ih => rw [List.foldl_cons, ih, List.map_cons, List.sum_cons, add_assoc]

/-- The window: 128 places of the rows' axis. -/
abbrev win : Shape := ⟨6, ![1, 1, 1, 128, 1, 1]⟩

def places : win.Idx ≃ Fin 128 where
  toFun i := i 3
  invFun k := ix6 (0 : Fin 1) (0 : Fin 1) (0 : Fin 1) k (0 : Fin 1) (0 : Fin 1)
  left_inv i := by
    funext a
    fin_cases a
    · exact Subsingleton.elim (α := Fin 1) _ _
    · exact Subsingleton.elim (α := Fin 1) _ _
    · exact Subsingleton.elim (α := Fin 1) _ _
    · rfl
    · exact Subsingleton.elim (α := Fin 1) _ _
    · exact Subsingleton.elim (α := Fin 1) _ _
  right_inv k := rfl

/-- The window's places that are not padding are the rows up to the last. -/
theorem sum_places (F : Fin 128 → EReal) (q : Fin 128) :
    (∑ j : Fin 128, if h : 127 ≤ q.val + j.val then F ⟨q.val + j.val - 127, by omega⟩ else 0) = ∑ x, if x ≤ q then F x else 0 := by
  rw [← Finset.sum_filter]
  have e : ∀ j : Fin 128, (if h : 127 ≤ q.val + j.val then F ⟨q.val + j.val - 127, by omega⟩ else 0)
      = if 127 ≤ q.val + j.val then F ⟨q.val + j.val - 127, by omega⟩ else 0 := fun j => by
    by_cases h : 127 ≤ q.val + j.val
    · rw [dif_pos h, if_pos h]
    · rw [dif_neg h, if_neg h]
  rw [Finset.sum_congr rfl fun j _ => e j, ← Finset.sum_filter]
  refine Finset.sum_bij' (fun j _ => ⟨q.val + j.val - 127, by omega⟩) (fun x hx => ⟨(127 - q.val + x.val) % 128, by omega⟩) ?_ ?_ ?_ ?_ ?_
  · intro j hj
    simp only [Finset.mem_filter, Finset.mem_univ, true_and, Fin.le_def] at hj ⊢; omega
  · intro x hx
    simp only [Finset.mem_filter, Finset.mem_univ, true_and, Fin.le_def] at hx ⊢; omega
  · intro j hj
    simp only [Finset.mem_filter, Finset.mem_univ, true_and] at hj
    refine Fin.ext ?_; simp only; omega
  · intro x hx
    simp only [Finset.mem_filter, Finset.mem_univ, true_and, Fin.le_def] at hx
    refine Fin.ext ?_; simp only; omega
  · intro j hj; rfl

/-- One place of the window, in bounds exactly when it is a row. -/
theorem cell (X : FVec Ideal S2x2x66x128x4x8 .f32) (d b : Fin 2) (k : Fin 66) (q : Fin 128) (g : Fin 4) (e : Fin 8) (i : win.Idx)
    (p : Fin 6 → Nat) (hp : p = fun a => (ix6 d b k q g e a).val * (![1, 1, 1, 1, 1, 1] : Fin 6 → Nat) a + (i a).val)
    (dec : Decidable (∀ a : Fin 6, (![0, 0, 0, 127, 0, 0] : Fin 6 → Nat) a ≤ p a ∧ p a - (![0, 0, 0, 127, 0, 0] : Fin 6 → Nat) a < S2x2x66x128x4x8.size a)) :
    (if hin : ∀ a : Fin 6, (![0, 0, 0, 127, 0, 0] : Fin 6 → Nat) a ≤ p a ∧ p a - (![0, 0, 0, 127, 0, 0] : Fin 6 → Nat) a < S2x2x66x128x4x8.size a then
        X (fun a => ⟨p a - (![0, 0, 0, 127, 0, 0] : Fin 6 → Nat) a, (hin a).2⟩) else (0 : EReal))
      = if h : 127 ≤ q.val + (places i).val then X (ix6 d b k ⟨q.val + (places i).val - 127, by omega⟩ g e) else 0 := by
  have z0 : (i 0).val = 0 := Nat.lt_one_iff.mp (i 0).isLt
  have z1 : (i 1).val = 0 := Nat.lt_one_iff.mp (i 1).isLt
  have z2 : (i 2).val = 0 := Nat.lt_one_iff.mp (i 2).isLt
  have z4 : (i 4).val = 0 := Nat.lt_one_iff.mp (i 4).isLt
  have z5 : (i 5).val = 0 := Nat.lt_one_iff.mp (i 5).isLt
  have p0 : p 0 = d.val := by rw [hp]; show d.val * 1 + (i 0).val = _; omega
  have p1 : p 1 = b.val := by rw [hp]; show b.val * 1 + (i 1).val = _; omega
  have p2 : p 2 = k.val := by rw [hp]; show k.val * 1 + (i 2).val = _; omega
  have p3 : p 3 = q.val + (places i).val := by rw [hp]; show q.val * 1 + (i 3).val = q.val + (i 3).val; omega
  have p4 : p 4 = g.val := by rw [hp]; show g.val * 1 + (i 4).val = _; omega
  have p5 : p 5 = e.val := by rw [hp]; show e.val * 1 + (i 5).val = _; omega
  by_cases h : 127 ≤ q.val + (places i).val
  · have hin : ∀ a : Fin 6, (![0, 0, 0, 127, 0, 0] : Fin 6 → Nat) a ≤ p a ∧ p a - (![0, 0, 0, 127, 0, 0] : Fin 6 → Nat) a < S2x2x66x128x4x8.size a := by
      intro a
      fin_cases a
      · show 0 ≤ p 0 ∧ p 0 - 0 < 2; omega
      · show 0 ≤ p 1 ∧ p 1 - 0 < 2; omega
      · show 0 ≤ p 2 ∧ p 2 - 0 < 66; omega
      · show 127 ≤ p 3 ∧ p 3 - 127 < 128; omega
      · show 0 ≤ p 4 ∧ p 4 - 0 < 4; omega
      · show 0 ≤ p 5 ∧ p 5 - 0 < 8; omega
    rw [dif_pos hin, dif_pos h]
    refine congrArg X (funext fun a => Fin.ext ?_)
    fin_cases a
    · show p 0 - 0 = d.val; omega
    · show p 1 - 0 = b.val; omega
    · show p 2 - 0 = k.val; omega
    · show p 3 - 127 = q.val + (places i).val - 127; omega
    · show p 4 - 0 = g.val; omega
    · show p 5 - 0 = e.val; omega
  · have hin : ¬ ∀ a : Fin 6, (![0, 0, 0, 127, 0, 0] : Fin 6 → Nat) a ≤ p a ∧ p a - (![0, 0, 0, 127, 0, 0] : Fin 6 → Nat) a < S2x2x66x128x4x8.size a := by
      intro hall
      have : 127 ≤ p 3 := (hall 3).1
      omega
    rw [dif_neg hin, dif_neg h]

theorem running (X : FVec Ideal S2x2x66x128x4x8 .f32) (init : FVec Ideal S_ .f32) (hu : 0 < S_.numel) (hi : init (Shape.Idx.first hu) = (0 : EReal))
    (hw : S2x2x66x128x4x8.ReduceWindows (![1, 1, 1, 128, 1, 1] : Fin 6 → Nat) ![1, 1, 1, 1, 1, 1] ![0, 0, 0, 127, 0, 0] ![0, 0, 0, 0, 0, 0] S2x2x66x128x4x8)
    (d b : Fin 2) (k : Fin 66) (q : Fin 128) (g : Fin 4) (e : Fin 8) :
    (Host.reduceWindowAdd ![1, 1, 1, 128, 1, 1] ![1, 1, 1, 1, 1, 1] ![0, 0, 0, 127, 0, 0] ![0, 0, 0, 0, 0, 0] X init hw hu (ix6 d b k q g e) : EReal)
      = ∑ x, if x ≤ q then X (ix6 d b k x g e) else 0 := by
  have e1 : (Host.reduceWindowAdd ![1, 1, 1, 128, 1, 1] ![1, 1, 1, 1, 1, 1] ![0, 0, 0, 127, 0, 0] ![0, 0, 0, 0, 0, 0] X init hw hu (ix6 d b k q g e) : EReal)
    = (List.finRange win.numel).foldl (fun r n => r + (fun i : win.Idx => if h : 127 ≤ q.val + (places i).val then X (ix6 d b k ⟨q.val + (places i).val - 127, by omega⟩ g e) else 0) (win.rowMajor.symm n)) 0 := by
    show Host.reduceWindow (s := S2x2x66x128x4x8) (t := S2x2x66x128x4x8) (u := S_) (fun a b : EReal => a + b) _ _ _ _ X init hw hu _ = _
    unfold Host.reduceWindow
    dsimp only
    rw [hi]
    refine congrArg (fun f => List.foldl f (0 : EReal) (List.finRange win.numel)) (funext fun r => funext fun n => ?_)
    refine congrArg (r + ·) ?_
    exact cell X d b k q g e (win.rowMajor.symm n) _ rfl _
  rw [e1, foldl_add, zero_add, ← List.ofFn_eq_map, List.sum_ofFn, Equiv.sum_comp win.rowMajor.symm
    (fun i : win.Idx => if h : 127 ≤ q.val + (places i).val then X (ix6 d b k ⟨q.val + (places i).val - 127, by omega⟩ g e) else (0 : EReal))]
  rw [Equiv.sum_comp places (fun j : Fin 128 => if h : 127 ≤ q.val + j.val then X (ix6 d b k ⟨q.val + j.val - 127, by omega⟩ g e) else (0 : EReal))]
  exact sum_places (fun x => X (ix6 d b k x g e)) q

end Cert.Reference12Ideal.Scan
-- ==== Proof.Scan.Entry.lean ====
module
public import proofs.«01_k».proof.Proof.Scan.Rows
public import proofs.«01_k».proof.Proof.Scan.Running
@[expose] public section
set_option maxRecDepth 16384

/-! # The scan's reference at its loop's entry -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value Cert.Scan

variable (m : (ℓ : Loc nD τ sig) → Buf (Elt Ideal) ℓ)

/-- The contents after the running sums. -/
def V11 (c : Dev nD) : Valuation τ sig (Elt Ideal) := after hostOps0_11 (V10 m c)

theorem V11_v43 (c : Dev nD) (d b : Fin 2) (k : Fin 66) (q : Fin 128) (g : Fin 4) (e : Fin 8) :
    (V11 m c (Proc.devRef .tc main_v43) (ix6 d b k q g e) : EReal) = cum (dtc m c) (bias m c) (alog m c) d b k q (headAt g e) := by
  unfold cum
  simp only [← V10_v42]
  unfold V11
  generalize V10 m c = V
  after_reads_simp
  all_goals try simp -implicitDefEqProofs only [StableHlo.TRef.toBuf, StableHlo.TRef.ofBuf, cast_cast, cast_eq]
  all_goals clean_types
  refine running _ _ _ ?_ _ d b k q g e
  pointwise

theorem V11_v19 (c : Dev nD) : V11 m c (Proc.devRef .tc main_v19) = V10 m c (Proc.devRef .tc main_v19) :=
  after_of_writes_sub hostOps0_11 _ hostOps0_11_writes (by decide +kernel)
theorem V11_v36 (c : Dev nD) : V11 m c (Proc.devRef .tc main_v36) = V10 m c (Proc.devRef .tc main_v36) :=
  after_of_writes_sub hostOps0_11 _ hostOps0_11_writes (by decide +kernel)
theorem V11_v38 (c : Dev nD) : V11 m c (Proc.devRef .tc main_v38) = V10 m c (Proc.devRef .tc main_v38) :=
  after_of_writes_sub hostOps0_11 _ hostOps0_11_writes (by decide +kernel)
theorem V11_v40 (c : Dev nD) : V11 m c (Proc.devRef .tc main_v40) = V10 m c (Proc.devRef .tc main_v40) :=
  after_of_writes_sub hostOps0_11 _ hostOps0_11_writes (by decide +kernel)

theorem V11_step (c : Dev nD) (d b : Fin 2) (k : Fin 66) (q : Fin 128) (g : Fin 4) (e : Fin 8) :
    (V11 m c (Proc.devRef .tc main_v19) (ix6 d b k q g e) : EReal) = step (dtc m c) (bias m c) d b k q (headAt g e) := by
  rw [V11_v19, V10_v19]; exact V6_v19 m c d b k q g e
theorem V11_x (c : Dev nD) (d b : Fin 2) (k : Fin 66) (q : Fin 128) (g : Fin 4) (e : Fin 8) (f : Fin 64) :
    (V11 m c (Proc.devRef .tc main_v36) (ix7 d b k q g e f) : EReal) = xa m c b (row d k q) (chan (headAt g e) f) := by
  rw [V11_v36]; exact V10_v36 m c d b k q g e f
theorem V11_b (c : Dev nD) (d b : Fin 2) (k : Fin 66) (q : Fin 128) (g : Fin 4) (e : Fin 8) (n : Fin 128) :
    (V11 m c (Proc.devRef .tc main_v38) (ix6 d b k q g n) : EReal) = xa m c b (row d k q) (colB (headAt g e) n) := by
  rw [V11_v38]; exact V10_v38 m c d b k q g e n
theorem V11_c (c : Dev nD) (d b : Fin 2) (k : Fin 66) (q : Fin 128) (g : Fin 4) (e : Fin 8) (n : Fin 128) :
    (V11 m c (Proc.devRef .tc main_v40) (ix6 d b k q g n) : EReal) = xa m c b (row d k q) (colC (headAt g e) n) := by
  rw [V11_v40]; exact V10_v40 m c d b k q g e n

/-- The contents at the loop's entry. -/
def V12 (c : Dev nD) : Valuation τ sig (Elt Ideal) := after hostOps0_12 (V11 m c)

theorem V12_v43 (c : Dev nD) : V12 m c (Proc.devRef .tc main_v43) = V11 m c (Proc.devRef .tc main_v43) :=
  after_of_writes_sub hostOps0_12 _ hostOps0_12_writes (by decide +kernel)
theorem V12_v19 (c : Dev nD) : V12 m c (Proc.devRef .tc main_v19) = V11 m c (Proc.devRef .tc main_v19) :=
  after_of_writes_sub hostOps0_12 _ hostOps0_12_writes (by decide +kernel)
theorem V12_v36 (c : Dev nD) : V12 m c (Proc.devRef .tc main_v36) = V11 m c (Proc.devRef .tc main_v36) :=
  after_of_writes_sub hostOps0_12 _ hostOps0_12_writes (by decide +kernel)
theorem V12_v38 (c : Dev nD) : V12 m c (Proc.devRef .tc main_v38) = V11 m c (Proc.devRef .tc main_v38) :=
  after_of_writes_sub hostOps0_12 _ hostOps0_12_writes (by decide +kernel)
theorem V12_v40 (c : Dev nD) : V12 m c (Proc.devRef .tc main_v40) = V11 m c (Proc.devRef .tc main_v40) :=
  after_of_writes_sub hostOps0_12 _ hostOps0_12_writes (by decide +kernel)

theorem tot_eq (c : Dev nD) (d b : Fin 2) (k : Fin 66) (g : Fin 4) (e : Fin 8) :
    tot (dtc m c) (bias m c) (alog m c) d b k (headAt g e) = (V11 m c (Proc.devRef .tc main_v43) (ix6 d b k (127 : Fin 128) g e) : EReal) := by
  rw [V11_v43]
  unfold tot cum
  refine Finset.sum_congr rfl fun x _ => ?_
  rw [if_pos (Fin.le_def.2 (by show x.val ≤ 127; omega))]

/-- The factor the state fades by, at the loop's entry. -/
theorem V12_fade (c : Dev nD) (d b : Fin 2) (k : Fin 66) (g : Fin 4) (e : Fin 8) :
    (V12 m c (Proc.devRef .tc main_v60_1) (ix5 k d b g e) : EReal) = Ideal.exp (tot (dtc m c) (bias m c) (alog m c) d b k (headAt g e)) := by
  rw [tot_eq]
  unfold V12
  generalize V11 m c = V
  after_reads_at
  simp only [id_eq]
  pointwise

theorem V12_zero (c : Dev nD) (d b : Fin 2) (g : Fin 4) (e : Fin 8) (f : Fin 64) (n : Fin 128) :
    V12 m c (Proc.devRef .tc main_v60_3) (ix6 d b g e f n) = (0 : EReal) := by
  unfold V12
  generalize V11 m c = V
  after_reads_at
  simp only [id_eq]
  pointwise

theorem entry_eq (c : Dev nD) : entryContents preI m c = V12 m c := by
  simp only [entryContents, afterL_cons, afterL_nil]
  rfl

end Cert.Reference12Ideal.Scan
-- ==== Proof.Scan.GainA.lean ====
module
public import proofs.«01_k».proof.Proof.Gen.Reference12Ideal.Run
public import Idealize.ShloMosaic.Lib.Pointwise
@[expose] public section
set_option maxRecDepth 16384

/-! # What a chunk adds to the state, at the loop's entry -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

/-- The product of a chunk's weighed channels with its mixing vectors, at an index. -/
theorem gain_product (A : FVec Ideal S2x2x66x128x4x8x64 .f32) (B : FVec Ideal S2x2x66x128x4x128 .f32)
    (d b : Fin 2) (k : Fin 66) (g : Fin 4) (e : Fin 8) (f : Fin 64) (n : Fin 128) :
    Host.dotGeneral dot_S2x2x66x128x4x8x64_S2x2x66x128x4x128_S2x2x66x4x8x64x128_3_3_56_5_0124_0124 none A B (ix7 d b k g e f n)
      = (∑ x, A (ix7 d b k x g e f) * B (ix6 d b k x g n) : EReal) := by
  pointwise

end Cert.Reference12Ideal.Scan
-- ==== Proof.Scan.GainB.lean ====
module
public import proofs.«01_k».proof.Proof.Gen.Reference12Ideal.Run
public import Idealize.ShloMosaic.Lib.Pointwise
@[expose] public section
set_option maxRecDepth 16384

/-! # What a chunk adds to the state, at the loop's entry -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

/-- The channels times their steps and their fading to the chunk's end. -/
def weigh (V36 : FVec Ideal S2x2x66x128x4x8x64 .f32) (V43 V19 : FVec Ideal S2x2x66x128x4x8 .f32) : FVec Ideal S2x2x66x128x4x8x64 .f32 :=
  mulf V36 (broadcastInDim S2x2x66x128x4x8x64 ![0, 1, 2, 3, 4, 5, 6] bcast_S2x2x66x128x4x8x1_S2x2x66x128x4x8x64_0_1_2_3_4_5_6
    (broadcastInDim S2x2x66x128x4x8x1 ![0, 1, 2, 3, 4, 5] bcast_S2x2x66x128x4x8_S2x2x66x128x4x8x1_0_1_2_3_4_5
      (mulf (Host.exp (subf (broadcastInDim S2x2x66x128x4x8 ![0, 1, 2, 3, 4, 5] bcast_S2x2x66x1x4x8_S2x2x66x128x4x8_0_1_2_3_4_5
        (broadcastInDim S2x2x66x1x4x8 ![0, 1, 2, 4, 5] bcast_S2x2x66x4x8_S2x2x66x1x4x8_0_1_2_4_5
          (shapeCast S2x2x66x4x8 (extractStridedSlice S2x2x66x1x4x8 ![0, 0, 0, 127, 0, 0] V43 slices_S2x2x66x128x4x8_S2x2x66x1x4x8_0_0_0_127_0_0) shapeCasts_S2x2x66x1x4x8_S2x2x66x4x8))) V43)) V19)))

/-- The weighed channels, at an index. -/
theorem weighed (V36 : FVec Ideal S2x2x66x128x4x8x64 .f32) (V43 V19 : FVec Ideal S2x2x66x128x4x8 .f32)
    (d b : Fin 2) (k : Fin 66) (x : Fin 128) (g : Fin 4) (e : Fin 8) (f : Fin 64) :
    weigh V36 V43 V19 (ix7 d b k x g e f) = (V36 (ix7 d b k x g e f) * (Ideal.exp (V43 (ix6 d b k (127 : Fin 128) g e) - V43 (ix6 d b k x g e)) * V19 (ix6 d b k x g e)) : EReal) := by
  unfold weigh
  pointwise

theorem gain_order (X : FVec Ideal S2x2x66x4x8x64x128 .f32)
    (d b : Fin 2) (k : Fin 66) (g : Fin 4) (e : Fin 8) (f : Fin 64) (n : Fin 128) :
    transpose S66x2x2x4x8x64x128 [2, 0, 1, 3, 4, 5, 6] X transposes_S2x2x66x4x8x64x128_S66x2x2x4x8x64x128_2_0_1_3_4_5_6 (ix7 k d b g e f n) = X (ix7 d b k g e f n) := by
  pointwise

end Cert.Reference12Ideal.Scan
-- ==== Proof.Scan.Gain.lean ====
module
public import proofs.«01_k».proof.Proof.Scan.Entry
public import proofs.«01_k».proof.Proof.Scan.GainA
public import proofs.«01_k».proof.Proof.Scan.GainB
public import Idealize.ShloMosaic.Lib.StableHlo.ReadAt
@[expose] public section
set_option maxRecDepth 16384

/-! # What a chunk adds to the state, at the loop's entry -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value Cert.Scan

variable (m : (ℓ : Loc nD τ sig) → Buf (Elt Ideal) ℓ)

theorem V12_v60_0 (c : Dev nD) : V12 m c (Proc.devRef .tc main_v60_0)
    = transpose S66x2x2x4x8x64x128 [2, 0, 1, 3, 4, 5, 6] (Host.dotGeneral (F := Ideal) (φ₁ := .f32) (φ₂ := .f32) dot_S2x2x66x128x4x8x64_S2x2x66x128x4x128_S2x2x66x4x8x64x128_3_3_56_5_0124_0124 none
        (weigh (V11 m c (Proc.devRef .tc main_v36)) (V11 m c (Proc.devRef .tc main_v43)) (V11 m c (Proc.devRef .tc main_v19))) (V11 m c (Proc.devRef .tc main_v38)))
      transposes_S2x2x66x4x8x64x128_S66x2x2x4x8x64x128_2_0_1_3_4_5_6 := by
  unfold V12
  generalize V11 m c = V
  after_reads_simp
  all_goals try simp -implicitDefEqProofs only [StableHlo.TRef.toBuf, StableHlo.TRef.ofBuf, cast_cast, cast_eq]
  all_goals clean_types
  all_goals rfl

/-- What a chunk adds, at the loop's entry. -/
theorem V12_gain (c : Dev nD) (d b : Fin 2) (k : Fin 66) (g : Fin 4) (e : Fin 8) (f : Fin 64) (n : Fin 128) :
    V12 m c (Proc.devRef .tc main_v60_0) (ix7 k d b g e f n) = (gain (xa m c) (dtc m c) (bias m c) (alog m c) d b k (headAt g e) f n : EReal) := by
  rw [V12_v60_0]
  refine (gain_order _ d b k g e f n).trans ((gain_product _ _ d b k g e f n).trans ?_)
  unfold gain
  refine congrArg (fun F : Fin 128 → EReal => ∑ x, F x) (funext fun x => ?_)
  rw [weighed, tot_eq, ← V11_v43, ← V11_step, ← V11_x m c d b k x g e f, ← V11_b m c d b k x g e, mul_comm]

end Cert.Reference12Ideal.Scan
-- ==== Proof.Scan.Loop.lean ====
module
public import proofs.«01_k».proof.Proof.Gen.Reference12Ideal.Run
public import Idealize.ShloMosaic.Lib.Pointwise
public import Idealize.ShloMosaic.Lib.DynamicIndex
public import Idealize.ShloMosaic.Lib.WordCmp
@[expose] public section
set_option maxRecDepth 16384

/-! # One trip of the reference's loop over the chunks -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

theorem iv_int {k : ℕ} (hk : k < 66) : (Scf.iv 0#32 1#32 k).toInt = (k : Int) := by
  rw [Scf.toInt_iv (lb := 0#32) (ub := 66#32) (st := 1#32) (by decide) (show k ≤ Scf.trips 0#32 66#32 1#32 from hk.le)]
  simp

variable (V : Valuation τ sig (Elt Ideal)) (k : ℕ) (hk : k < 66) (hc : V (Proc.devRef .tc main_v60_2) = fun _ => Scf.iv 0#32 1#32 k)

include hc hk in
/-- The carried state after a trip: it fades, and the chunk's gain comes in. -/
theorem trip_state (X3 : FVec Ideal S2x2x4x8x64x128 .f32) (X1 : FVec Ideal S66x2x2x4x8 .f32) (X0 : FVec Ideal S66x2x2x4x8x64x128 .f32)
    (h3 : V (Proc.devRef .tc main_v60_3) = X3) (h1 : V (Proc.devRef .tc main_v60_1) = X1) (h0 : V (Proc.devRef .tc main_v60_0) = X0)
    (d b : Fin 2) (g : Fin 4) (e : Fin 8) (f : Fin 64) (n : Fin 128) :
    step_main_v60_3 V (ix6 d b g e f n)
      = (X3 (ix6 d b g e f n) * X1 (ix5 (⟨k, hk⟩ : Fin 66) d b g e) + X0 (ix7 (⟨k, hk⟩ : Fin 66) d b g e f n) : EReal) := by
  have h5 : S66x2x2x4x8.Slices (![k, 0, 0, 0, 0] : Fin 5 → Nat) S1x2x2x4x8 :=
    ⟨rfl, fun a => by fin_cases a <;> simp [S66x2x2x4x8, S1x2x2x4x8] <;> omega⟩
  have h7 : S66x2x2x4x8x64x128.Slices (![k, 0, 0, 0, 0, 0, 0] : Fin 7 → Nat) S1x2x2x4x8x64x128 :=
    ⟨rfl, fun a => by fin_cases a <;> simp [S66x2x2x4x8x64x128, S1x2x2x4x8x64x128] <;> omega⟩
  unfold step_main_v60_3
  rw [hc, h3, h1, h0]
  rw [Host.dynamicSlice_eq_extractStridedSlice S1x2x2x4x8 _ _ ![k, 0, 0, 0, 0] _ h5 (fun a => by
    fin_cases a
    · exact iv_int hk
    all_goals rfl)]
  rw [Host.dynamicSlice_eq_extractStridedSlice S1x2x2x4x8x64x128 _ _ ![k, 0, 0, 0, 0, 0, 0] _ h7 (fun a => by
    fin_cases a
    · exact iv_int hk
    all_goals rfl)]
  simp only [id_eq]
  pointwise

include hc hk in
/-- The record after a trip: the state before it goes to the chunk's place. -/
theorem trip_record (j : Fin 66) (d b : Fin 2) (g : Fin 4) (e : Fin 8) (f : Fin 64) (n : Fin 128) :
    (step_main_v60_4 V (ix7 j d b g e f n) : EReal)
      = if j.val = k then (V (Proc.devRef .tc main_v60_3) (ix6 d b g e f n) : EReal) else (V (Proc.devRef .tc main_v60_4) (ix7 j d b g e f n) : EReal) := by
  have h7 : S66x2x2x4x8x64x128.Slices (![k, 0, 0, 0, 0, 0, 0] : Fin 7 → Nat) S1x2x2x4x8x64x128 :=
    ⟨rfl, fun a => by fin_cases a <;> simp [S66x2x2x4x8x64x128, S1x2x2x4x8x64x128] <;> omega⟩
  unfold step_main_v60_4
  rw [hc]
  rw [WordCmp.dynamicUpdateSlice_eq_update _ _ _ _ ![k, 0, 0, 0, 0, 0, 0] h7 (fun a => by
    fin_cases a
    · exact iv_int hk
    all_goals rfl)]
  generalize V (Proc.devRef .tc main_v60_3) = X3
  generalize V (Proc.devRef .tc main_v60_4) = X4
  show (updateSlice X4 _ _ h7 (ix7 j d b g e f n) : EReal) = _
  unfold updateSlice
  by_cases hj : j.val = k
  · rw [if_pos hj]
    refine (dif_pos (fun a => ?_)).trans ?_
    · fin_cases a
      · show k ≤ j.val ∧ j.val < k + 1; omega
      · show 0 ≤ d.val ∧ d.val < 0 + 2; omega
      · show 0 ≤ b.val ∧ b.val < 0 + 2; omega
      · show 0 ≤ g.val ∧ g.val < 0 + 4; omega
      · show 0 ≤ e.val ∧ e.val < 0 + 8; omega
      · show 0 ≤ f.val ∧ f.val < 0 + 64; omega
      · show 0 ≤ n.val ∧ n.val < 0 + 128; omega
    · show (X3 _ : EReal) = X3 _
      refine congrArg X3 (funext fun a => ?_)
      fin_cases a <;> rfl
  · rw [if_neg hj]
    refine dif_neg (fun hall => ?_)
    have := (hall 0)
    have h0 : k ≤ j.val ∧ j.val < k + 1 := this
    omega

end Cert.Reference12Ideal.Scan
-- ==== Proof.Scan.Trips.lean ====
module
public import proofs.«01_k».proof.Proof.Scan.Gain
public import proofs.«01_k».proof.Proof.Scan.Loop
@[expose] public section
set_option maxRecDepth 16384

/-! # The reference's loop: the state before each chunk is on record -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value Cert.Scan

variable (m : (ℓ : Loc nD τ sig) → Buf (Elt Ideal) ℓ)

/-- The state before chunk `k`. -/
abbrev st (c : Dev nD) (k : ℕ) (d b : Fin 2) (g : Fin 4) (e : Fin 8) (f : Fin 64) (n : Fin 128) : EReal :=
  state (xa m c) (dtc m c) (bias m c) (alog m c) d b (headAt g e) f n k

/-- After `k` trips: the chunks' factors and gains are as at the entry, the carried state is the one before chunk `k`, and the
    record holds the state before each chunk so far. -/
structure After (c : Dev nD) (k : ℕ) (V : Valuation τ sig (Elt Ideal)) : Prop where
  gains : V (Proc.devRef .tc main_v60_0) = V12 m c (Proc.devRef .tc main_v60_0)
  fades : V (Proc.devRef .tc main_v60_1) = V12 m c (Proc.devRef .tc main_v60_1)
  carried : ∀ d b g e f n, V (Proc.devRef .tc main_v60_3) (ix6 d b g e f n) = (st m c k d b g e f n : EReal)
  record : ∀ j : Fin 66, j.val < k → ∀ d b g e f n, V (Proc.devRef .tc main_v60_4) (ix7 j d b g e f n) = (st m c j d b g e f n : EReal)

theorem after_trips (c : Dev nD) : ∀ k, k ≤ 66 → After m c k (atK m k c)
  | 0, _ => by
    rw [show atK m 0 c = V12 m c from entry_eq m c]
    refine ⟨rfl, rfl, fun d b g e f n => ?_, fun j hj => absurd hj (Nat.not_lt_zero _)⟩
    exact V12_zero m c d b g e f n
  | k + 1, hk => by
    have hk' : k < 66 := hk
    have ih := after_trips c k hk'.le
    have hc := atK_ctr m c k
    have ha := trip_agree (atK m k c)
    rw [show atK m (k + 1) c = afterL bodyI (after condOps (atK m k c)) from rfl]
    refine ⟨?_, ?_, fun d b g e f n => ?_, fun j hj d b g e f n => ?_⟩
    · rw [ha main_v60_0 (by decide), STEP_main_v60_0]; exact ih.gains
    · rw [ha main_v60_1 (by decide), STEP_main_v60_1]; exact ih.fades
    · rw [ha main_v60_3 (by decide), STEP_main_v60_3]
      refine (trip_state (atK m k c) k hk' hc _ _ _ rfl rfl rfl d b g e f n).trans ?_
      show _ = state (xa m c) (dtc m c) (bias m c) (alog m c) d b (headAt g e) f n (k + 1)
      rw [state_succ _ _ _ _ _ _ _ _ _ k hk']
      refine congrArg₂ (fun x y : EReal => x + y) (congrArg₂ (fun x y : EReal => x * y) (ih.carried d b g e f n) ?_) ?_
      · rw [ih.fades]; exact V12_fade m c d b ⟨k, hk'⟩ g e
      · rw [ih.gains]; exact V12_gain m c d b ⟨k, hk'⟩ g e f n
    · rw [ha main_v60_4 (by decide), STEP_main_v60_4]
      refine (trip_record (atK m k c) k hk' hc j d b g e f n).trans ?_
      by_cases hjk : j.val = k
      · rw [if_pos hjk]
        refine (ih.carried d b g e f n).trans ?_
        rw [hjk]
      · rw [if_neg hjk]
        exact ih.record j (by omega) d b g e f n

/-- The buffers the loop does not write are as at its entry. -/
theorem kept (c : Dev nD) (r : Ref sig .tc)
    (hc : ∀ V : Valuation τ sig (Elt Ideal), after condOps V (Proc.devRef .tc r) = V (Proc.devRef .tc r))
    (hb : ∀ V : Valuation τ sig (Elt Ideal), afterL bodyI V (Proc.devRef .tc r) = V (Proc.devRef .tc r)) (k : ℕ) :
    atK m k c (Proc.devRef .tc r) = V12 m c (Proc.devRef .tc r) := by
  induction k with
  | zero => rw [show atK m 0 c = V12 m c from entry_eq m c]
  | succ k ih =>
    rw [show atK m (k + 1) c = afterL bodyI (after condOps (atK m k c)) from rfl, hb, hc, ih]

end Cert.Reference12Ideal.Scan
-- ==== Proof.Scan.PostA.lean ====
module
public import proofs.«01_k».proof.Proof.Gen.Reference12Ideal.Run
public import Idealize.ShloMosaic.Lib.Pointwise
@[expose] public section
set_option maxRecDepth 16384

/-! # The products after the reference's loop: the mixing vectors with one another -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

/-- The two mixing vectors' products, each row of the chunk with each. -/
theorem mix_product (L R : FVec Ideal S2x2x66x128x4x128 .f32) (d b : Fin 2) (k : Fin 66) (g : Fin 4) (x q : Fin 128) :
    Host.dotGeneral (F := Ideal) (φ₁ := .f32) (φ₂ := .f32) dot_S2x2x66x128x4x128_S2x2x66x128x4x128_S2x2x66x4x128x128_5_5_3_3_0124_0124 none L R (ix6 d b k g x q)
      = (∑ n, L (ix6 d b k x g n) * R (ix6 d b k q g n) : EReal) := by
  pointwise

theorem mix_order (X : FVec Ideal S2x2x66x4x128x128 .f32) (d b : Fin 2) (k : Fin 66) (g : Fin 4) (x q : Fin 128) :
    transpose S2x2x66x128x128x4 [0, 1, 2, 5, 4, 3] X transposes_S2x2x66x4x128x128_S2x2x66x128x128x4_0_1_2_5_4_3 (ix6 d b k q x g) = X (ix6 d b k g x q) := by
  pointwise

end Cert.Reference12Ideal.Scan
-- ==== Proof.Scan.PostB.lean ====
module
public import proofs.«01_k».proof.Proof.Gen.Reference12Ideal.Run
public import Idealize.ShloMosaic.Lib.Pointwise
@[expose] public section
set_option maxRecDepth 16384

/-! # The products after the reference's loop: the weighed rows -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

/-- The sum over the chunk's rows. -/
theorem rows_product (A : FVec Ideal S2x2x66x128x4x8x64 .f32) (M : FVec Ideal S2x2x66x128x128x4x8 .f32)
    (d b : Fin 2) (k : Fin 66) (g : Fin 4) (e : Fin 8) (f : Fin 64) (q : Fin 128) :
    Host.dotGeneral (F := Ideal) (φ₁ := .f32) (φ₂ := .f32) dot_S2x2x66x128x4x8x64_S2x2x66x128x128x4x8_S2x2x66x4x8x64x128_3_4_6_3_01245_01256 none A M (ix7 d b k g e f q)
      = (∑ x, A (ix7 d b k x g e f) * M (ix7 d b k q x g e) : EReal) := by
  pointwise

end Cert.Reference12Ideal.Scan
-- ==== Proof.Scan.PostC.lean ====
module
public import proofs.«01_k».proof.Proof.Gen.Reference12Ideal.Run
public import Idealize.ShloMosaic.Lib.Pointwise
@[expose] public section
set_option maxRecDepth 16384

/-! # The products after the reference's loop: the state -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

/-- The state seen through a row's mixing vector. -/
theorem state_product (S : FVec Ideal S2x2x66x4x8x64x128 .f32) (C : FVec Ideal S2x2x66x128x4x128 .f32)
    (d b : Fin 2) (k : Fin 66) (g : Fin 4) (e : Fin 8) (f : Fin 64) (q : Fin 128) :
    Host.dotGeneral (F := Ideal) (φ₁ := .f32) (φ₂ := .f32) dot_S2x2x66x4x8x64x128_S2x2x66x128x4x128_S2x2x66x4x8x64x128_6_5_45_3_0123_0124 none S C (ix7 d b k g e f q)
      = (∑ n, S (ix7 d b k g e f n) * C (ix6 d b k q g n) : EReal) := by
  pointwise

/-- The rows' axis in its place. -/
theorem rows_order (X : FVec Ideal S2x2x66x4x8x64x128 .f32)
    (d b : Fin 2) (k : Fin 66) (g : Fin 4) (e : Fin 8) (f : Fin 64) (q : Fin 128) :
    transpose S2x2x66x128x4x8x64 [0, 1, 2, 6, 3, 4, 5] X transposes_S2x2x66x4x8x64x128_S2x2x66x128x4x8x64_0_1_2_6_3_4_5 (ix7 d b k q g e f) = X (ix7 d b k g e f q) := by
  pointwise

/-- The record with the chunks' axis in its place. -/
theorem record_order (X : FVec Ideal S66x2x2x4x8x64x128 .f32)
    (d b : Fin 2) (k : Fin 66) (g : Fin 4) (e : Fin 8) (f : Fin 64) (n : Fin 128) :
    transpose S2x2x66x4x8x64x128 [1, 2, 0, 3, 4, 5, 6] X transposes_S66x2x2x4x8x64x128_S2x2x66x4x8x64x128_1_2_0_3_4_5_6 (ix7 d b k g e f n) = X (ix7 k d b g e f n) := by
  pointwise

end Cert.Reference12Ideal.Scan
-- ==== Proof.Scan.PostD.lean ====
module
public import proofs.«01_k».proof.Proof.Gen.Reference12Ideal.Run
public import Idealize.ShloMosaic.Lib.Pointwise
public import Idealize.ShloMosaic.Lib.WordCmp
@[expose] public section
set_option maxRecDepth 16384

/-! # After the reference's loop: how much of a row reaches a later one -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

theorem mask_value : Ideal.ofBits .f32 4286578688#32 = (⊥ : EReal) := by simp [Ideal.ofBits, Ideal.ieee]

/-- The difference of the running sums where the row is not later, and minus infinity elsewhere. -/
def masked (X43 : FVec Ideal S2x2x66x128x4x8 .f32) : FVec Ideal S2x2x66x128x128x4x8 .f32 :=
  select (broadcastInDim S2x2x66x128x128x4x8 ![3, 4, 5, 6] bcast_S128x128x1x1_S2x2x66x128x128x4x8_3_4_5_6
      (broadcastInDim S128x128x1x1 ![0, 1] bcast_S128x128_S128x128x1x1_0_1
        (cmpi .sge (broadcastInDim S128x128 ![0, 1] bcast_S128x1_S128x128_0_1 (broadcastInDim S128x1 ![0] bcast_S128_S128x1_0 (iotaInDim S128 32 0)))
          (broadcastInDim S128x128 ![0, 1] bcast_S1x128_S128x128_0_1 (broadcastInDim S1x128 ![1] bcast_S128_S1x128_1 (iotaInDim S128 32 0))))))
    (subf (broadcastInDim S2x2x66x128x128x4x8 ![0, 1, 2, 3, 4, 5, 6] bcast_S2x2x66x128x1x4x8_S2x2x66x128x128x4x8_0_1_2_3_4_5_6
        (broadcastInDim S2x2x66x128x1x4x8 ![0, 1, 2, 3, 5, 6] bcast_S2x2x66x128x4x8_S2x2x66x128x1x4x8_0_1_2_3_5_6 X43))
      (broadcastInDim S2x2x66x128x128x4x8 ![0, 1, 2, 3, 4, 5, 6] bcast_S2x2x66x1x128x4x8_S2x2x66x128x128x4x8_0_1_2_3_4_5_6
        (broadcastInDim S2x2x66x1x128x4x8 ![0, 1, 2, 4, 5, 6] bcast_S2x2x66x128x4x8_S2x2x66x1x128x4x8_0_1_2_4_5_6 X43)))
    (broadcastInDim S2x2x66x128x128x4x8 ![] bcast_S_S2x2x66x128x128x4x8 (constant (F := Ideal) S_ .f32 0xFF800000#32))

theorem masked_apply (X43 : FVec Ideal S2x2x66x128x4x8 .f32) (d b : Fin 2) (k : Fin 66) (q x : Fin 128) (g : Fin 4) (e : Fin 8) :
    masked X43 (ix7 d b k q x g e) = (if x ≤ q then X43 (ix6 d b k q g e) - X43 (ix6 d b k x g e) else ⊥ : EReal) := by
  unfold masked
  pointwise
  rw [mask_value]
  have h : IntOp.cmpi .sge (BitVec.ofNat 32 q.val) (BitVec.ofNat 32 x.val) = 1 ↔ x ≤ q :=
    (WordCmp.cmpi_sge_ofNat_eq_one_iff (w := 32) (a := q.val) (b := x.val) (by norm_num; omega) (by norm_num; omega)).trans Fin.le_def.symm
  unfold Scalar.select
  by_cases hx : x ≤ q
  · rw [if_pos hx, if_pos (h.2 hx)]
  · rw [if_neg hx, if_neg (fun hh => hx (h.1 hh))]

/-- A row's weight for a later one: the mixing vectors' product, the decay between the two, the row's step. -/
def weight (X76 : FVec Ideal S2x2x66x4x128x128 .f32) (X74 : FVec Ideal S2x2x66x128x128x4x8 .f32) (X19 : FVec Ideal S2x2x66x128x4x8 .f32) :
    FVec Ideal S2x2x66x128x128x4x8 .f32 :=
  mulf (mulf (broadcastInDim S2x2x66x128x128x4x8 ![0, 1, 2, 3, 4, 5, 6] bcast_S2x2x66x128x128x4x1_S2x2x66x128x128x4x8_0_1_2_3_4_5_6
        (broadcastInDim S2x2x66x128x128x4x1 ![0, 1, 2, 3, 4, 5] bcast_S2x2x66x128x128x4_S2x2x66x128x128x4x1_0_1_2_3_4_5
          (transpose S2x2x66x128x128x4 [0, 1, 2, 5, 4, 3] X76 transposes_S2x2x66x4x128x128_S2x2x66x128x128x4_0_1_2_5_4_3)))
      (Host.exp X74))
    (broadcastInDim S2x2x66x128x128x4x8 ![0, 1, 2, 3, 4, 5, 6] bcast_S2x2x66x1x128x4x8_S2x2x66x128x128x4x8_0_1_2_3_4_5_6
      (broadcastInDim S2x2x66x1x128x4x8 ![0, 1, 2, 4, 5, 6] bcast_S2x2x66x128x4x8_S2x2x66x1x128x4x8_0_1_2_4_5_6 X19))

theorem weight_apply (X76 : FVec Ideal S2x2x66x4x128x128 .f32) (X74 : FVec Ideal S2x2x66x128x128x4x8 .f32) (X19 : FVec Ideal S2x2x66x128x4x8 .f32)
    (d b : Fin 2) (k : Fin 66) (q x : Fin 128) (g : Fin 4) (e : Fin 8) :
    weight X76 X74 X19 (ix7 d b k q x g e) = (X76 (ix6 d b k g x q) * Ideal.exp (X74 (ix7 d b k q x g e)) * X19 (ix6 d b k x g e) : EReal) := by
  unfold weight
  pointwise

/-- The rows' part plus the state's part, by the running sum's exponential. -/
def both (X84 X86 : FVec Ideal S2x2x66x4x8x64x128 .f32) (X43 : FVec Ideal S2x2x66x128x4x8 .f32) : FVec Ideal S2x2x66x128x4x8x64 .f32 :=
  addf (transpose S2x2x66x128x4x8x64 [0, 1, 2, 6, 3, 4, 5] X84 transposes_S2x2x66x4x8x64x128_S2x2x66x128x4x8x64_0_1_2_6_3_4_5)
    (mulf (transpose S2x2x66x128x4x8x64 [0, 1, 2, 6, 3, 4, 5] X86 transposes_S2x2x66x4x8x64x128_S2x2x66x128x4x8x64_0_1_2_6_3_4_5)
      (broadcastInDim S2x2x66x128x4x8x64 ![0, 1, 2, 3, 4, 5, 6] bcast_S2x2x66x128x4x8x1_S2x2x66x128x4x8x64_0_1_2_3_4_5_6
        (broadcastInDim S2x2x66x128x4x8x1 ![0, 1, 2, 3, 4, 5] bcast_S2x2x66x128x4x8_S2x2x66x128x4x8x1_0_1_2_3_4_5 (Host.exp X43))))

theorem both_apply (X84 X86 : FVec Ideal S2x2x66x4x8x64x128 .f32) (X43 : FVec Ideal S2x2x66x128x4x8 .f32)
    (d b : Fin 2) (k : Fin 66) (q : Fin 128) (g : Fin 4) (e : Fin 8) (f : Fin 64) :
    both X84 X86 X43 (ix7 d b k q g e f) = (X84 (ix7 d b k g e f q) + X86 (ix7 d b k g e f q) * Ideal.exp (X43 (ix6 d b k q g e)) : EReal) := by
  unfold both
  pointwise

/-- The heads' channels side by side, the chunks' rows one after another. -/
theorem flat_apply (X : FVec Ideal S2x2x66x128x4x8x64 .f32) (d b : Fin 2) (k : Fin 66) (q : Fin 128) (c : Fin 2048) :
    shapeCast S2x2x8448x2048 X shapeCasts_S2x2x66x128x4x8x64_S2x2x8448x2048 (ix4 d b ⟨k.val * 128 + q.val, by omega⟩ c)
      = X (ix7 d b k q (⟨c.val / 512, by omega⟩ : Fin 4) (⟨c.val / 64 % 8, by omega⟩ : Fin 8) (⟨c.val % 64, by omega⟩ : Fin 64)) := by
  pointwise

end Cert.Reference12Ideal.Scan
-- ==== Proof.Scan.PostE.lean ====
module
public import proofs.«01_k».proof.Proof.Gen.Reference12Ideal.Run
public import Idealize.ShloMosaic.Lib.Pointwise
public import proofs.«01_k».proof.Proof.Scan.PostD
public import Idealize.ShloMosaic.Lib.StableHlo.ReadAt
@[expose] public section
set_option maxRecDepth 16384

/-! # The operations after the reference's loop -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

variable (X : Valuation τ sig (Elt Ideal))

/-- The contents after the mask. -/
def W14 : Valuation τ sig (Elt Ideal) := after hostOps0_14 (after hostOps0_13 X)

theorem W14_v74 : W14 X (Proc.devRef .tc main_v74) = masked (X (Proc.devRef .tc main_v43)) := by
  unfold W14 masked
  after_reads_simp
  all_goals try simp -implicitDefEqProofs only [StableHlo.TRef.toBuf, StableHlo.TRef.ofBuf, cast_cast, cast_eq]
  all_goals clean_types
  all_goals rfl

theorem W14_v61 : W14 X (Proc.devRef .tc main_v61) = transpose S2x2x66x4x8x64x128 [1, 2, 0, 3, 4, 5, 6] (X (Proc.devRef .tc main_v60_4)) transposes_S66x2x2x4x8x64x128_S2x2x66x4x8x64x128_1_2_0_3_4_5_6 := by
  unfold W14
  after_reads_simp
  all_goals try simp -implicitDefEqProofs only [StableHlo.TRef.toBuf, StableHlo.TRef.ofBuf, cast_cast, cast_eq]
  all_goals clean_types
  all_goals rfl

theorem W14_v19 : W14 X (Proc.devRef .tc main_v19) = X (Proc.devRef .tc main_v19) := by
  unfold W14
  after_reads_simp
  all_goals try simp -implicitDefEqProofs only [StableHlo.TRef.toBuf, StableHlo.TRef.ofBuf, cast_cast, cast_eq]
  all_goals clean_types
  all_goals rfl

theorem W14_v36 : W14 X (Proc.devRef .tc main_v36) = X (Proc.devRef .tc main_v36) := by
  unfold W14
  after_reads_simp
  all_goals try simp -implicitDefEqProofs only [StableHlo.TRef.toBuf, StableHlo.TRef.ofBuf, cast_cast, cast_eq]
  all_goals clean_types
  all_goals rfl

theorem W14_v38 : W14 X (Proc.devRef .tc main_v38) = X (Proc.devRef .tc main_v38) := by
  unfold W14
  after_reads_simp
  all_goals try simp -implicitDefEqProofs only [StableHlo.TRef.toBuf, StableHlo.TRef.ofBuf, cast_cast, cast_eq]
  all_goals clean_types
  all_goals rfl

theorem W14_v40 : W14 X (Proc.devRef .tc main_v40) = X (Proc.devRef .tc main_v40) := by
  unfold W14
  after_reads_simp
  all_goals try simp -implicitDefEqProofs only [StableHlo.TRef.toBuf, StableHlo.TRef.ofBuf, cast_cast, cast_eq]
  all_goals clean_types
  all_goals rfl

theorem W14_v43 : W14 X (Proc.devRef .tc main_v43) = X (Proc.devRef .tc main_v43) := by
  unfold W14
  after_reads_simp
  all_goals try simp -implicitDefEqProofs only [StableHlo.TRef.toBuf, StableHlo.TRef.ofBuf, cast_cast, cast_eq]
  all_goals clean_types
  all_goals rfl

/-- The contents after the chunks' outputs. -/
def W15 : Valuation τ sig (Elt Ideal) := after hostOps0_15 (W14 X)

theorem W15_v93 : W15 X (Proc.devRef .tc main_v93) = shapeCast S2x2x8448x2048
    (both (Host.dotGeneral (F := Ideal) (φ₁ := .f32) (φ₂ := .f32) dot_S2x2x66x128x4x8x64_S2x2x66x128x128x4x8_S2x2x66x4x8x64x128_3_4_6_3_01245_01256 none (W14 X (Proc.devRef .tc main_v36))
        (weight (Host.dotGeneral (F := Ideal) (φ₁ := .f32) (φ₂ := .f32) dot_S2x2x66x128x4x128_S2x2x66x128x4x128_S2x2x66x4x128x128_5_5_3_3_0124_0124 none (W14 X (Proc.devRef .tc main_v38)) (W14 X (Proc.devRef .tc main_v40)))
          (W14 X (Proc.devRef .tc main_v74)) (W14 X (Proc.devRef .tc main_v19))))
      (Host.dotGeneral (F := Ideal) (φ₁ := .f32) (φ₂ := .f32) dot_S2x2x66x4x8x64x128_S2x2x66x128x4x128_S2x2x66x4x8x64x128_6_5_45_3_0123_0124 none (W14 X (Proc.devRef .tc main_v61)) (W14 X (Proc.devRef .tc main_v40)))
      (W14 X (Proc.devRef .tc main_v43))) shapeCasts_S2x2x66x128x4x8x64_S2x2x8448x2048 := by
  unfold W15 both weight
  generalize W14 X = V
  after_reads_simp
  all_goals try simp -implicitDefEqProofs only [StableHlo.TRef.toBuf, StableHlo.TRef.ofBuf, cast_cast, cast_eq]
  all_goals clean_types
  all_goals rfl

end Cert.Reference12Ideal.Scan
-- ==== Proof.Scan.PostF.lean ====
module
public import proofs.«01_k».proof.Proof.Gen.Reference12Ideal.Run
public import Idealize.ShloMosaic.Lib.Pointwise
public import proofs.«01_k».proof.Proof.Scan.PostE
public import proofs.«01_k».proof.Proof.Scan.Order
public import Idealize.ShloMosaic.Lib.StableHlo.ReadAt
@[expose] public section
set_option maxRecDepth 16384

/-! # The outputs in the rows' own order -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value

variable (X : Valuation τ sig (Elt Ideal))

/-- The contents at the end. -/
def W19 : Valuation τ sig (Elt Ideal) := after hostOps0_19 (after hostOps0_18 (after hostOps0_17 (after hostOps0_16 (W15 X))))

theorem W19_v105 : W19 X (Proc.devRef .tc main_v105) = order2048 (W15 X (Proc.devRef .tc main_v93)) := by
  unfold W19
  have h95 : W15 X (Proc.devRef .tc main_v95) = shapeCast S2x8448x2048 (extractStridedSlice S1x2x8448x2048 ![0, 0, 0, 0] (W15 X (Proc.devRef .tc main_v93)) slices_S2x2x8448x2048_S1x2x8448x2048_0_0_0_0) shapeCasts_S1x2x8448x2048_S2x8448x2048 := by
    unfold W15
    generalize W14 X = V
    after_reads_simp
    all_goals try simp -implicitDefEqProofs only [StableHlo.TRef.toBuf, StableHlo.TRef.ofBuf, cast_cast, cast_eq]
    all_goals clean_types
    all_goals rfl

  have h97 : W15 X (Proc.devRef .tc main_v97) = shapeCast S2x256x2048 (extractStridedSlice S1x2x256x2048 ![1, 0, 0, 0] (W15 X (Proc.devRef .tc main_v93)) slices_S2x2x8448x2048_S1x2x256x2048_1_0_0_0) shapeCasts_S1x2x256x2048_S2x256x2048 := by
    unfold W15
    generalize W14 X = V
    after_reads_simp
    all_goals try simp -implicitDefEqProofs only [StableHlo.TRef.toBuf, StableHlo.TRef.ofBuf, cast_cast, cast_eq]
    all_goals clean_types
    all_goals rfl

  generalize W15 X = V at h95 h97
  after_reads_simp
  all_goals try simp -implicitDefEqProofs only [StableHlo.TRef.toBuf, StableHlo.TRef.ofBuf, cast_cast, cast_eq]
  all_goals clean_types
  unfold order2048
  refine congrArg₂ (fun a b => concatenate S2x2x8448x2048 0 [⟨S1x2x8448x2048, a⟩, ⟨S1x2x8448x2048, b⟩] concatenates_S1x2x8448x2048_S1x2x8448x2048_S2x2x8448x2048_d0) ?_ ?_
  · after_reads_simp
    all_goals try simp -implicitDefEqProofs only [StableHlo.TRef.toBuf, StableHlo.TRef.ofBuf, cast_cast, cast_eq]
    all_goals clean_types
    rw [h95]
    all_goals rfl
  · after_reads_simp
    all_goals try simp -implicitDefEqProofs only [StableHlo.TRef.toBuf, StableHlo.TRef.ofBuf, cast_cast, cast_eq]
    all_goals clean_types
    refine congrArg (fun a : FVec Ideal S2x8448x2048 .f32 => broadcastInDim S1x2x8448x2048 ![1, 2, 3] bcast_S2x8448x2048_S1x2x8448x2048_1_2_3 a) ?_
    refine congrArg₂ (fun a b => concatenate S2x8448x2048 1 [⟨S2x256x2048, a⟩, ⟨S2x8192x2048, b⟩] concatenates_S2x256x2048_S2x8192x2048_S2x8448x2048_d1) ?_ ?_
    · after_reads_simp
      all_goals try simp -implicitDefEqProofs only [StableHlo.TRef.toBuf, StableHlo.TRef.ofBuf, cast_cast, cast_eq]
      all_goals clean_types
      rw [h97]
      all_goals rfl
    · after_reads_simp
      all_goals try simp -implicitDefEqProofs only [StableHlo.TRef.toBuf, StableHlo.TRef.ofBuf, cast_cast, cast_eq]
      all_goals clean_types
      all_goals rfl

end Cert.Reference12Ideal.Scan
-- ==== Proof.Scan.Outputs.lean ====
module
public import proofs.«01_k».proof.Proof.Scan.Trips
public import proofs.«01_k».proof.Proof.Scan.PostA
public import proofs.«01_k».proof.Proof.Scan.PostB
public import proofs.«01_k».proof.Proof.Scan.PostC
public import proofs.«01_k».proof.Proof.Scan.PostD
public import proofs.«01_k».proof.Proof.Scan.PostE
public import proofs.«01_k».proof.Proof.Scan.PostF
@[expose] public section
set_option maxRecDepth 16384

/-! # The reference's outputs are the scan's -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value Cert.Scan

variable (m : (ℓ : Loc nD τ sig) → Buf (Elt Ideal) ℓ)

theorem cond_kept (r : Ref sig .tc) (h : r ∉ condOps_W) (V : Valuation τ sig (Elt Ideal)) : after condOps V (Proc.devRef .tc r) = V (Proc.devRef .tc r) :=
  after_of_writes_sub condOps V condOps_writes h

theorem body_kept (r : Ref sig .tc) (h0 : r ∉ while0Ops0_W) (h1 : r ∉ while0Ops0_1_W) (h2 : r ∉ while0Ops0_2_W) (h3 : r ∉ while0Ops0_3_W) (h4 : r ∉ while0Ops0_4_W)
    (V : Valuation τ sig (Elt Ideal)) : afterL bodyI V (Proc.devRef .tc r) = V (Proc.devRef .tc r) := by
  simp only [afterL_cons, afterL_nil]
  rw [after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0]

/-- The contents when the loop has ended. -/
abbrev Vx (c : Dev nD) : Valuation τ sig (Elt Ideal) := after condOps (atK m 66 c)

theorem kept_v19 (c : Dev nD) : Vx m c (Proc.devRef .tc main_v19) = V11 m c (Proc.devRef .tc main_v19) :=
  (cond_kept main_v19 (by decide) _).trans ((kept m c main_v19 (cond_kept main_v19 (by decide)) (body_kept main_v19 (by decide +kernel) (by decide +kernel) (by decide +kernel) (by decide +kernel) (by decide +kernel)) 66).trans (V12_v19 m c))
theorem kept_v36 (c : Dev nD) : Vx m c (Proc.devRef .tc main_v36) = V11 m c (Proc.devRef .tc main_v36) :=
  (cond_kept main_v36 (by decide) _).trans ((kept m c main_v36 (cond_kept main_v36 (by decide)) (body_kept main_v36 (by decide +kernel) (by decide +kernel) (by decide +kernel) (by decide +kernel) (by decide +kernel)) 66).trans (V12_v36 m c))
theorem kept_v38 (c : Dev nD) : Vx m c (Proc.devRef .tc main_v38) = V11 m c (Proc.devRef .tc main_v38) :=
  (cond_kept main_v38 (by decide) _).trans ((kept m c main_v38 (cond_kept main_v38 (by decide)) (body_kept main_v38 (by decide +kernel) (by decide +kernel) (by decide +kernel) (by decide +kernel) (by decide +kernel)) 66).trans (V12_v38 m c))
theorem kept_v40 (c : Dev nD) : Vx m c (Proc.devRef .tc main_v40) = V11 m c (Proc.devRef .tc main_v40) :=
  (cond_kept main_v40 (by decide) _).trans ((kept m c main_v40 (cond_kept main_v40 (by decide)) (body_kept main_v40 (by decide +kernel) (by decide +kernel) (by decide +kernel) (by decide +kernel) (by decide +kernel)) 66).trans (V12_v40 m c))
theorem kept_v43 (c : Dev nD) : Vx m c (Proc.devRef .tc main_v43) = V11 m c (Proc.devRef .tc main_v43) :=
  (cond_kept main_v43 (by decide) _).trans ((kept m c main_v43 (cond_kept main_v43 (by decide)) (body_kept main_v43 (by decide +kernel) (by decide +kernel) (by decide +kernel) (by decide +kernel) (by decide +kernel)) 66).trans (V12_v43 m c))

theorem record_end (c : Dev nD) (k : Fin 66) (d b : Fin 2) (g : Fin 4) (e : Fin 8) (f : Fin 64) (n : Fin 128) :
    Vx m c (Proc.devRef .tc main_v60_4) (ix7 k d b g e f n) = (st m c k d b g e f n : EReal) := by
  rw [show Vx m c (Proc.devRef .tc main_v60_4) = atK m 66 c (Proc.devRef .tc main_v60_4) from cond_keeps (atK m 66 c) main_v60_4 (by decide)]
  exact (after_trips m c 66 le_rfl).record k k.isLt d b g e f n

theorem mask_end (c : Dev nD) (d b : Fin 2) (k : Fin 66) (q x : Fin 128) (g : Fin 4) (e : Fin 8) :
    W14 (Vx m c) (Proc.devRef .tc main_v74) (ix7 d b k q x g e)
      = (if x ≤ q then cum (dtc m c) (bias m c) (alog m c) d b k q (headAt g e) - cum (dtc m c) (bias m c) (alog m c) d b k x (headAt g e) else ⊥ : EReal) := by
  rw [W14_v74]
  refine (masked_apply _ d b k q x g e).trans ?_
  rw [kept_v43, V11_v43, V11_v43]

theorem state_end (c : Dev nD) (k : Fin 66) (d b : Fin 2) (g : Fin 4) (e : Fin 8) (f : Fin 64) (n : Fin 128) :
    W14 (Vx m c) (Proc.devRef .tc main_v61) (ix7 d b k g e f n) = (st m c k d b g e f n : EReal) := by
  rw [W14_v61]
  exact (record_order _ d b k g e f n).trans (record_end m c k d b g e f n)

/-- A row's outputs, in the order of time. -/
theorem v93_at (c : Dev nD) (d b : Fin 2) (k : Fin 66) (q : Fin 128) (y : Fin 2048) :
    W15 (Vx m c) (Proc.devRef .tc main_v93) (ix4 d b (at_ k q) y)
      = (out (xa m c) (dtc m c) (bias m c) (alog m c) d b k q (headAt ⟨y.val / 512, by omega⟩ ⟨y.val / 64 % 8, by omega⟩) ⟨y.val % 64, by omega⟩ : EReal) := by
  rw [W15_v93]
  refine (flat_apply _ d b k q y).trans ?_
  generalize (⟨y.val / 512, by omega⟩ : Fin 4) = g
  generalize (⟨y.val / 64 % 8, by omega⟩ : Fin 8) = e
  generalize (⟨y.val % 64, by omega⟩ : Fin 64) = f
  refine (both_apply _ _ _ d b k q g e f).trans ?_
  unfold out
  refine congrArg₂ (fun a b : EReal => a + b) ?_ (congrArg₂ (fun a b : EReal => a * b) ?_ (congrArg Ideal.exp ?_))
  · refine (rows_product _ _ d b k g e f q).trans (congrArg (fun F : Fin 128 → EReal => ∑ x, F x) (funext fun x => ?_))
    rw [mul_comm]
    refine congrArg₂ (fun a b : EReal => a * b) ?_ ?_
    · refine (weight_apply _ _ _ d b k q x g e).trans ?_
      rw [mul_assoc]
      refine congrArg₂ (fun a b : EReal => a * b) ?_ (congrArg₂ (fun a b : EReal => a * b) (congrArg Ideal.exp (mask_end m c d b k q x g e)) ?_)
      · refine (mix_product _ _ d b k g x q).trans (congrArg (fun F : Fin 128 → EReal => ∑ n, F n) (funext fun n => ?_))
        rw [mul_comm]
        refine congrArg₂ (fun a b : EReal => a * b) ?_ ?_
        · rw [W14_v40, kept_v40]; exact V11_c m c d b k q g e n
        · rw [W14_v38, kept_v38]; exact V11_b m c d b k x g e n
      · rw [W14_v19, kept_v19]; exact V11_step m c d b k x g e
    · rw [W14_v36, kept_v36]; exact V11_x m c d b k x g e f
  · refine (state_product _ _ d b k g e f q).trans (congrArg (fun F : Fin 128 → EReal => ∑ n, F n) (funext fun n => ?_))
    rw [mul_comm]
    refine congrArg₂ (fun a b : EReal => a * b) ?_ (state_end m c k d b g e f n)
    rw [W14_v40, kept_v40]; exact V11_c m c d b k q g e n
  · rw [W14_v43, kept_v43]; exact V11_v43 m c d b k q g e

/-- A row's outputs, at the row's own place. -/
theorem v105_at (c : Dev nD) (d b : Fin 2) (k : Fin 66) (q : Fin 128) (y : Fin 2048) :
    W19 (Vx m c) (Proc.devRef .tc main_v105) (ix4 d b (at_ k q) y)
      = (out (xa m c) (dtc m c) (bias m c) (alog m c) d b (chunk d k) (turn d q) ⟨y.val / 64, by omega⟩ ⟨y.val % 64, by omega⟩ : EReal) := by
  rw [W19_v105]
  refine (order2048_apply _ d b (at_ k q) y).trans ?_
  rw [inOrder_at, show row d k q = at_ (chunk d k) (turn d q) from rfl]
  refine (v93_at m c d b (chunk d k) (turn d q) y).trans ?_
  rw [show headAt ⟨y.val / 512, by omega⟩ ⟨y.val / 64 % 8, by omega⟩ = ⟨y.val / 64, by omega⟩ from Fin.ext (by simp only; omega)]

end Cert.Reference12Ideal.Scan
-- ==== Proof.Scan.Ends.lean ====
module
public import proofs.«01_k».proof.Proof.Scan.Outputs
@[expose] public section
set_option maxRecDepth 16384

/-! # The scan's reference from its arguments to its end -/

noncomputable section
open Idealize.ShloMosaic Idealize.ShloMosaic.TcCoe Idealize.SL.Sem Idealize.ShloMosaic.StableHlo
namespace Cert.Reference12Ideal.Scan
open Cert.Reference12Ideal Cert.Reference12Ideal.Gen Cert.Reference12Ideal.Value Cert.Scan

variable (m : (ℓ : Loc nD τ sig) → Buf (Elt Ideal) ℓ)

/-- The contents at the program's end. -/
abbrev final (c : Dev nD) : Valuation τ sig (Elt Ideal) := W19 (Vx m c)

theorem final_eq (c : Dev nD) : finalContents condOps preI bodyI postI 66 m c = final m c := by
  unfold final W19 W15 W14
  simp only [finalContents, afterL_cons, afterL_nil]

theorem post_arg0 (X : Valuation τ sig (Elt Ideal)) : W19 X (Proc.devRef .tc main_arg0) = X (Proc.devRef .tc main_arg0) := by
  unfold W19 W15 W14
  after_reads_simp
  all_goals try simp -implicitDefEqProofs only [StableHlo.TRef.toBuf, StableHlo.TRef.ofBuf, cast_cast, cast_eq]
  all_goals clean_types
  all_goals rfl

theorem pre_arg0 (c : Dev nD) : V12 m c (Proc.devRef .tc main_arg0) = m ((c.tc : Thread nD τ).loc main_arg0) := by
  rw [V12, after_of_writes_sub hostOps0_12 _ hostOps0_12_writes (by decide +kernel), V11, after_of_writes_sub hostOps0_11 _ hostOps0_11_writes (by decide +kernel),
    V10, after_of_writes_sub hostOps0_10 _ hostOps0_10_writes (by decide +kernel), after_of_writes_sub hostOps0_9 _ hostOps0_9_writes (by decide +kernel),
    after_of_writes_sub hostOps0_8 _ hostOps0_8_writes (by decide +kernel), after_of_writes_sub hostOps0_7 _ hostOps0_7_writes (by decide +kernel),
    V6, after_of_writes_sub hostOps0_6 _ hostOps0_6_writes (by decide +kernel), after_of_writes_sub hostOps0_5 _ hostOps0_5_writes (by decide +kernel),
    after_of_writes_sub hostOps0_4 _ hostOps0_4_writes (by decide +kernel), after_of_writes_sub hostOps0_3 _ hostOps0_3_writes (by decide +kernel),
    after_of_writes_sub hostOps0_2 _ hostOps0_2_writes (by decide +kernel), V1, after_of_writes_sub hostOps0_1 _ hostOps0_1_writes (by decide +kernel),
    after_of_writes_sub hostOps0 _ hostOps0_writes (by decide +kernel)]

theorem arg0_kept (c : Dev nD) : final m c (Proc.devRef .tc main_arg0) = m ((c.tc : Thread nD τ).loc main_arg0) :=
  (post_arg0 _).trans ((cond_kept main_arg0 (by decide) _).trans ((kept m c main_arg0 (cond_kept main_arg0 (by decide))
    (body_kept main_arg0 (by decide +kernel) (by decide +kernel) (by decide +kernel) (by decide +kernel) (by decide +kernel)) 66).trans (pre_arg0 m c)))

theorem post_arg1 (X : Valuation τ sig (Elt Ideal)) : W19 X (Proc.devRef .tc main_arg1) = X (Proc.devRef .tc main_arg1) := by
  unfold W19 W15 W14
  after_reads_simp
  all_goals try simp -implicitDefEqProofs only [StableHlo.TRef.toBuf, StableHlo.TRef.ofBuf, cast_cast, cast_eq]
  all_goals clean_types
  all_goals rfl

theorem pre_arg1 (c : Dev nD) : V12 m c (Proc.devRef .tc main_arg1) = m ((c.tc : Thread nD τ).loc main_arg1) := by
  rw [V12, after_of_writes_sub hostOps0_12 _ hostOps0_12_writes (by decide +kernel), V11, after_of_writes_sub hostOps0_11 _ hostOps0_11_writes (by decide +kernel),
    V10, after_of_writes_sub hostOps0_10 _ hostOps0_10_writes (by decide +kernel), after_of_writes_sub hostOps0_9 _ hostOps0_9_writes (by decide +kernel),
    after_of_writes_sub hostOps0_8 _ hostOps0_8_writes (by decide +kernel), after_of_writes_sub hostOps0_7 _ hostOps0_7_writes (by decide +kernel),
    V6, after_of_writes_sub hostOps0_6 _ hostOps0_6_writes (by decide +kernel), after_of_writes_sub hostOps0_5 _ hostOps0_5_writes (by decide +kernel),
    after_of_writes_sub hostOps0_4 _ hostOps0_4_writes (by decide +kernel), after_of_writes_sub hostOps0_3 _ hostOps0_3_writes (by decide +kernel),
    after_of_writes_sub hostOps0_2 _ hostOps0_2_writes (by decide +kernel), V1, after_of_writes_sub hostOps0_1 _ hostOps0_1_writes (by decide +kernel),
    after_of_writes_sub hostOps0 _ hostOps0_writes (by decide +kernel)]

theorem arg1_kept (c : Dev nD) : final m c (Proc.devRef .tc main_arg1) = m ((c.tc : Thread nD τ).loc main_arg1) :=
  (post_arg1 _).trans ((cond_kept main_arg1 (by decide) _).trans ((kept m c main_arg1 (cond_kept main_arg1 (by decide))
    (body_kept main_arg1 (by decide +kernel) (by decide +kernel) (by decide +kernel) (by decide +kernel) (by decide +kernel)) 66).trans (pre_arg1 m c)))

theorem post_arg2 (X : Valuation τ sig (Elt Ideal)) : W19 X (Proc.devRef .tc main_arg2) = X (Proc.devRef .tc main_arg2) := by
  unfold W19 W15 W14
  after_reads_simp
  all_goals try simp -implicitDefEqProofs only [StableHlo.TRef.toBuf, StableHlo.TRef.ofBuf, cast_cast, cast_eq]
  all_goals clean_types
  all_goals rfl

theorem pre_arg2 (c : Dev nD) : V12 m c (Proc.devRef .tc main_arg2) = m ((c.tc : Thread nD τ).loc main_arg2) := by
  rw [V12, after_of_writes_sub hostOps0_12 _ hostOps0_12_writes (by decide +kernel), V11, after_of_writes_sub hostOps0_11 _ hostOps0_11_writes (by decide +kernel),
    V10, after_of_writes_sub hostOps0_10 _ hostOps0_10_writes (by decide +kernel), after_of_writes_sub hostOps0_9 _ hostOps0_9_writes (by decide +kernel),
    after_of_writes_sub hostOps0_8 _ hostOps0_8_writes (by decide +kernel), after_of_writes_sub hostOps0_7 _ hostOps0_7_writes (by decide +kernel),
    V6, after_of_writes_sub hostOps0_6 _ hostOps0_6_writes (by decide +kernel), after_of_writes_sub hostOps0_5 _ hostOps0_5_writes (by decide +kernel),
    after_of_writes_sub hostOps0_4 _ hostOps0_4_writes (by decide +kernel), after_of_writes_sub hostOps0_3 _ hostOps0_3_writes (by decide +kernel),
    after_of_writes_sub hostOps0_2 _ hostOps0_2_writes (by decide +kernel), V1, after_of_writes_sub hostOps0_1 _ hostOps0_1_writes (by decide +kernel),
    after_of_writes_sub hostOps0 _ hostOps0_writes (by decide +kernel)]

theorem arg2_kept (c : Dev nD) : final m c (Proc.devRef .tc main_arg2) = m ((c.tc : Thread nD τ).loc main_arg2) :=
  (post_arg2 _).trans ((cond_kept main_arg2 (by decide) _).trans ((kept m c main_arg2 (cond_kept main_arg2 (by decide))
    (body_kept main_arg2 (by decide +kernel) (by decide +kernel) (by decide +kernel) (by decide +kernel) (by decide +kernel)) 66).trans (pre_arg2 m c)))

theorem post_arg3 (X : Valuation τ sig (Elt Ideal)) : W19 X (Proc.devRef .tc main_arg3) = X (Proc.devRef .tc main_arg3) := by
  unfold W19 W15 W14
  after_reads_simp
  all_goals try simp -implicitDefEqProofs only [StableHlo.TRef.toBuf, StableHlo.TRef.ofBuf, cast_cast, cast_eq]
  all_goals clean_types
  all_goals rfl

theorem pre_arg3 (c : Dev nD) : V12 m c (Proc.devRef .tc main_arg3) = m ((c.tc : Thread nD τ).loc main_arg3) := by
  rw [V12, after_of_writes_sub hostOps0_12 _ hostOps0_12_writes (by decide +kernel), V11, after_of_writes_sub hostOps0_11 _ hostOps0_11_writes (by decide +kernel),
    V10, after_of_writes_sub hostOps0_10 _ hostOps0_10_writes (by decide +kernel), after_of_writes_sub hostOps0_9 _ hostOps0_9_writes (by decide +kernel),
    after_of_writes_sub hostOps0_8 _ hostOps0_8_writes (by decide +kernel), after_of_writes_sub hostOps0_7 _ hostOps0_7_writes (by decide +kernel),
    V6, after_of_writes_sub hostOps0_6 _ hostOps0_6_writes (by decide +kernel), after_of_writes_sub hostOps0_5 _ hostOps0_5_writes (by decide +kernel),
    after_of_writes_sub hostOps0_4 _ hostOps0_4_writes (by decide +kernel), after_of_writes_sub hostOps0_3 _ hostOps0_3_writes (by decide +kernel),
    after_of_writes_sub hostOps0_2 _ hostOps0_2_writes (by decide +kernel), V1, after_of_writes_sub hostOps0_1 _ hostOps0_1_writes (by decide +kernel),
    after_of_writes_sub hostOps0 _ hostOps0_writes (by decide +kernel)]

theorem arg3_kept (c : Dev nD) : final m c (Proc.devRef .tc main_arg3) = m ((c.tc : Thread nD τ).loc main_arg3) :=
  (post_arg3 _).trans ((cond_kept main_arg3 (by decide) _).trans ((kept m c main_arg3 (cond_kept main_arg3 (by decide))
    (body_kept main_arg3 (by decide +kernel) (by decide +kernel) (by decide +kernel) (by decide +kernel) (by decide +kernel)) 66).trans (pre_arg3 m c)))

/-- The reference's run: the result is the scan's, the arguments are as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v105) = final m c (Proc.devRef .tc main_v105)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => by
    have e (b : Ref sig .tc) (hb : (Proc.devRef .tc b : DevRef τ sig).isScoped = false) : r.2.mem ((c.tc : Thread nD τ).loc b) = final m c (Proc.devRef .tc b) :=
      (h c b hb).trans (congrFun (final_eq m c) _)
    exact ⟨e main_v105 rfl, (e main_arg0 rfl).trans (arg0_kept m c), (e main_arg1 rfl).trans (arg1_kept m c),
      (e main_arg2 rfl).trans (arg2_kept m c), (e main_arg3 rfl).trans (arg3_kept m c)⟩) (run_fold m ρ)

end Cert.Reference12Ideal.Scan
-- ==== Proof.Scan.Claim.lean ====
module
public import proofs.«01_k».proof.Defs
public import proofs.«01_k».proof.Proof.Scan.Value
public import proofs.«01_k».proof.Proof.Scan.Ends
@[expose] public section
set_option maxRecDepth 16384

/-! # The scan: its kernel computes its reference -/

noncomputable section
open Idealize.ShloMosaic Idealize.ShloMosaic.TcCoe Idealize.SL.Sem
namespace Cert.Scan

/-- The reference ends well from every memory. -/
theorem frame_reference : Cert.quiescent_Reference12Ideal (hReference12Ideal := Cert.Reference12Ideal.Gen.facts) :=
  fun m ρ _ => (θ_run Cert.Reference12Ideal.defs _ _).mono
    (fun r h => ⟨fun c => (h c).2, Idealize.ShloMosaic.sem_eq_zero_of_no_sems (by decide) r.2⟩)
    (Cert.Reference12Ideal.Scan.run m ρ)

/-- The reference's result is the kernel's, where the arguments are the same. -/
theorem result_eq (m : (ℓ : Loc Cert.Kernel12Ideal.nD Cert.Kernel12Ideal.τ Cert.Kernel12Ideal.sig) → Buf (Elt Ideal) ℓ)
    (m' : (ℓ : Loc Cert.Reference12Ideal.nD Cert.Reference12Ideal.τ Cert.Reference12Ideal.sig) → Buf (Elt Ideal) ℓ) (c : Dev Cert.Kernel12Ideal.nD)
    (hx : Cert.Reference12Ideal.Scan.xa m' c = Cert.Kernel12Ideal.Scan.xa m c) (hd : Cert.Reference12Ideal.Scan.dtc m' c = Cert.Kernel12Ideal.Scan.dtc m c)
    (hb : Cert.Reference12Ideal.Scan.bias m' c = Cert.Kernel12Ideal.Scan.bias m c) (ha : Cert.Reference12Ideal.Scan.alog m' c = Cert.Kernel12Ideal.Scan.alog m c) :
    Cert.Reference12Ideal.Scan.final m' c (Proc.devRef .tc Cert.Reference12Ideal.main_v105) = Cert.Kernel12Ideal.Scan.result m c := by
  funext (y : Cert.Kernel12Ideal.S2x2x8448x2048.Idx)
  have hr : (y 2).val < 8448 := (y 2).isLt
  have hy : y = ix4 (y 0) (y 1) (at_ ⟨(y 2).val / 128, by omega⟩ ⟨(y 2).val % 128, by omega⟩) (y 3) := by
    blk_ext! [at_]
  rw [hy]
  refine (Cert.Reference12Ideal.Scan.v105_at m' c (y 0) (y 1) _ _ (y 3)).trans ?_
  rw [hx, hd, hb, ha]
  exact (Cert.Kernel12Ideal.Scan.result_at m c (y 0) (y 1) _ _ (y 3)).symm

/-- The kernel's result is the reference's. -/
theorem value : Cert.algebraic_Kernel12Ideal_Reference12Ideal (hKernel12Ideal := Cert.Kernel12Ideal.Gen.facts)
    (hReference12Ideal := Cert.Reference12Ideal.Gen.facts) := by
  intro m ρ m' ρ' _ hagree
  refine ⟨_, Cert.Kernel12Ideal.Value.run_blocks m ρ, ?_⟩
  refine (θ_run Cert.Reference12Ideal.defs _ _).mono (fun _ h c => ⟨(h c).1.trans ?_, (h c).2⟩) (Cert.Reference12Ideal.Scan.run m' ρ')
  refine (result_eq m m' c ?_ ?_ ?_ ?_).trans (Cert.Kernel12Ideal.Scan.final m c).symm
  · unfold Cert.Reference12Ideal.Scan.xa; rw [(hagree c).1]
  · unfold Cert.Reference12Ideal.Scan.dtc; rw [(hagree c).2.1]
  · unfold Cert.Reference12Ideal.Scan.bias; rw [(hagree c).2.2.1]
  · unfold Cert.Reference12Ideal.Scan.alog; rw [(hagree c).2.2.2]

end Cert.Scan
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite_qk
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Pre_experts_named
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Attention.Finite
public import proofs.«01_k».proof.Proof.Attention.Value
public import proofs.«01_k».proof.Proof.Experts.Tables
public import proofs.«01_k».proof.Proof.Experts.TablesIdeal
public import proofs.«01_k».proof.Proof.Experts.Value
public import proofs.«01_k».proof.Proof.Experts.Reference
public import proofs.«01_k».proof.Proof.Feed.Run
public import proofs.«01_k».proof.Proof.Project.ScanIn
public import proofs.«01_k».proof.Proof.Project.ScanOut
public import proofs.«01_k».proof.Proof.Project.Recurrence
public import proofs.«01_k».proof.Proof.Project.AttendIn
public import proofs.«01_k».proof.Proof.Project.AttendOut
public import proofs.«01_k».proof.Proof.LowRank.Gate
public import proofs.«01_k».proof.Proof.LowRank.Decay
public import proofs.«01_k».proof.Proof.LowRank.Rate
public import proofs.«01_k».proof.Proof.Scan.Claim

@[expose] public section

/-! # The claims, from the frames and the values of the attention, of the experts, of the feed-forward layer, of the
projections, of the low-rank projections and of the scan -/

noncomputable section

namespace Cert.Proof

open Idealize.ShloMosaic Idealize.SL.Sem

/-- The attention's reference ends well from every memory. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The attention computes the softmax attention of its queries, keys and values. -/
theorem attention : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨hq, hk⟩ := letI := Cert.Pre_finite_qk.Gen.facts; Cert.Pre_finite_qk.real (hpre c)
  rw [(hagree c).1, (hagree c).2.1, (hagree c).2.2]
  exact (Cert.KernelIdeal.Att.final m c hq hk).symm

/-- The experts' reference ends well from every memory. -/
theorem frame_reference2 : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The experts' kernel makes of every routed row what the reference's sum over all eight experts makes of it. -/
theorem experts : Cert.algebraic_Kernel2Ideal_Reference2Ideal (hKernel2Ideal := Cert.Kernel2Ideal.Gen.facts)
    (hReference2Ideal := Cert.Reference2Ideal.Gen.facts) (hPre_experts_named := Cert.Pre_experts_named.Gen.facts) := by
  intro m ρ m' ρ' hpre hagree
  have hn (j : Fin 74) : (Cert.Kernel2Ideal.Exp.name m j).toNat < 8 :=
    letI := Cert.Pre_experts_named.Gen.facts; Cert.Experts.named (hpre 0) (ix1 j)
  refine ⟨fun c => Cert.Kernel2Ideal.Exp.result m c,
    Cert.Kernel2Ideal.Exp.run_result m (Cert.Kernel2Ideal.Exp.ok_of_pre m hpre) ρ hn, ?_⟩
  refine (θ_run Cert.Reference2Ideal.defs _ _).mono (fun _ h c => ⟨(h c).1.trans ?_, (h c).2⟩)
    (Cert.Reference2Ideal.Value.run (F := Ideal) m' ρ')
  obtain rfl : c = 0 := Subsingleton.elim _ _
  refine Eq.trans (b := Cert.Reference2Ideal.Exp.term
    (m' (((0 : Dev Cert.Reference2Ideal.nD).tc : Thread Cert.Reference2Ideal.nD Cert.Reference2Ideal.τ).loc Cert.Reference2Ideal.main_arg0))
    (m' (((0 : Dev Cert.Reference2Ideal.nD).tc : Thread Cert.Reference2Ideal.nD Cert.Reference2Ideal.τ).loc Cert.Reference2Ideal.main_arg1))
    (m' (((0 : Dev Cert.Reference2Ideal.nD).tc : Thread Cert.Reference2Ideal.nD Cert.Reference2Ideal.τ).loc Cert.Reference2Ideal.main_arg2))
    (m' (((0 : Dev Cert.Reference2Ideal.nD).tc : Thread Cert.Reference2Ideal.nD Cert.Reference2Ideal.τ).loc Cert.Reference2Ideal.main_arg3))
    (m' (((0 : Dev Cert.Reference2Ideal.nD).tc : Thread Cert.Reference2Ideal.nD Cert.Reference2Ideal.τ).loc Cert.Reference2Ideal.main_arg4))) rfl ?_
  rw [(hagree 0).1, (hagree 0).2.1, (hagree 0).2.2.1, (hagree 0).2.2.2.1, (hagree 0).2.2.2.2]
  exact Cert.Reference2Ideal.Exp.term_eq _ _ _ _ _ hn

/-- The feed-forward layer's reference ends well from every memory. -/
theorem frame_reference3 : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The feed-forward layer's two calls compute the gated feed-forward of every row. -/
theorem feed : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Feed.result m c, Cert.Kernel3Ideal.Feed.run_result m ρ, ?_⟩
  refine (θ_run Cert.Reference3Ideal.defs _ _).mono (fun _ h c => ⟨(h c).1.trans ?_, (h c).2⟩)
    (Cert.Reference3Ideal.Value.run (F := Ideal) m' ρ')
  refine Eq.trans (b := Cert.Reference3Ideal.Feed.term
    (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))) rfl ?_
  rw [(hagree c).1, (hagree c).2.1, (hagree c).2.2]
  exact Cert.Reference3Ideal.Feed.term_eq _ _ _

theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_finite_qk.Gen.facts, Cert.Pre_experts_named.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ h => Cert.Kernel2.Gen.frame m ρ (Cert.Kernel2.Exp.ok_of_pre m h),
    fun m ρ h => Cert.Kernel2Ideal.Gen.frame m ρ (Cert.Kernel2Ideal.Exp.ok_of_pre m h),
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, Cert.Project.ScanIn.frame_reference,
    fun m ρ _ => Cert.Kernel5.Gen.frame m ρ, fun m ρ _ => Cert.Kernel5Ideal.Gen.frame m ρ, Cert.Project.ScanOut.frame_reference,
    fun m ρ _ => Cert.Kernel6.Gen.frame m ρ, fun m ρ _ => Cert.Kernel6Ideal.Gen.frame m ρ, Cert.Project.Recurrence.frame_reference,
    fun m ρ _ => Cert.Kernel7.Gen.frame m ρ, fun m ρ _ => Cert.Kernel7Ideal.Gen.frame m ρ, Cert.Project.AttendIn.frame_reference,
    fun m ρ _ => Cert.Kernel8.Gen.frame m ρ, fun m ρ _ => Cert.Kernel8Ideal.Gen.frame m ρ, Cert.Project.AttendOut.frame_reference,
    fun m ρ _ => Cert.Kernel9.Gen.frame m ρ, fun m ρ _ => Cert.Kernel9Ideal.Gen.frame m ρ, Cert.LowRank.Gate.frame_reference,
    fun m ρ _ => Cert.Kernel10.Gen.frame m ρ, fun m ρ _ => Cert.Kernel10Ideal.Gen.frame m ρ, Cert.LowRank.Decay.frame_reference,
    fun m ρ _ => Cert.Kernel11.Gen.frame m ρ, fun m ρ _ => Cert.Kernel11Ideal.Gen.frame m ρ, Cert.LowRank.Rate.frame_reference,
    fun m ρ _ => Cert.Kernel12.Gen.frame m ρ, fun m ρ _ => Cert.Kernel12Ideal.Gen.frame m ρ, Cert.Scan.frame_reference,
    trivial, attention, trivial, experts, trivial, feed,
    trivial, Cert.Project.ScanIn.value, trivial, Cert.Project.ScanOut.value, trivial, Cert.Project.Recurrence.value, trivial, Cert.Project.AttendIn.value, trivial, Cert.Project.AttendOut.value,
    trivial, Cert.LowRank.Gate.value, trivial, Cert.LowRank.Decay.value, trivial, Cert.LowRank.Rate.value,
    trivial, Cert.Scan.value⟩

end Cert.Proof

end
